-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateIdeal_x_finite_history_f32 [hPre_x_finite_history_f32 : Cert.Pre_x_finite_history_f32.Facts] (m : (ℓ : Loc Cert.RotateIdeal.nD Cert.RotateIdeal.τ Cert.RotateIdeal.sig) → Buf (Elt Ideal) ℓ) : Prop :=
  ∀ c : Dev Cert.RotateIdeal.nD,
    (Cert.Pre_x_finite_history_f32.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1)) (m ((c.tc : Thread Cert.RotateIdeal.nD Cert.RotateIdeal.τ).loc Cert.RotateIdeal.main_arg2))).1 = (fun _ => 1#1)
    ∧ (Cert.Pre_x_finite_history_f32.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1)) (m ((c.tc : Thread Cert.RotateIdeal.nD Cert.RotateIdeal.τ).loc Cert.RotateIdeal.main_arg2))).2 = (fun _ => 1#1)

def Pre_RotateReferenceIdeal (m : (ℓ : Loc Cert.RotateReferenceIdeal.nD Cert.RotateReferenceIdeal.τ Cert.RotateReferenceIdeal.sig) → Buf (Elt Ideal) ℓ) : Prop :=
  True

def Pre_RotateReferenceIdeal_x_finite_history_f32 [hPre_x_finite_history_f32 : Cert.Pre_x_finite_history_f32.Facts] (m : (ℓ : Loc Cert.RotateReferenceIdeal.nD Cert.RotateReferenceIdeal.τ Cert.RotateReferenceIdeal.sig) → Buf (Elt Ideal) ℓ) : Prop :=
  ∀ c : Dev Cert.RotateReferenceIdeal.nD,
    (Cert.Pre_x_finite_history_f32.fn (F := Ideal) (m ((c.tc : Thread Cert.RotateReferenceIdeal.nD Cert.RotateReferenceIdeal.τ).loc Cert.RotateReferenceIdeal.main_arg0)) (m ((c.tc : Thread Cert.RotateReferenceIdeal.nD Cert.RotateReferenceIdeal.τ).loc Cert.RotateReferenceIdeal.main_arg1)) (m ((c.tc : Thread Cert.RotateReferenceIdeal.nD Cert.RotateReferenceIdeal.τ).loc Cert.RotateReferenceIdeal.main_arg2))).1 = (fun _ => 1#1)
    ∧ (Cert.Pre_x_finite_history_f32.fn (F := Ideal) (m ((c.tc : Thread Cert.RotateReferenceIdeal.nD Cert.RotateReferenceIdeal.τ).loc Cert.RotateReferenceIdeal.main_arg0)) (m ((c.tc : Thread Cert.RotateReferenceIdeal.nD Cert.RotateReferenceIdeal.τ).loc Cert.RotateReferenceIdeal.main_arg1)) (m ((c.tc : Thread Cert.RotateReferenceIdeal.nD Cert.RotateReferenceIdeal.τ).loc Cert.RotateReferenceIdeal.main_arg2))).2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_history_f32 [hPre_history_f32 : Cert.Pre_history_f32.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_history_f32.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4))) = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_history_f32 [hPre_history_f32 : Cert.Pre_history_f32.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_history_f32.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2)) (m ((c.tc : Thread Cert.ProjectReferenceIdeal.nD Cert.ProjectReferenceIdeal.τ).loc Cert.ProjectReferenceIdeal.main_arg3)) (m ((c.tc : Thread Cert.ProjectReferenceIdeal.nD Cert.ProjectReferenceIdeal.τ).loc Cert.ProjectReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1)
      ∧ r.2.mem ((c.tc : Thread Cert.Rotate.nD Cert.Rotate.τ).loc Cert.Rotate.main_arg2) = m ((c.tc : Thread Cert.Rotate.nD Cert.Rotate.τ).loc Cert.Rotate.main_arg2))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
      ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2))
      ∧ r.2.sem = fun _ => 0)

def quiescent_RotateIdeal_pre_x_finite_history_f32 [hRotateIdeal : Cert.RotateIdeal.Facts] [hPre_x_finite_history_f32 : Cert.Pre_x_finite_history_f32.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal_x_finite_history_f32 m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
      ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2))
      ∧ r.2.sem = fun _ => 0)

def quiescent_RotateReferenceIdeal [hRotateReferenceIdeal : Cert.RotateReferenceIdeal.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1)
      ∧ r.2.mem ((c.tc : Thread Cert.RotateReferenceIdeal.nD Cert.RotateReferenceIdeal.τ).loc Cert.RotateReferenceIdeal.main_arg2) = m ((c.tc : Thread Cert.RotateReferenceIdeal.nD Cert.RotateReferenceIdeal.τ).loc Cert.RotateReferenceIdeal.main_arg2))
      ∧ r.2.sem = fun _ => 0)

def quiescent_RotateReferenceIdeal_pre_x_finite_history_f32 [hRotateReferenceIdeal : Cert.RotateReferenceIdeal.Facts] [hPre_x_finite_history_f32 : Cert.Pre_x_finite_history_f32.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal_x_finite_history_f32 m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1)
      ∧ r.2.mem ((c.tc : Thread Cert.RotateReferenceIdeal.nD Cert.RotateReferenceIdeal.τ).loc Cert.RotateReferenceIdeal.main_arg2) = m ((c.tc : Thread Cert.RotateReferenceIdeal.nD Cert.RotateReferenceIdeal.τ).loc Cert.RotateReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectIdeal_pre_history_f32 [hProjectIdeal : Cert.ProjectIdeal.Facts] [hPre_history_f32 : Cert.Pre_history_f32.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_history_f32 m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def quiescent_ProjectReferenceIdeal_pre_history_f32 [hProjectReferenceIdeal : Cert.ProjectReferenceIdeal.Facts] [hPre_history_f32 : Cert.Pre_history_f32.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_history_f32 m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Rotate_RotateIdeal : Prop :=
  True

def algebraic_RotateIdeal_RotateReferenceIdeal_pre_x_finite_history_f32 [hRotateIdeal : Cert.RotateIdeal.Facts] [hRotateReferenceIdeal : Cert.RotateReferenceIdeal.Facts] [hPre_x_finite_history_f32 : Cert.Pre_x_finite_history_f32.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateReferenceIdeal.nD Cert.RotateReferenceIdeal.τ Cert.RotateReferenceIdeal.sig) → Buf (Elt Ideal) ℓ) (g' : Dev Cert.RotateReferenceIdeal.nD → PrngReg), Pre_RotateIdeal_x_finite_history_f32 m →
    (∀ c : Dev Cert.RotateIdeal.nD,
      m' ((c.tc : Thread Cert.RotateReferenceIdeal.nD Cert.RotateReferenceIdeal.τ).loc Cert.RotateReferenceIdeal.main_arg0) = m ((c.tc : Thread Cert.RotateIdeal.nD Cert.RotateIdeal.τ).loc Cert.RotateIdeal.main_arg0)
      ∧ m' ((c.tc : Thread Cert.RotateReferenceIdeal.nD Cert.RotateReferenceIdeal.τ).loc Cert.RotateReferenceIdeal.main_arg1) = m ((c.tc : Thread Cert.RotateIdeal.nD Cert.RotateIdeal.τ).loc Cert.RotateIdeal.main_arg1)
      ∧ m' ((c.tc : Thread Cert.RotateReferenceIdeal.nD Cert.RotateReferenceIdeal.τ).loc Cert.RotateReferenceIdeal.main_arg2) = m ((c.tc : Thread Cert.RotateIdeal.nD Cert.RotateIdeal.τ).loc Cert.RotateIdeal.main_arg2)) →
    ∃ (v0 : (c : Dev Cert.RotateIdeal.nD) → Buf (Elt Ideal) ((c.tc : Thread Cert.RotateIdeal.nD Cert.RotateIdeal.τ).loc Cert.RotateIdeal.main_v1_0)) (v1 : (c : Dev Cert.RotateIdeal.nD) → Buf (Elt Ideal) ((c.tc : Thread Cert.RotateIdeal.nD Cert.RotateIdeal.τ).loc Cert.RotateIdeal.main_v1_1)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v1_0) = v0 c
          ∧ r.2.mem ((c.tc : Thread Cert.RotateIdeal.nD Cert.RotateIdeal.τ).loc Cert.RotateIdeal.main_v1_1) = v1 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
          ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2))
      ∧ θ_run (Cert.RotateReferenceIdeal.defs (F := Ideal)) (onTc (τ := Cert.RotateReferenceIdeal.τ) (Cert.RotateReferenceIdeal.main (F := Ideal))) ⟨m', fun _ => 0, g'⟩ (fun r => ∀ c : Dev Cert.RotateReferenceIdeal.nD,
          r.2.mem ((c.tc : Thread Cert.RotateReferenceIdeal.nD Cert.RotateReferenceIdeal.τ).loc Cert.RotateReferenceIdeal.main_v51) = v0 c
          ∧ r.2.mem ((c.tc : Thread Cert.RotateReferenceIdeal.nD Cert.RotateReferenceIdeal.τ).loc Cert.RotateReferenceIdeal.main_v54) = v1 c
          ∧ r.2.mem ((c.tc : Thread Cert.RotateReferenceIdeal.nD Cert.RotateReferenceIdeal.τ).loc Cert.RotateReferenceIdeal.main_arg0) = m' ((c.tc : Thread Cert.RotateReferenceIdeal.nD Cert.RotateReferenceIdeal.τ).loc Cert.RotateReferenceIdeal.main_arg0)
          ∧ r.2.mem ((c.tc : Thread Cert.RotateReferenceIdeal.nD Cert.RotateReferenceIdeal.τ).loc Cert.RotateReferenceIdeal.main_arg1) = m' ((c.tc : Thread Cert.RotateReferenceIdeal.nD Cert.RotateReferenceIdeal.τ).loc Cert.RotateReferenceIdeal.main_arg1)
          ∧ r.2.mem ((c.tc : Thread Cert.RotateReferenceIdeal.nD Cert.RotateReferenceIdeal.τ).loc Cert.RotateReferenceIdeal.main_arg2) = m' ((c.tc : Thread Cert.RotateReferenceIdeal.nD Cert.RotateReferenceIdeal.τ).loc Cert.RotateReferenceIdeal.main_arg2))

def preserves_Project_ProjectIdeal : Prop :=
  True

def algebraic_ProjectIdeal_ProjectReferenceIdeal_pre_history_f32 [hProjectIdeal : Cert.ProjectIdeal.Facts] [hProjectReferenceIdeal : Cert.ProjectReferenceIdeal.Facts] [hPre_history_f32 : Cert.Pre_history_f32.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_history_f32 m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v1_0)) (v1 : (c : Dev Cert.ProjectIdeal.nD) → Buf (Elt Ideal) ((c.tc : Thread Cert.ProjectIdeal.nD Cert.ProjectIdeal.τ).loc Cert.ProjectIdeal.main_v1_1)) (v2 : (c : Dev Cert.ProjectIdeal.nD) → Buf (Elt Ideal) ((c.tc : Thread Cert.ProjectIdeal.nD Cert.ProjectIdeal.τ).loc Cert.ProjectIdeal.main_v1_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1_0) = v0 c
          ∧ r.2.mem ((c.tc : Thread Cert.ProjectIdeal.nD Cert.ProjectIdeal.τ).loc Cert.ProjectIdeal.main_v1_1) = v1 c
          ∧ r.2.mem ((c.tc : Thread Cert.ProjectIdeal.nD Cert.ProjectIdeal.τ).loc Cert.ProjectIdeal.main_v1_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v22) = v0 c
          ∧ r.2.mem ((c.tc : Thread Cert.ProjectReferenceIdeal.nD Cert.ProjectReferenceIdeal.τ).loc Cert.ProjectReferenceIdeal.main_v15) = v1 c
          ∧ r.2.mem ((c.tc : Thread Cert.ProjectReferenceIdeal.nD Cert.ProjectReferenceIdeal.τ).loc Cert.ProjectReferenceIdeal.main_v19) = v2 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4))

def Claim : Prop :=
  ∃ (hKernel : Cert.Kernel.Facts) (hKernelIdeal : Cert.KernelIdeal.Facts) (hReferenceIdeal : Cert.ReferenceIdeal.Facts) (hRotate : Cert.Rotate.Facts) (hRotateIdeal : Cert.RotateIdeal.Facts) (hRotateReferenceIdeal : Cert.RotateReferenceIdeal.Facts) (hProject : Cert.Project.Facts) (hProjectIdeal : Cert.ProjectIdeal.Facts) (hProjectReferenceIdeal : Cert.ProjectReferenceIdeal.Facts) (hPre_finite : Cert.Pre_finite.Facts) (hPre_x_finite_history_f32 : Cert.Pre_x_finite_history_f32.Facts) (hPre_history_f32 : Cert.Pre_history_f32.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Rotate (hRotate := hRotate)
    ∧ quiescent_RotateIdeal (hRotateIdeal := hRotateIdeal)
    ∧ quiescent_RotateIdeal_pre_x_finite_history_f32 (hRotateIdeal := hRotateIdeal) (hPre_x_finite_history_f32 := hPre_x_finite_history_f32)
    ∧ quiescent_RotateReferenceIdeal (hRotateReferenceIdeal := hRotateReferenceIdeal)
    ∧ quiescent_RotateReferenceIdeal_pre_x_finite_history_f32 (hRotateReferenceIdeal := hRotateReferenceIdeal) (hPre_x_finite_history_f32 := hPre_x_finite_history_f32)
    ∧ quiescent_Project (hProject := hProject)
    ∧ quiescent_ProjectIdeal (hProjectIdeal := hProjectIdeal)
    ∧ quiescent_ProjectIdeal_pre_history_f32 (hProjectIdeal := hProjectIdeal) (hPre_history_f32 := hPre_history_f32)
    ∧ quiescent_ProjectReferenceIdeal (hProjectReferenceIdeal := hProjectReferenceIdeal)
    ∧ quiescent_ProjectReferenceIdeal_pre_history_f32 (hProjectReferenceIdeal := hProjectReferenceIdeal) (hPre_history_f32 := hPre_history_f32)
    ∧ preserves_Kernel_KernelIdeal
    ∧ algebraic_KernelIdeal_ReferenceIdeal_pre_finite (hKernelIdeal := hKernelIdeal) (hReferenceIdeal := hReferenceIdeal) (hPre_finite := hPre_finite)
    ∧ preserves_Rotate_RotateIdeal
    ∧ algebraic_RotateIdeal_RotateReferenceIdeal_pre_x_finite_history_f32 (hRotateIdeal := hRotateIdeal) (hRotateReferenceIdeal := hRotateReferenceIdeal) (hPre_x_finite_history_f32 := hPre_x_finite_history_f32)
    ∧ preserves_Project_ProjectIdeal
    ∧ algebraic_ProjectIdeal_ProjectReferenceIdeal_pre_history_f32 (hProjectIdeal := hProjectIdeal) (hProjectReferenceIdeal := hProjectReferenceIdeal) (hPre_history_f32 := hPre_history_f32)
-- ==== Pre_finite.lean ====
abbrev S2x128x12288 : Shape := ⟨3, ![2, 128, 12288]⟩
abbrev S16 : Shape := ⟨1, ![16]⟩
abbrev S12x12 : Shape := ⟨2, ![12, 12]⟩
abbrev S12288x2880 : Shape := ⟨2, ![12288, 2880]⟩
abbrev S2880 : Shape := ⟨1, ![2880]⟩
abbrev S_ : Shape := ⟨0, ![]⟩

class Facts : Prop where
  bitsLt_bf16_f32 : FTy.bits .bf16 < FTy.bits .f32
  bcast_S_S2x128x12288 : S_.BroadcastsInDim S2x128x12288 (![] : Fin 0 → Fin S2x128x12288.rank)
  bcast_S_S16 : S_.BroadcastsInDim S16 (![] : Fin 0 → Fin S16.rank)

variable [Facts]

def fn {F : FTy → Type} [FloatOps F] (main_arg0 : FVec F S2x128x12288 .bf16) (main_arg1 : FVec F S16 .f32) (main_arg2 : FVec F S12x12 .f32) (main_arg3 : FVec F S12288x2880 .fp8e4m3) (main_arg4 : FVec F S2880 .f32) : IVec S2x128x12288 1 × IVec S16 1 :=
  let main_v0 : FVec F S2x128x12288 .f32 := (extf .f32 · bitsLt_bf16_f32) main_arg0
  let main_v1 : FVec F S2x128x12288 .f32 := Host.absf main_v0
  let main_cst : FVec F S_ .f32 := constant S_ .f32 0x7F7FFFFF#32
  let main_v2 : FVec F S2x128x12288 .f32 := broadcastInDim S2x128x12288 ![] bcast_S_S2x128x12288 main_cst
  let main_v3 : IVec S2x128x12288 1 := cmpf .ole main_v1 main_v2
  let main_v4 : FVec F S16 .f32 := Host.absf main_arg1
  let main_cst_0 : FVec F S_ .f32 := constant S_ .f32 0x7F7FFFFF#32
  let main_v5 : FVec F S16 .f32 := broadcastInDim S16 ![] bcast_S_S16 main_cst_0
  let main_v6 : IVec S16 1 := cmpf .ole main_v4 main_v5
  (main_v3, main_v6)
-- ==== Pre_history_f32.lean ====
abbrev S256x12288 : Shape := ⟨2, ![256, 12288]⟩
abbrev S16 : Shape := ⟨1, ![16]⟩
abbrev S8x128 : Shape := ⟨2, ![8, 128]⟩
abbrev S12288x2880 : Shape := ⟨2, ![12288, 2880]⟩
abbrev S2880 : Shape := ⟨1, ![2880]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S256x12288 .fp8e4m3) (main_arg1 : FVec F S16 .f32) (main_arg2 : FVec F S8x128 .f32) (main_arg3 : FVec F S12288x2880 .fp8e4m3) (main_arg4 : FVec F S2880 .f32) : IVec S16 1 :=
  let main_v0 : FVec F S16 .f32 := Host.absf main_arg1
  let main_cst : FVec F S_ .f32 := constant S_ .f32 0x7F7FFFFF#32
  let main_v1 : FVec F S16 .f32 := broadcastInDim S16 ![] bcast_S_S16 main_cst
  let main_v2 : IVec S16 1 := cmpf .ole main_v0 main_v1
  main_v2
-- ==== Pre_x_finite_history_f32.lean ====
abbrev S2x128x12288 : Shape := ⟨3, ![2, 128, 12288]⟩
abbrev S16 : Shape := ⟨1, ![16]⟩
abbrev S12x12 : Shape := ⟨2, ![12, 12]⟩
abbrev S_ : Shape := ⟨0, ![]⟩

class Facts : Prop where
  bitsLt_bf16_f32 : FTy.bits .bf16 < FTy.bits .f32
  bcast_S_S2x128x12288 : S_.BroadcastsInDim S2x128x12288 (![] : Fin 0 → Fin S2x128x12288.rank)
  bcast_S_S16 : S_.BroadcastsInDim S16 (![] : Fin 0 → Fin S16.rank)

variable [Facts]

def fn {F : FTy → Type} [FloatOps F] (main_arg0 : FVec F S2x128x12288 .bf16) (main_arg1 : FVec F S16 .f32) (main_arg2 : FVec F S12x12 .f32) : IVec S2x128x12288 1 × IVec S16 1 :=
  let main_v0 : FVec F S2x128x12288 .f32 := (extf .f32 · bitsLt_bf16_f32) main_arg0
  let main_v1 : FVec F S2x128x12288 .f32 := Host.absf main_v0
  let main_cst : FVec F S_ .f32 := constant S_ .f32 0x7F7FFFFF#32
  let main_v2 : FVec F S2x128x12288 .f32 := broadcastInDim S2x128x12288 ![] bcast_S_S2x128x12288 main_cst
  let main_v3 : IVec S2x128x12288 1 := cmpf .ole main_v1 main_v2
  let main_v4 : FVec F S16 .f32 := Host.absf main_arg1
  let main_cst_0 : FVec F S_ .f32 := constant S_ .f32 0x7F7FFFFF#32
  let main_v5 : FVec F S16 .f32 := broadcastInDim S16 ![] bcast_S_S16 main_cst_0
  let main_v6 : IVec S16 1 := cmpf .ole main_v4 main_v5
  (main_v3, main_v6)
-- ==== Kernel.lean ====
abbrev S2x128x12288 : Shape := ⟨3, ![2, 128, 12288]⟩
abbrev S16 : Shape := ⟨1, ![16]⟩
abbrev S12x12 : Shape := ⟨2, ![12, 12]⟩
abbrev S12288x2880 : Shape := ⟨2, ![12288, 2880]⟩
abbrev S2880 : Shape := ⟨1, ![2880]⟩
abbrev S256x12288 : Shape := ⟨2, ![256, 12288]⟩
abbrev S8x128 : Shape := ⟨2, ![8, 128]⟩
abbrev S32x12288 : Shape := ⟨2, ![32, 12288]⟩
abbrev S12x32x1024 : Shape := ⟨3, ![12, 32, 1024]⟩
abbrev S256x256 : Shape := ⟨2, ![256, 256]⟩
abbrev S1 : Shape := ⟨1, ![1]⟩
abbrev S32x256 : Shape := ⟨2, ![32, 256]⟩
abbrev S1x32x256 : Shape := ⟨3, ![1, 32, 256]⟩
abbrev S1x32x128 : Shape := ⟨3, ![1, 32, 128]⟩
abbrev S32x128 : Shape := ⟨2, ![32, 128]⟩
abbrev S1x1 : Shape := ⟨2, ![1, 1]⟩
abbrev S1x2880 : Shape := ⟨2, ![1, 2880]⟩
abbrev S256x2880 : Shape := ⟨2, ![256, 2880]⟩
abbrev S256x1024 : Shape := ⟨2, ![256, 1024]⟩
abbrev S1024x2880 : Shape := ⟨2, ![1024, 2880]⟩
abbrev S1x8x128 : Shape := ⟨3, ![1, 8, 128]⟩
abbrev S1x1x1 : Shape := ⟨3, ![1, 1, 1]⟩

abbrev nBuf : Space → Nat
  | .hbm => 12
  | .vmem => 14
  | .smem => 5
  | _ => 0

abbrev bufTy : (tb : Table) → Fin (tcTables nBuf tb) → BufTy
  | .hbm, ⟨0, _⟩ => ⟨S2x128x12288, .bf16⟩
  | .hbm, ⟨1, _⟩ => ⟨S16, .f32⟩
  | .hbm, ⟨2, _⟩ => ⟨S12x12, .f32⟩
  | .hbm, ⟨3, _⟩ => ⟨S12288x2880, .fp8e4m3⟩
  | .hbm, ⟨4, _⟩ => ⟨S2880, .f32⟩
  | .hbm, ⟨5, _⟩ => ⟨S256x12288, .bf16⟩
  | .hbm, ⟨6, _⟩ => ⟨S256x12288, .fp8e4m3⟩
  | .hbm, ⟨7, _⟩ => ⟨S8x128, .f32⟩
  | .hbm, ⟨8, _⟩ => ⟨S1x2880, .f32⟩
  | .hbm, ⟨9, _⟩ => ⟨S256x2880, .bf16⟩
  | .hbm, ⟨10, _⟩ => ⟨S1, .f32⟩
  | .hbm, ⟨11, _⟩ => ⟨S16, .f32⟩
  | .local _ .vmem, ⟨0, _⟩ => ⟨S32x12288, .bf16⟩
  | .local _ .vmem, ⟨1, _⟩ => ⟨S32x12288, .bf16⟩
  | .local _ .vmem, ⟨2, _⟩ => ⟨S32x12288, .fp8e4m3⟩
  | .local _ .vmem, ⟨3, _⟩ => ⟨S32x12288, .fp8e4m3⟩
  | .local _ .vmem, ⟨4, _⟩ => ⟨S8x128, .f32⟩
  | .local _ .vmem, ⟨5, _⟩ => ⟨S12x32x1024, .f32⟩
  | .local _ .vmem, ⟨6, _⟩ => ⟨S256x1024, .fp8e4m3⟩
  | .local _ .vmem, ⟨7, _⟩ => ⟨S256x1024, .fp8e4m3⟩
  | .local _ .vmem, ⟨8, _⟩ => ⟨S1024x2880, .fp8e4m3⟩
  | .local _ .vmem, ⟨9, _⟩ => ⟨S1024x2880, .fp8e4m3⟩
  | .local _ .vmem, ⟨10, _⟩ => ⟨S1x2880, .f32⟩
  | .local _ .vmem, ⟨11, _⟩ => ⟨S8x128, .f32⟩
  | .local _ .vmem, ⟨12, _⟩ => ⟨S256x2880, .bf16⟩
  | .local _ .vmem, ⟨13, _⟩ => ⟨S256x2880, .f32⟩
  | .local _ .smem, ⟨0, _⟩ => ⟨S16, .f32⟩
  | .local _ .smem, ⟨1, _⟩ => ⟨S12x12, .f32⟩
  | .local _ .smem, ⟨2, _⟩ => ⟨S16, .f32⟩
  | .local _ .smem, ⟨3, _⟩ => ⟨S1, .f32⟩
  | .local _ .smem, ⟨4, _⟩ => ⟨S16, .f32⟩
  | _, _ => ⟨S2x128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc0_stg1_0 : Ref sig .tc := ⟨.smem, 0, rfl⟩
abbrev cc0_stg2_0 : Ref sig .tc := ⟨.smem, 1, rfl⟩
abbrev cc1_stg2_0 : Ref sig .tc := ⟨.smem, 2, rfl⟩
abbrev cc1_stg6_0 : Ref sig .tc := ⟨.smem, 3, rfl⟩
abbrev cc1_stg7_0 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_6455 : BitVec 32 := 0#32
  let v9433 : BitVec 1 := Scalar.cmpi .eq arg0 c0_i32_6455
  let v9434 : BitVec 32 := Scalar.extui v9433
  let c0_i32_6456 : BitVec 32 := 0#32
  let v9435 : BitVec 1 := Scalar.cmpi .ne v9434 c0_i32_6456
  v9435

def k0_cond2 (i : grid0.Coords) : BitVec 1 :=
  let arg0 : BitVec 32 := BitVec.ofNat 32 (i 0).val
  let c0_i32_6457 : BitVec 32 := 0#32
  let v9436 : BitVec 1 := Scalar.cmpi .ne arg0 c0_i32_6457
  let v9437 : BitVec 32 := Scalar.extui v9436
  let c0_i32_6458 : BitVec 32 := 0#32
  let v9438 : BitVec 1 := Scalar.cmpi .ne v9437 c0_i32_6458
  v9438

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S12x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x12288 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![12], ![false]⟩

def k1_cond2 (i : grid1.Coords) : BitVec 1 :=
  let arg0 : BitVec 32 := BitVec.ofNat 32 (i 0).val
  let c11_i32 : BitVec 32 := 11#32
  let v12 : BitVec 1 := Scalar.cmpi .eq arg0 c11_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S256x1024 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2880 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2880 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2880 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .smem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S2x128x12288 : Shape := ⟨3, ![2, 128, 12288]⟩
abbrev S16 : Shape := ⟨1, ![16]⟩
abbrev S12x12 : Shape := ⟨2, ![12, 12]⟩
abbrev S12288x2880 : Shape := ⟨2, ![12288, 2880]⟩
abbrev S2880 : Shape := ⟨1, ![2880]⟩
abbrev S256x12x32x32 : Shape := ⟨4, ![256, 12, 32, 32]⟩
abbrev S32x32 : Shape := ⟨2, ![32, 32]⟩
abbrev S_ : Shape := ⟨0, ![]⟩
abbrev S32x256x12x32 : Shape := ⟨4, ![32, 256, 12, 32]⟩
abbrev S12x256x32x32 : Shape := ⟨4, ![12, 256, 32, 32]⟩
abbrev S256x12288 : Shape := ⟨2, ![256, 12288]⟩
abbrev S254 : Shape := ⟨1, ![254]⟩
abbrev S1 : Shape := ⟨1, ![1]⟩
abbrev S15 : Shape := ⟨1, ![15]⟩
abbrev S1x1 : Shape := ⟨2, ![1, 1]⟩
abbrev S1x2880 : Shape := ⟨2, ![1, 2880]⟩
abbrev S256x2880 : Shape := ⟨2, ![256, 2880]⟩

abbrev nBuf : Space → Nat
  | .hbm => 94
  | .vmem => 5
  | .smem => 0
  | _ => 0

abbrev bufTy : (tb : Table) → Fin (tcTables nBuf tb) → BufTy
  | .hbm, ⟨0, _⟩ => ⟨S2x128x12288, .bf16⟩
  | .hbm, ⟨1, _⟩ => ⟨S16, .f32⟩
  | .hbm, ⟨2, _⟩ => ⟨S12x12, .f32⟩
  | .hbm, ⟨3, _⟩ => ⟨S12288x2880, .fp8e4m3⟩
  | .hbm, ⟨4, _⟩ => ⟨S2880, .f32⟩
  | .hbm, ⟨5, _⟩ => ⟨S256x12x32x32, .bf16⟩
  | .hbm, ⟨6, _⟩ => ⟨S32x32, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S_, .i32⟩
  | .hbm, ⟨17, _⟩ => ⟨S32x32, .i32⟩
  | .hbm, ⟨18, _⟩ => ⟨S32x32, .i32⟩
  | .hbm, ⟨19, _⟩ => ⟨S32x32, .f32⟩
  | .hbm, ⟨20, _⟩ => ⟨S32x32, .bf16⟩
  | .hbm, ⟨21, _⟩ => ⟨S256x12x32x32, .f32⟩
  | .hbm, ⟨22, _⟩ => ⟨S32x32, .i32⟩
  | .hbm, ⟨23, _⟩ => ⟨S32x32, .i32⟩
  | .hbm, ⟨24, _⟩ => ⟨S32x32, .i32⟩
  | .hbm, ⟨25, _⟩ => ⟨S32x32, .i32⟩
  | .hbm, ⟨26, _⟩ => ⟨S_, .i32⟩
  | .hbm, ⟨27, _⟩ => ⟨S32x32, .i32⟩
  | .hbm, ⟨28, _⟩ => ⟨S32x32, .i32⟩
  | .hbm, ⟨29, _⟩ => ⟨S_, .i32⟩
  | .hbm, ⟨30, _⟩ => ⟨S32x32, .i32⟩
  | .hbm, ⟨31, _⟩ => ⟨S32x32, .i32⟩
  | .hbm, ⟨32, _⟩ => ⟨S_, .i32⟩
  | .hbm, ⟨33, _⟩ => ⟨S32x32, .i32⟩
  | .hbm, ⟨34, _⟩ => ⟨S32x32, .i32⟩
  | .hbm, ⟨35, _⟩ => ⟨S32x32, .f32⟩
  | .hbm, ⟨36, _⟩ => ⟨S32x256x12x32, .f32⟩
  | .hbm, ⟨37, _⟩ => ⟨S256x12x32x32, .f32⟩
  | .hbm, ⟨38, _⟩ => ⟨S12x256x32x32, .f32⟩
  | .hbm, ⟨39, _⟩ => ⟨S256x12x32x32, .f32⟩
  | .hbm, ⟨40, _⟩ => ⟨S_, .f32⟩
  | .hbm, ⟨41, _⟩ => ⟨S256x12x32x32, .f32⟩
  | .hbm, ⟨42, _⟩ => ⟨S256x12x32x32, .f32⟩
  | .hbm, ⟨43, _⟩ => ⟨S256x12288, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S254, .f32⟩
  | .hbm, ⟨51, _⟩ => ⟨S254, .f32⟩
  | .hbm, ⟨52, _⟩ => ⟨S_, .f32⟩
  | .hbm, ⟨53, _⟩ => ⟨S254, .f32⟩
  | .hbm, ⟨54, _⟩ => ⟨S254, .f32⟩
  | .hbm, ⟨55, _⟩ => ⟨S254, .f32⟩
  | .hbm, ⟨56, _⟩ => ⟨S254, .f32⟩
  | .hbm, ⟨57, _⟩ => ⟨S254, .i1⟩
  | .hbm, ⟨58, _⟩ => ⟨S_, .f32⟩
  | .hbm, ⟨59, _⟩ => ⟨S_, .f32⟩
  | .hbm, ⟨60, _⟩ => ⟨S254, .f32⟩
  | .hbm, ⟨61, _⟩ => ⟨S254, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S_, .f32⟩
  | .hbm, ⟨74, _⟩ => ⟨S256x12288, .f32⟩
  | .hbm, ⟨75, _⟩ => ⟨S256x12288, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S256x12288, .f32⟩
  | .hbm, ⟨80, _⟩ => ⟨S256x12288, .f32⟩
  | .hbm, ⟨81, _⟩ => ⟨S_, .f32⟩
  | .hbm, ⟨82, _⟩ => ⟨S256x12288, .f32⟩
  | .hbm, ⟨83, _⟩ => ⟨S256x12288, .f32⟩
  | .hbm, ⟨84, _⟩ => ⟨S256x12288, .fp8e4m3⟩
  | .hbm, ⟨85, _⟩ => ⟨S15, .f32⟩
  | .hbm, ⟨86, _⟩ => ⟨S256x12288, .f32⟩
  | .hbm, ⟨87, _⟩ => ⟨S_, .f32⟩
  | .hbm, ⟨88, _⟩ => ⟨S_, .f32⟩
  | .hbm, ⟨89, _⟩ => ⟨S1, .f32⟩
  | .hbm, ⟨90, _⟩ => ⟨S16, .f32⟩
  | .hbm, ⟨91, _⟩ => ⟨S1x1, .f32⟩
  | .hbm, ⟨92, _⟩ => ⟨S1x2880, .f32⟩
  | .hbm, ⟨93, _⟩ => ⟨S256x2880, .bf16⟩
  | .local _ .vmem, ⟨0, _⟩ => ⟨S256x12288, .fp8e4m3⟩
  | .local _ .vmem, ⟨1, _⟩ => ⟨S12288x2880, .fp8e4m3⟩
  | .local _ .vmem, ⟨2, _⟩ => ⟨S1x1, .f32⟩
  | .local _ .vmem, ⟨3, _⟩ => ⟨S1x2880, .f32⟩
  | .local _ .vmem, ⟨4, _⟩ => ⟨S256x2880, .bf16⟩
  | _, _ => ⟨S2x128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_call0_v0 : Ref sig .tc := ⟨.hbm, 59, rfl⟩
abbrev main_call0_v1 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_cst_13 : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_cst_16 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_17 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2880 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Rotate.lean ====
abbrev S2x128x12288 : Shape := ⟨3, ![2, 128, 12288]⟩
abbrev S16 : Shape := ⟨1, ![16]⟩
abbrev S12x12 : Shape := ⟨2, ![12, 12]⟩
abbrev S256x12288 : Shape := ⟨2, ![256, 12288]⟩
abbrev S8x128 : Shape := ⟨2, ![8, 128]⟩
abbrev S32x12288 : Shape := ⟨2, ![32, 12288]⟩
abbrev S12x32x1024 : Shape := ⟨3, ![12, 32, 1024]⟩
abbrev S256x256 : Shape := ⟨2, ![256, 256]⟩
abbrev S1 : Shape := ⟨1, ![1]⟩
abbrev S32x256 : Shape := ⟨2, ![32, 256]⟩
abbrev S1x32x256 : Shape := ⟨3, ![1, 32, 256]⟩
abbrev S1x32x128 : Shape := ⟨3, ![1, 32, 128]⟩
abbrev S32x128 : Shape := ⟨2, ![32, 128]⟩
abbrev S1x1 : Shape := ⟨2, ![1, 1]⟩

abbrev nBuf : Space → Nat
  | .hbm => 6
  | .vmem => 6
  | .smem => 2
  | _ => 0

abbrev bufTy : (tb : Table) → Fin (tcTables nBuf tb) → BufTy
  | .hbm, ⟨0, _⟩ => ⟨S2x128x12288, .bf16⟩
  | .hbm, ⟨1, _⟩ => ⟨S16, .f32⟩
  | .hbm, ⟨2, _⟩ => ⟨S12x12, .f32⟩
  | .hbm, ⟨3, _⟩ => ⟨S256x12288, .bf16⟩
  | .hbm, ⟨4, _⟩ => ⟨S256x12288, .fp8e4m3⟩
  | .hbm, ⟨5, _⟩ => ⟨S8x128, .f32⟩
  | .local _ .vmem, ⟨0, _⟩ => ⟨S32x12288, .bf16⟩
  | .local _ .vmem, ⟨1, _⟩ => ⟨S32x12288, .bf16⟩
  | .local _ .vmem, ⟨2, _⟩ => ⟨S32x12288, .fp8e4m3⟩
  | .local _ .vmem, ⟨3, _⟩ => ⟨S32x12288, .fp8e4m3⟩
  | .local _ .vmem, ⟨4, _⟩ => ⟨S8x128, .f32⟩
  | .local _ .vmem, ⟨5, _⟩ => ⟨S12x32x1024, .f32⟩
  | .local _ .smem, ⟨0, _⟩ => ⟨S16, .f32⟩
  | .local _ .smem, ⟨1, _⟩ => ⟨S12x12, .f32⟩
  | _, _ => ⟨S2x128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_scratch0 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_6455 : BitVec 32 := 0#32
  let v9433 : BitVec 1 := Scalar.cmpi .eq arg0 c0_i32_6455
  let v9434 : BitVec 32 := Scalar.extui v9433
  let c0_i32_6456 : BitVec 32 := 0#32
  let v9435 : BitVec 1 := Scalar.cmpi .ne v9434 c0_i32_6456
  v9435

def k0_cond2 (i : grid0.Coords) : BitVec 1 :=
  let arg0 : BitVec 32 := BitVec.ofNat 32 (i 0).val
  let c0_i32_6457 : BitVec 32 := 0#32
  let v9436 : BitVec 1 := Scalar.cmpi .ne arg0 c0_i32_6457
  let v9437 : BitVec 32 := Scalar.extui v9436
  let c0_i32_6458 : BitVec 32 := 0#32
  let v9438 : BitVec 1 := Scalar.cmpi .ne v9437 c0_i32_6458
  v9438

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S12x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x12288 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RotateReferenceIdeal.lean ====
abbrev S2x128x12288 : Shape := ⟨3, ![2, 128, 12288]⟩
abbrev S16 : Shape := ⟨1, ![16]⟩
abbrev S12x12 : Shape := ⟨2, ![12, 12]⟩
abbrev S256x12x32x32 : Shape := ⟨4, ![256, 12, 32, 32]⟩
abbrev S32x32 : Shape := ⟨2, ![32, 32]⟩
abbrev S_ : Shape := ⟨0, ![]⟩
abbrev S32x256x12x32 : Shape := ⟨4, ![32, 256, 12, 32]⟩
abbrev S12x256x32x32 : Shape := ⟨4, ![12, 256, 32, 32]⟩
abbrev S256x12288 : Shape := ⟨2, ![256, 12288]⟩
abbrev S254 : Shape := ⟨1, ![254]⟩
abbrev S32x8x96x128 : Shape := ⟨4, ![32, 8, 96, 128]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S2x128x12288, .bf16⟩
  | .hbm, ⟨1, _⟩ => ⟨S16, .f32⟩
  | .hbm, ⟨2, _⟩ => ⟨S12x12, .f32⟩
  | .hbm, ⟨3, _⟩ => ⟨S256x12x32x32, .bf16⟩
  | .hbm, ⟨4, _⟩ => ⟨S32x32, .i32⟩
  | .hbm, ⟨5, _⟩ => ⟨S32x32, .i32⟩
  | .hbm, ⟨6, _⟩ => ⟨S32x32, .i32⟩
  | .hbm, ⟨7, _⟩ => ⟨S32x32, .i32⟩
  | .hbm, ⟨8, _⟩ => ⟨S_, .i32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i32⟩
  | .hbm, ⟨17, _⟩ => ⟨S32x32, .f32⟩
  | .hbm, ⟨18, _⟩ => ⟨S32x32, .bf16⟩
  | .hbm, ⟨19, _⟩ => ⟨S256x12x32x32, .f32⟩
  | .hbm, ⟨20, _⟩ => ⟨S32x32, .i32⟩
  | .hbm, ⟨21, _⟩ => ⟨S32x32, .i32⟩
  | .hbm, ⟨22, _⟩ => ⟨S32x32, .i32⟩
  | .hbm, ⟨23, _⟩ => ⟨S32x32, .i32⟩
  | .hbm, ⟨24, _⟩ => ⟨S_, .i32⟩
  | .hbm, ⟨25, _⟩ => ⟨S32x32, .i32⟩
  | .hbm, ⟨26, _⟩ => ⟨S32x32, .i32⟩
  | .hbm, ⟨27, _⟩ => ⟨S_, .i32⟩
  | .hbm, ⟨28, _⟩ => ⟨S32x32, .i32⟩
  | .hbm, ⟨29, _⟩ => ⟨S32x32, .i32⟩
  | .hbm, ⟨30, _⟩ => ⟨S_, .i32⟩
  | .hbm, ⟨31, _⟩ => ⟨S32x32, .i32⟩
  | .hbm, ⟨32, _⟩ => ⟨S32x32, .i32⟩
  | .hbm, ⟨33, _⟩ => ⟨S32x32, .f32⟩
  | .hbm, ⟨34, _⟩ => ⟨S32x256x12x32, .f32⟩
  | .hbm, ⟨35, _⟩ => ⟨S256x12x32x32, .f32⟩
  | .hbm, ⟨36, _⟩ => ⟨S12x256x32x32, .f32⟩
  | .hbm, ⟨37, _⟩ => ⟨S256x12x32x32, .f32⟩
  | .hbm, ⟨38, _⟩ => ⟨S_, .f32⟩
  | .hbm, ⟨39, _⟩ => ⟨S256x12x32x32, .f32⟩
  | .hbm, ⟨40, _⟩ => ⟨S256x12x32x32, .f32⟩
  | .hbm, ⟨41, _⟩ => ⟨S256x12288, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S254, .f32⟩
  | .hbm, ⟨49, _⟩ => ⟨S254, .f32⟩
  | .hbm, ⟨50, _⟩ => ⟨S_, .f32⟩
  | .hbm, ⟨51, _⟩ => ⟨S254, .f32⟩
  | .hbm, ⟨52, _⟩ => ⟨S254, .f32⟩
  | .hbm, ⟨53, _⟩ => ⟨S254, .f32⟩
  | .hbm, ⟨54, _⟩ => ⟨S254, .f32⟩
  | .hbm, ⟨55, _⟩ => ⟨S254, .i1⟩
  | .hbm, ⟨56, _⟩ => ⟨S_, .f32⟩
  | .hbm, ⟨57, _⟩ => ⟨S_, .f32⟩
  | .hbm, ⟨58, _⟩ => ⟨S254, .f32⟩
  | .hbm, ⟨59, _⟩ => ⟨S254, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S256x12288, .f32⟩
  | .hbm, ⟨72, _⟩ => ⟨S256x12288, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S256x12288, .f32⟩
  | .hbm, ⟨77, _⟩ => ⟨S256x12288, .f32⟩
  | .hbm, ⟨78, _⟩ => ⟨S_, .f32⟩
  | .hbm, ⟨79, _⟩ => ⟨S256x12288, .f32⟩
  | .hbm, ⟨80, _⟩ => ⟨S256x12288, .f32⟩
  | .hbm, ⟨81, _⟩ => ⟨S256x12288, .fp8e4m3⟩
  | .hbm, ⟨82, _⟩ => ⟨S256x12288, .f32⟩
  | .hbm, ⟨83, _⟩ => ⟨S32x8x96x128, .f32⟩
  | .hbm, ⟨84, _⟩ => ⟨S_, .f32⟩
  | .hbm, ⟨85, _⟩ => ⟨S8x128, .f32⟩
  | _, _ => ⟨S2x128x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_call0_v0 : Ref sig .tc := ⟨.hbm, 57, rfl⟩
abbrev main_call0_v1 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_cst_13 : Ref sig .tc := ⟨.hbm, 66, rfl⟩
abbrev main_call1_v0 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_cst_16 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_17 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== Project.lean ====
abbrev S256x12288 : Shape := ⟨2, ![256, 12288]⟩
abbrev S16 : Shape := ⟨1, ![16]⟩
abbrev S8x128 : Shape := ⟨2, ![8, 128]⟩
abbrev S12288x2880 : Shape := ⟨2, ![12288, 2880]⟩
abbrev S2880 : Shape := ⟨1, ![2880]⟩
abbrev S1x2880 : Shape := ⟨2, ![1, 2880]⟩
abbrev S256x2880 : Shape := ⟨2, ![256, 2880]⟩
abbrev S1 : Shape := ⟨1, ![1]⟩
abbrev S256x1024 : Shape := ⟨2, ![256, 1024]⟩
abbrev S1024x2880 : Shape := ⟨2, ![1024, 2880]⟩
abbrev S1x8x128 : Shape := ⟨3, ![1, 8, 128]⟩
abbrev S1x1x1 : Shape := ⟨3, ![1, 1, 1]⟩

abbrev nBuf : Space → Nat
  | .hbm => 9
  | .vmem => 8
  | .smem => 3
  | _ => 0

abbrev bufTy : (tb : Table) → Fin (tcTables nBuf tb) → BufTy
  | .hbm, ⟨0, _⟩ => ⟨S256x12288, .fp8e4m3⟩
  | .hbm, ⟨1, _⟩ => ⟨S16, .f32⟩
  | .hbm, ⟨2, _⟩ => ⟨S8x128, .f32⟩
  | .hbm, ⟨3, _⟩ => ⟨S12288x2880, .fp8e4m3⟩
  | .hbm, ⟨4, _⟩ => ⟨S2880, .f32⟩
  | .hbm, ⟨5, _⟩ => ⟨S1x2880, .f32⟩
  | .hbm, ⟨6, _⟩ => ⟨S256x2880, .bf16⟩
  | .hbm, ⟨7, _⟩ => ⟨S1, .f32⟩
  | .hbm, ⟨8, _⟩ => ⟨S16, .f32⟩
  | .local _ .vmem, ⟨0, _⟩ => ⟨S256x1024, .fp8e4m3⟩
  | .local _ .vmem, ⟨1, _⟩ => ⟨S256x1024, .fp8e4m3⟩
  | .local _ .vmem, ⟨2, _⟩ => ⟨S1024x2880, .fp8e4m3⟩
  | .local _ .vmem, ⟨3, _⟩ => ⟨S1024x2880, .fp8e4m3⟩
  | .local _ .vmem, ⟨4, _⟩ => ⟨S1x2880, .f32⟩
  | .local _ .vmem, ⟨5, _⟩ => ⟨S8x128, .f32⟩
  | .local _ .vmem, ⟨6, _⟩ => ⟨S256x2880, .bf16⟩
  | .local _ .vmem, ⟨7, _⟩ => ⟨S256x2880, .f32⟩
  | .local _ .smem, ⟨0, _⟩ => ⟨S16, .f32⟩
  | .local _ .smem, ⟨1, _⟩ => ⟨S1, .f32⟩
  | .local _ .smem, ⟨2, _⟩ => ⟨S16, .f32⟩
  | _, _ => ⟨S256x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg2_0 : Ref sig .tc := ⟨.smem, 0, rfl⟩
abbrev cc0_stg6_0 : Ref sig .tc := ⟨.smem, 1, rfl⟩
abbrev cc0_stg7_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v11 : BitVec 1 := Scalar.cmpi .eq arg0 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2880 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ProjectReferenceIdeal.lean ====
abbrev S256x12288 : Shape := ⟨2, ![256, 12288]⟩
abbrev S16 : Shape := ⟨1, ![16]⟩
abbrev S8x128 : Shape := ⟨2, ![8, 128]⟩
abbrev S12288x2880 : Shape := ⟨2, ![12288, 2880]⟩
abbrev S2880 : Shape := ⟨1, ![2880]⟩
abbrev S_ : Shape := ⟨0, ![]⟩
abbrev S254 : Shape := ⟨1, ![254]⟩
abbrev S1 : Shape := ⟨1, ![1]⟩
abbrev S15 : Shape := ⟨1, ![15]⟩
abbrev S1x1 : Shape := ⟨2, ![1, 1]⟩
abbrev S1x2880 : Shape := ⟨2, ![1, 2880]⟩
abbrev S256x2880 : Shape := ⟨2, ![256, 2880]⟩

abbrev nBuf : Space → Nat
  | .hbm => 41
  | .vmem => 5
  | .smem => 0
  | _ => 0

abbrev bufTy : (tb : Table) → Fin (tcTables nBuf tb) → BufTy
  | .hbm, ⟨0, _⟩ => ⟨S256x12288, .fp8e4m3⟩
  | .hbm, ⟨1, _⟩ => ⟨S16, .f32⟩
  | .hbm, ⟨2, _⟩ => ⟨S8x128, .f32⟩
  | .hbm, ⟨3, _⟩ => ⟨S12288x2880, .fp8e4m3⟩
  | .hbm, ⟨4, _⟩ => ⟨S2880, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S254, .f32⟩
  | .hbm, ⟨12, _⟩ => ⟨S254, .f32⟩
  | .hbm, ⟨13, _⟩ => ⟨S_, .f32⟩
  | .hbm, ⟨14, _⟩ => ⟨S254, .f32⟩
  | .hbm, ⟨15, _⟩ => ⟨S254, .f32⟩
  | .hbm, ⟨16, _⟩ => ⟨S254, .f32⟩
  | .hbm, ⟨17, _⟩ => ⟨S254, .f32⟩
  | .hbm, ⟨18, _⟩ => ⟨S254, .i1⟩
  | .hbm, ⟨19, _⟩ => ⟨S_, .f32⟩
  | .hbm, ⟨20, _⟩ => ⟨S_, .f32⟩
  | .hbm, ⟨21, _⟩ => ⟨S254, .f32⟩
  | .hbm, ⟨22, _⟩ => ⟨S254, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S15, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S16, .f32⟩
  | .hbm, ⟨38, _⟩ => ⟨S1x1, .f32⟩
  | .hbm, ⟨39, _⟩ => ⟨S1x2880, .f32⟩
  | .hbm, ⟨40, _⟩ => ⟨S256x2880, .bf16⟩
  | .local _ .vmem, ⟨0, _⟩ => ⟨S256x12288, .fp8e4m3⟩
  | .local _ .vmem, ⟨1, _⟩ => ⟨S12288x2880, .fp8e4m3⟩
  | .local _ .vmem, ⟨2, _⟩ => ⟨S1x1, .f32⟩
  | .local _ .vmem, ⟨3, _⟩ => ⟨S1x2880, .f32⟩
  | .local _ .vmem, ⟨4, _⟩ => ⟨S256x2880, .bf16⟩
  | _, _ => ⟨S256x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_cst_7 : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_8 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2880 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Region1.lean ====
/- The second call of the kernel, `project`, at whatever contents it is entered with: its body's run at a point, what its
   outputs and its accumulator hold after each point, and the obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # The second call, `project`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 12 = 0 :=
  (fun t => by
    have ht : t.val < 12 := Nat.lt_of_lt_of_eq t.isLt N_1
    have e0 : (grid1.coords t 0).val = t.val / 1 % 12 := Pipeline.Grid.coords_val t 0 (by decide) rfl
    simp only [cond1_0, e0]
    word_cmp
   : ∀ t : Fin grid1.N, cond1_0 (grid1.coords t) ↔ t.val % 12 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 12 = 11 :=
  (fun t => by
    have ht : t.val < 12 := Nat.lt_of_lt_of_eq t.isLt N_1
    have e0 : (grid1.coords t 0).val = t.val / 1 % 12 := Pipeline.Grid.coords_val t 0 (by decide) rfl
    simp only [cond1_1, k1_cond2, e0]
    word_cmp
   : ∀ t : Fin grid1.N, cond1_1 (grid1.coords t) ↔ t.val % 12 = 11)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- At the points of case A the printed configuration (`Cfg.idle`) calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the printed configuration (`Cfg.idle`) calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the printed configuration (`Cfg.idle`) calls output 5 live: the case stores into it. -/
theorem liveAt1_5_C : ∀ t : Fin cfg1.N, ¬cond1_0 (grid1.coords t) → cond1_1 (grid1.coords t) → cfg1.idle 5 (grid1.coords t) = false := by decide +kernel
/-- At the points of case A the printed configuration (`Cfg.idle`) calls output 6 idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → cond1_1 (grid1.coords t) → cfg1.idle 6 (grid1.coords t) = false := by decide +kernel
/-- At the points of case A the printed configuration (`Cfg.idle`) calls output 7 idle: the case stores nothing into it. -/
theorem idleAt1_7_A : ∀ t : Fin cfg1.N, cond1_0 (grid1.coords t) → ¬cond1_1 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → ¬cond1_1 (grid1.coords t) → cfg1.idle 7 (grid1.coords t) = true := by decide +kernel
/-- At the points of case B the pipeline does not write output 7's block back. -/
theorem noFlush1_7_B : ∀ t : Fin cfg1.N, ¬cond1_0 (grid1.coords t) → ¬cond1_1 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cfg1.idle 7 (grid1.coords t) = false := by decide +kernel

/-! ## The kernel body on any staging memrefs: a subtype the run finds -/

/-- One staging buffer of output window 5, through which its contents are stated (`View.read_writes_of_cover`: the
    choice does not matter). -/
abbrev VO1_5 : View sig .tc .vmem S256x2880 .bf16 := (Memref.whole cc1_stg5_0 : Memref sig .tc .vmem S256x2880 .bf16).view
/-- One staging buffer of output window 6, through which its contents are stated (`View.read_writes_of_cover`: the
    choice does not matter). -/
abbrev VO1_6 : View sig .tc .smem S1 .f32 := (Memref.whole cc1_stg6_0 : Memref sig .tc .smem S1 .f32).view
/-- One staging buffer of output window 7, through which its contents are stated (`View.read_writes_of_cover`: the
    choice does not matter). -/
abbrev VO1_7 : View sig .tc .smem S16 .f32 := (Memref.whole cc1_stg7_0 : Memref sig .tc .smem S16 .f32).view
/-- Each window's current staging memref at point `t`, spelled as the pipeline passes it (`bodyAt1`), and its wholeness. -/
abbrev ms1_0 (t : Fin cfg1.N) : Memref sig .tc .vmem S256x1024 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2880 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2880 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x2880 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .smem S1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .smem S16 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S256x2880 .f32 := Memref.whole cc1_scratch0
/-- The scratch `arg9` the kernel carries between points, as a view: what it holds is stated through it. -/
abbrev VS1_0 : View sig .tc .vmem S256x2880 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5, 6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) :
    Σ' (L5 : List (View.Piece (Elt F) S256x2880 .bf16)), Σ' (L6 : List (View.Piece (Elt F) S1 .f32)), Σ' (L7 : List (View.Piece (Elt F) S16 .f32)), { LS0 : List (View.Piece (Elt F) S256x2880 .f32) //
      ∀ (xi5 : Vec F S256x2880 .bf16) (xi6 : Vec F S1 .f32) (xi7 : Vec F S16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9) K } := by
  refine ⟨[], [], [], ?_, fun xi5 xi6 xi7 E K => ?run⟩
  case run =>
    simp only [cc1_project_eq_skeleton]; unfold cc1_project_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

/-- Case A stores nothing into output 5 (the window is idle at its points and not written back there):
    no pieces — a placeholder (junk read back) that nothing consults, since at these points the window is neither
    written back nor read at the next point (Lib/Pipeline.lean "Idle points"). -/
def out1_A_5 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) : Vec F S256x2880 .bf16 :=
  VO1_5.read (Elt F) (VO1_5.writes (Elt F) VO1_5.junk (kernelRun1_A c i arg1 harg1 arg2 harg2 arg3 harg3 arg4 harg4 arg5 harg5 arg6 harg6 arg7 harg7 arg8 harg8 arg9 harg9 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out1_A_6 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) : Vec F S1 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 hc1 x0 x1 x2 x3 x4).2.1)

/-- Case A stores nothing into output 7 (the window is idle at its points and not written back there):
    no pieces — a placeholder (junk read back) that nothing consults, since at these points the window is neither
    written back nor read at the next point (Lib/Pipeline.lean "Idle points"). -/
def out1_A_7 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) : Vec F S16 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 hc1 x0 x1 x2 x3 x4).2.2.1)

/-- Case A's pieces for scratch `arg9`, which the kernel carries between points, cover it: 2 pieces of `S256x2880` tiling it (Lib/Ring.lean `Piece.tiledL`). -/
theorem scover1_A_0 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) (y : S256x2880.Idx) :
    ∃ pc ∈ (kernelRun1_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4).2.2.2.1 S256x2880.size (by sl_kernel_rfl) y

/-- What case A leaves in scratch `arg9`: its pieces read back over junk. -/
def sout1_A_0 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) : Vec F S256x2880 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3 x4).2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 10: 10 of 12), WITH the
    proof that on whole staging memrefs — the inputs' at their contents, the outputs it leaves idle (5, 6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    Σ' (L5 : List (View.Piece (Elt F) S256x2880 .bf16)), Σ' (L6 : List (View.Piece (Elt F) S1 .f32)), Σ' (L7 : List (View.Piece (Elt F) S16 .f32)), { LS0 : List (View.Piece (Elt F) S256x2880 .f32) //
      ∀ (xi5 : Vec F S256x2880 .bf16) (xi6 : Vec F S1 .f32) (xi7 : Vec F S16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9) K } := by
  refine ⟨[], [], [], ?_, fun xi5 xi6 xi7 E K => ?run⟩
  case run =>
    simp only [cc1_project_eq_skeleton]; unfold cc1_project_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

/-- Case B stores nothing into output 5 (the window is idle at its points and not written back there):
    no pieces — a placeholder (junk read back) that nothing consults, since at these points the window is neither
    written back nor read at the next point (Lib/Pipeline.lean "Idle points"). -/
def out1_B_5 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) : Vec F S256x2880 .bf16 :=
  VO1_5.read (Elt F) (VO1_5.writes (Elt F) VO1_5.junk (kernelRun1_B c i arg1 harg1 arg2 harg2 arg3 harg3 arg4 harg4 arg5 harg5 arg6 harg6 arg7 harg7 arg8 harg8 arg9 harg9 hc0 hc1 x0 x1 x2 x3 x4 xs0).1)

/-- Case B stores nothing into output 6 (the window is idle at its points and not written back there):
    no pieces — a placeholder (junk read back) that nothing consults, since at these points the window is neither
    written back nor read at the next point (Lib/Pipeline.lean "Idle points"). -/
def out1_B_6 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) : Vec F S1 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 hc1 x0 x1 x2 x3 x4 xs0).2.1)

/-- Case B stores nothing into output 7 (the window is idle at its points and not written back there):
    no pieces — a placeholder (junk read back) that nothing consults, since at these points the window is neither
    written back nor read at the next point (Lib/Pipeline.lean "Idle points"). -/
def out1_B_7 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) : Vec F S16 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 hc1 x0 x1 x2 x3 x4 xs0).2.2.1)

/-- Case B's pieces for scratch `arg9`, which the kernel carries between points, cover it: 1 piece of `S256x2880` tiling it (Lib/Ring.lean `Piece.tiledL`). -/
theorem scover1_B_0 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) (y : S256x2880.Idx) :
    ∃ pc ∈ (kernelRun1_B c i arg1 harg1 arg2 harg2 arg3 harg3 arg4 harg4 arg5 harg5 arg6 harg6 arg7 harg7 arg8 harg8 arg9 harg9 hc0 hc1 x0 x1 x2 x3 x4 xs0).2.2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 xs0).2.2.2.1 S256x2880.size (by sl_kernel_rfl) y

/-- What case B leaves in scratch `arg9`: its pieces read back over junk. -/
def sout1_B_0 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) : Vec F S256x2880 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 x4 xs0).2.2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    Σ' (L5 : List (View.Piece (Elt F) S256x2880 .bf16)), Σ' (L6 : List (View.Piece (Elt F) S1 .f32)), Σ' (L7 : List (View.Piece (Elt F) S16 .f32)), { LS0 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc1_project_eq_skeleton]; unfold cc1_project_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

/-- Case C's pieces for output 5 tile its block (1 store of `S256x2880`, checked by the kernel's evaluation: Lib/Ring.lean `Piece.tiledL`, linear in the pieces, through a loop's `@[irreducible]` trip theorem too), so they cover it. -/
theorem cover1_C_5 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) (y : S256x2880.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs0).1 S256x2880.size (by sl_kernel_rfl) y

/-- What case C leaves in output 5's staging buffer: its pieces read back over junk. -/
def out1_C_5 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) : Vec F S256x2880 .bf16 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x0 x1 x2 x3 x4 xs0).1)

/-- Case C's pieces for output 6 tile its block (1 store of `S1`, checked by the kernel's evaluation: Lib/Ring.lean `Piece.tiledL`, linear in the pieces, through a loop's `@[irreducible]` trip theorem too), so they cover it. -/
theorem cover1_C_6 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) (y : S1.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs0).2.1 S1.size (by sl_kernel_rfl) y

/-- What case C leaves in output 6's staging buffer: its pieces read back over junk. -/
def out1_C_6 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) : Vec F S1 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 x4 xs0).2.1)

/-- Case C's pieces for output 7 tile its block (16 stores of `S1`, checked by the kernel's evaluation: Lib/Ring.lean `Piece.tiledL`, linear in the pieces, through a loop's `@[irreducible]` trip theorem too), so they cover it. -/
theorem cover1_C_7 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) (y : S16.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs0).2.2.1 S1.size (by sl_kernel_rfl) y

/-- What case C leaves in output 7's staging buffer: its pieces read back over junk. -/
def out1_C_7 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) : Vec F S16 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 x0 x1 x2 x3 x4 xs0).2.2.1)

/-- Case C's pieces for scratch `arg9`, which the kernel carries between points, cover it: 1 piece of `S256x2880` tiling it (Lib/Ring.lean `Piece.tiledL`). -/
theorem scover1_C_0 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) (y : S256x2880.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs0).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs0).2.2.2.1 S256x2880.size (by sl_kernel_rfl) y

/-- What case C leaves in scratch `arg9`: its pieces read back over junk. -/
def sout1_C_0 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) : Vec F S256x2880 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 x4 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x2880 .bf16 × Vec F S1 .f32 × Vec F S16 .f32 × Vec F S256x2880 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 12 = 0 then
      if h1 : (n + 1) % 12 = 11 then
        False.elim (by have hN : n + 1 < 12 := lt_of_lt_of_eq hn (show cfg1.N = 12 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 12 = 11 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2)

/-- `outsAt1` at a point of case A: that case's contents. -/
theorem outsAt1_A (c : Dev nD) (t : Fin cfg1.N) (h0 : t.val % 12 = 0) (h1 : ¬t.val % 12 = 11) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 12 = 0) (h1 : ¬t.val % 12 = 11) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 12 = 0) (h1 : t.val % 12 = 11) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2.2) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2.2) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2.2.2) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2.1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 12 := lt_of_lt_of_eq t.isLt (show cfg1.N = 12 from N_1)
  by_cases h0 : t.val % 12 = 0
  · by_cases h1 : t.val % 12 = 11
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HR0, HR1, HR2, HR3, HR4, HR5, HS0, HR7, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HS0 HR7 HR8 Hg]
        · isplitl [HR0 HR1 HR2 HR3 HR4 HR5 HS0 HR7 HR8]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _)
            isplitl [HR7]
            · iexact HR7
            iexact HR8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
      · exfalso; have hN : t.val < 12 := lt_of_lt_of_eq t.isLt (show cfg1.N = 12 from N_1); omega
  · by_cases h1 : t.val % 12 = 11
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
      unfold Dat.leavesExact; rw [liveAt1_6_C t (fun h => h0 ((hcond1_0 t).mp h)) ((hcond1_1 t).mpr h1)], after1_6]
      rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
      by_cases hz : t.val = 0
      · exfalso; have hN : t.val < 12 := lt_of_lt_of_eq t.isLt (show cfg1.N = 12 from N_1); omega
      · rw [PhiS_castSucc V c t, PhiS_pos V c _ _ hz]
        rw [outsAt1_C V c t h0 h1]
        unfold out1_C_5 out1_C_6 out1_C_7 sout1_C_0; (try dsimp only)
        iintro ⟨⟨⟨HR0, HR1, HR2, HR3, HR4, HR5, HS0, HR7, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, ⟨%e5, H5⟩, ⟨%e6, H6⟩, ⟨%e7, H7⟩, ⟨%es0, HS0⟩⟩
        isplitl [HR0 HR1 HR2 HR3 HR4 HR5 HS0 HR7 HR8 Hg]
        · isplitl [HR0 HR1 HR2 HR3 HR4 HR5 HS0 HR7 HR8]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _)
            isplitl [HR7]
            · iexact HR7
            iexact HR8
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _)
        unfold owns; iexists _; isplitr
        swap; · iexact H7
        ipureintro; exact View.read_writes_of_cover _ _ _ _ _ (cover1_C_7 c _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      by_cases hz : t.val = 0
      · exfalso; have hN : t.val < 12 := lt_of_lt_of_eq t.isLt (show cfg1.N = 12 from N_1); omega
      · rw [PhiS_castSucc V c t, PhiS_pos V c _ _ hz]
        rw [outsAt1_B V c t h0 h1]
        unfold sout1_B_0; (try dsimp only)
        iintro ⟨⟨⟨HR0, HR1, HR2, HR3, HR4, HR5, HS0, HR7, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HS0 HR7 HR8 Hg]
        · isplitl [HR0 HR1 HR2 HR3 HR4 HR5 HS0 HR7 HR8]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _)
            isplitl [HR7]
            · iexact HR7
            iexact HR8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HS0, HR7, HR8⟩, Hg⟩
  isplitl [HR0 HR1 HR2 HR3 HR4 HR5 HS0 HR7 HR8]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HS0]
    · iexists _; iexact HS0
    isplitl [HR7]
    · iexact HR7
    iexact HR8
  iexact Hg

/-- The same after the last point. -/
theorem hout (c : Dev nD) : (dat1 V c).Φ (Fin.last cfg1.N) ⊢ Pipeline.ΦA spec1 c :=
  Phi_out V c _ (by rw [Fin.val_last]; have : cfg1.N = 12 := N_1; omega)

end Regions

end Cert.KernelIdeal.Gen

end
-- ==== Proof.Scale.lean ====
/- The quantiser's scale: the kernel finds the exponent of a value by a binary search over the powers of two that a
   word's exponent field can hold, and the reference takes the greatest power of two that is at most the value. Over the
   extended reals the two scales agree. -/
module

public import Idealize.ShloMosaic.PureOps
public import Idealize.ShloMosaic.PureOps.Ideal
public import Mathlib.Tactic.Linarith
public import Mathlib.Tactic.Ring
public import Mathlib.Tactic.SplitIfs
public import Mathlib.Tactic.NormNum
public import Mathlib.Tactic.Positivity
public import Mathlib.Data.Finset.Lattice.Fold

@[expose] public section

noncomputable section

open Idealize.ShloMosaic

namespace Cert.Scale

/-! ## The kernel's scalar words -/

section Words
variable {F : FTy → Type} [FloatOps F]

/-- One step of the search: `b` is added to the exponent word when the power of two it then names is at most `v`. -/
def step (v : F .f32) (e b : BitVec 32) : BitVec 32 :=
  Scalar.select (Scalar.cmpf .oge v (Scalar.ofBits .f32 (Scalar.shli (Scalar.addi e b) 23#32))) (Scalar.addi e b) e
/-- The search over the eight bits of the exponent field. -/
def expo (v : F .f32) : BitVec 32 :=
  step v (step v (step v (step v (step v (step v (step v (step v 0#32 128#32) 64#32) 32#32) 16#32) 8#32) 4#32) 2#32) 1#32
/-- The greatest of the sixteen history entries, in the kernel's order. -/
def hmax (h : Fin 16 → F .f32) : F .f32 :=
  Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (h 0) (h 1)) (h 2)) (h 3)) (h 4)) (h 5)) (h 6)) (h 7)) (h 8)) (h 9)) (h 10)) (h 11)) (h 12)) (h 13)) (h 14)) (h 15)
/-- The magnitude of `a / 448`, by the printed constant. -/
def mag (a : F .f32) : F .f32 := Scalar.absf (Scalar.mulf a (Scalar.ofBits .f32 0x3B124925#32))
/-- The exponent word of the scale for the history maximum `a`. -/
def expBits (a : F .f32) : BitVec 32 :=
  Scalar.select (Scalar.ori (Scalar.ori (Scalar.cmpi .eq (expo (mag a)) 0#32) (Scalar.cmpi .eq (expo (mag a)) 255#32))
    (Scalar.cmpf .oeq a (Scalar.ofBits .f32 0x00000000#32))) 0#32 (Scalar.subi (expo (mag a)) 126#32)
/-- The float whose exponent field holds `e + 127`: two to the power `e`. -/
def pow2 (e : BitVec 32) : F .f32 := Scalar.ofBits .f32 (Scalar.shli (Scalar.addi e 127#32) 23#32)

end Words

/-! ## Over the extended reals -/

/-- The value of the word with exponent field `k` and nothing else. -/
def tau (k : ℕ) : EReal := if k = 255 then ⊤ else if k = 0 then 0 else (((2 : ℝ) ^ ((k : ℤ) - 127) : ℝ) : EReal)

theorem word_fields : ∀ k : Fin 256, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  decide +kernel

/-- Shifting an exponent into place and reading the word as a float gives `tau`. -/
theorem ofBits_shl (k : ℕ) (hk : k < 256) : Ideal.ofBits .f32 (BitVec.ofNat 32 k <<< 23) = tau k := by
  obtain ⟨h1, h2, h3⟩ := word_fields ⟨k, hk⟩
  simp only at h1 h2 h3
  unfold Ideal.ofBits Ideal.ieee tau
  simp only [Nat.reduceAdd, h1, h2, h3]
  norm_num
  split_ifs with h4 h5
  · rfl
  · rfl
  · rw [← EReal.coe_mul, show (k : ℤ) - 127 = 23 + ((k : ℤ) - 127 - 23) by ring, zpow_add₀ (by norm_num : (2 : ℝ) ≠ 0)]
    norm_num

theorem scalar_shl (k : ℕ) (hk : k < 256) :
    (Scalar.ofBits .f32 (Scalar.shli (BitVec.ofNat 32 k) 23#32) : Ideal .f32) = tau k := by
  rw [← ofBits_shl k hk]
  rfl

theorem tau_lt {i j : ℕ} (h : i < j) (hj : j < 256) : tau i < tau j := by
  unfold tau
  rw [if_neg (by omega : ¬i = 255), if_neg (by omega : ¬j = 0)]
  split_ifs with h1 h2 h2
  · exact EReal.coe_lt_top 0
  · exact EReal.coe_pos.mpr (by positivity)
  · exact EReal.coe_lt_top _
  · exact EReal.coe_lt_coe_iff.mpr (zpow_lt_zpow_right₀ (by norm_num) (by omega))

theorem tau_le {i j : ℕ} (h : i ≤ j) (hj : j < 256) : tau i ≤ tau j := by
  rcases Nat.lt_or_eq_of_le h with h | rfl
  · exact (tau_lt h hj).le
  · exact le_rfl

theorem step_eq (v : Ideal .f32) (e b : ℕ) (h : e + b < 256) :
    step (F := Ideal) v (BitVec.ofNat 32 e) (BitVec.ofNat 32 b) = BitVec.ofNat 32 (if tau (e + b) ≤ v then e + b else e) := by
  have ha : Scalar.addi (BitVec.ofNat 32 e) (BitVec.ofNat 32 b) = BitVec.ofNat 32 (e + b) := (BitVec.ofNat_add ..).symm
  unfold step
  rw [ha, scalar_shl _ h]
  by_cases hv : tau (e + b) ≤ v
  · rw [if_pos hv]
    have : (Scalar.cmpf .oge v (tau (e + b)) : BitVec 1) = 1#1 := by
      show Ideal.cmp .oge v (tau (e + b)) = 1#1
      simp [Ideal.cmp, hv]
    rw [this]; rfl
  · rw [if_neg hv]
    have : (Scalar.cmpf .oge v (tau (e + b)) : BitVec 1) = 0#1 := by
      show Ideal.cmp .oge v (tau (e + b)) = 0#1
      simp [Ideal.cmp, hv]
    rw [this]; rfl

/-- The search's invariant: `e` is at most the exponent sought and the window `w` above it holds it. -/
def Inv (v : EReal) (w e : ℕ) : Prop := e + w ≤ 256 ∧ tau e ≤ v ∧ (e + w < 256 → v < tau (e + w))

theorem inv_step {v : Ideal .f32} {b : ℕ} {x : BitVec 32} (hb : 0 < b) (h : ∃ e, x = BitVec.ofNat 32 e ∧ Inv v (2 * b) e) :
    ∃ e, step (F := Ideal) v x (BitVec.ofNat 32 b) = BitVec.ofNat 32 e ∧ Inv v b e := by
  obtain ⟨e, rfl, h1, h2, h3⟩ := h
  refine ⟨_, step_eq v e b (by omega), ?_⟩
  split_ifs with hv
  · exact ⟨by omega, hv, fun h => by rw [show e + b + b = e + 2 * b by omega] at *; exact h3 h⟩
  · exact ⟨by omega, h2, fun _ => not_le.mp hv⟩

/-- The search ends at the exponent field of the greatest power of two at most `v`. -/
theorem expo_spec (v : Ideal .f32) (hv : (0 : EReal) ≤ v) : ∃ e, expo (F := Ideal) v = BitVec.ofNat 32 e ∧ Inv v 1 e := by
  have h0 : ∃ e, (0#32 : BitVec 32) = BitVec.ofNat 32 e ∧ Inv v (2 * 128) e := ⟨0, rfl, by norm_num, by simpa [tau] using hv, by norm_num⟩
  have h1 := inv_step (b := 128) (by norm_num) h0
  have h2 := inv_step (b := 64) (by norm_num) h1
  have h3 := inv_step (b := 32) (by norm_num) h2
  have h4 := inv_step (b := 16) (by norm_num) h3
  have h5 := inv_step (b := 8) (by norm_num) h4
  have h6 := inv_step (b := 4) (by norm_num) h5
  have h7 := inv_step (b := 2) (by norm_num) h6
  exact inv_step (b := 1) (by norm_num) h7

/-- The power of two `2^(k - 126)`. -/
def pw (k : ℕ) : EReal := (((2 : ℝ) ^ ((k : ℤ) - 126) : ℝ) : EReal)

theorem pw_eq_tau (k : ℕ) (h : k < 254) : pw k = tau (k + 1) := by
  unfold pw tau
  rw [if_neg (by omega), if_neg (by omega)]
  congr 2
  push_cast; ring

/-- The greatest of the powers `2^-126 … 2^127` that is at most `v`, or 0. -/
def below (v : EReal) : EReal := Finset.univ.sup fun k : Fin 254 => if pw k.val ≤ v then pw k.val else 0

/-- The reference's scale: the least power of two above `v`, or 1 when `v` is below every power. -/
def refScale (v : EReal) : EReal := if below v = 0 then 1 else 2 * below v

theorem below_eq (v : EReal) (e : ℕ) (he : Inv v 1 e) (hv : v < tau 253) : e ≤ 252 ∧ below v = tau e := by
  obtain ⟨h1, h2, h3⟩ := he
  have h252 : e ≤ 252 := by
    by_contra hc
    exact absurd (hv.trans_le (tau_le (by omega : 253 ≤ e) (by omega))) (not_lt.mpr h2)
  have h4 := h3 (by omega)
  refine ⟨h252, le_antisymm (Finset.sup_le fun k _ => ?_) ?_⟩
  · have hk := k.isLt
    split_ifs with hc
    · rw [pw_eq_tau _ hk] at hc ⊢
      refine tau_le ?_ (by omega)
      by_contra hlt
      exact absurd (hc.trans_lt h4) (not_lt.mpr (tau_le (by omega) (by omega)))
    · have : tau 0 = 0 := by simp [tau]
      rw [← this]; exact tau_le (by omega) (by omega)
  · rcases Nat.eq_zero_or_pos e with rfl | hp
    · have : tau 0 = 0 := by simp [tau]
      rw [this]
      refine le_trans ?_ (Finset.le_sup (Finset.mem_univ (⟨0, by norm_num⟩ : Fin 254)))
      dsimp only
      split_ifs
      · rw [pw_eq_tau _ (by norm_num), ← this]; exact tau_le (by norm_num) (by norm_num)
      · exact le_rfl
    · refine le_trans ?_ (Finset.le_sup (Finset.mem_univ (⟨e - 1, by omega⟩ : Fin 254)))
      dsimp only
      rw [pw_eq_tau _ (by omega), Nat.sub_add_cancel hp, if_pos h2]

theorem mag_nonneg (a : Ideal .f32) : (0 : EReal) ≤ mag (F := Ideal) a := by
  show (0 : EReal) ≤ max _ (-_)
  rcases le_total (0 : EReal) (a * Ideal.ofBits .f32 0x3B124925#32 : EReal) with h | h
  · exact le_max_of_le_left h
  · exact le_max_of_le_right (EReal.neg_nonneg.mpr h)

/-- A positive word of the normal range, read from its fields. -/
theorem ofBits_normal (b : BitVec 32) (ex fr : ℕ) (hs : (b.extractLsb' 31 1 == 1#1) = false) (he : (b.extractLsb' 23 8).toNat = ex)
    (hf : (b.extractLsb' 0 23).toNat = fr) (h1 : ex ≠ 255) (h2 : ex ≠ 0) :
    Ideal.ofBits .f32 b = (((2 ^ 23 + fr : ℝ) * (2 : ℝ) ^ ((ex : ℤ) - 150) : ℝ) : EReal) := by
  unfold Ideal.ofBits Ideal.ieee
  simp only [Nat.reduceAdd, hs, he, hf]
  norm_num [h1, h2]
  rw [show (ex : ℤ) - 127 - 23 = ex - 150 by ring]

theorem c448 : Ideal.ofBits .f32 0x3B124925#32 = ((9586981 * (2 : ℝ) ^ (-32 : ℤ) : ℝ) : EReal) := by
  rw [ofBits_normal _ 118 1198373 (by decide) (by decide) (by decide) (by norm_num) (by norm_num)]
  norm_num

theorem select_1 {α : Type} (x y : α) : Scalar.select 1#1 x y = x := rfl
theorem select_0 {α : Type} (x y : α) : Scalar.select 0#1 x y = y := rfl

/-- The exponent word: 0 when the search found no power, else the exponent of the least power of two above. -/
theorem expBits_spec (a : Ideal .f32) (h : mag (F := Ideal) a < tau 253) :
    (expBits (F := Ideal) a = 0#32 ∧ below (mag (F := Ideal) a) = 0)
    ∨ ∃ e, 1 ≤ e ∧ e ≤ 252 ∧ expBits (F := Ideal) a = BitVec.ofNat 32 e - 126#32 ∧ below (mag (F := Ideal) a) = tau e := by
  obtain ⟨e, he, hi⟩ := expo_spec (mag (F := Ideal) a) (mag_nonneg a)
  obtain ⟨h252, hb⟩ := below_eq _ e hi h
  rcases Nat.eq_zero_or_pos e with rfl | hp
  · left
    refine ⟨?_, by rw [hb]; simp [tau]⟩
    unfold expBits
    rw [he]
    have : Scalar.cmpi .eq (BitVec.ofNat 32 0) 0#32 = 1#1 := rfl
    rw [this]
    generalize Scalar.cmpi .eq (BitVec.ofNat 32 0) 255#32 = p
    generalize Scalar.cmpf .oeq a _ = q
    have : ∀ p q : BitVec 1, Scalar.ori (Scalar.ori 1#1 p) q = 1#1 := by decide
    rw [this, select_1]
  · right
    refine ⟨e, hp, h252, ?_, hb⟩
    unfold expBits
    rw [he]
    have h1 : Scalar.cmpi .eq (BitVec.ofNat 32 e) 0#32 = 0#1 := by
      have : ∀ e : Fin 253, 1 ≤ e.val → Scalar.cmpi .eq (BitVec.ofNat 32 e.val) 0#32 = 0#1 := by decide +kernel
      exact this ⟨e, by omega⟩ hp
    have h2 : Scalar.cmpi .eq (BitVec.ofNat 32 e) 255#32 = 0#1 := by
      have : ∀ e : Fin 253, 1 ≤ e.val → Scalar.cmpi .eq (BitVec.ofNat 32 e.val) 255#32 = 0#1 := by decide +kernel
      exact this ⟨e, by omega⟩ hp
    have h3 : (Scalar.cmpf .oeq a (Scalar.ofBits .f32 0x00000000#32) : BitVec 1) = 0#1 := by
      have h0 : (Scalar.ofBits .f32 0x00000000#32 : Ideal .f32) = (0 : EReal) := by
        show Ideal.ofBits .f32 0x00000000#32 = 0
        unfold Ideal.ofBits Ideal.ieee; norm_num
      rw [h0]
      show Ideal.cmp .oeq a 0 = 0#1
      have : ¬ (a : EReal) = 0 := by
        intro h0
        have hm : mag (F := Ideal) a = (0 : EReal) := by
          subst h0
          show max ((0 : EReal) * _) (-((0 : EReal) * _)) = 0
          simp
        have := hi.2.1
        rw [hm] at this
        exact absurd ((tau_lt hp (by omega)).trans_le this) (by simp [tau])
      simp [Ideal.cmp, this]
    rw [h1, h2, h3]
    rfl

theorem pow2_eq (x : BitVec 32) (k : ℕ) (hk : k < 256) (h : x + 127#32 = BitVec.ofNat 32 k) : pow2 (F := Ideal) x = tau k := by
  unfold pow2
  rw [show Scalar.addi x 127#32 = BitVec.ofNat 32 k from h]
  exact scalar_shl k hk

theorem two_tau (e : ℕ) (h1 : 1 ≤ e) (h2 : e ≤ 252) : (2 : EReal) * tau e = tau (e + 1) := by
  unfold tau
  rw [if_neg (by omega), if_neg (by omega), if_neg (by omega), if_neg (by omega)]
  rw [show (2 : EReal) = ((2 : ℝ) : EReal) from rfl, ← EReal.coe_mul]
  congr 1
  rw [show (((e + 1 : ℕ) : ℤ) - 127) = 1 + ((e : ℤ) - 127) by push_cast; ring, zpow_add₀ (by norm_num)]
  norm_num

theorem tau_ne {e : ℕ} (h1 : 1 ≤ e) (h2 : e < 256) : tau e ≠ 0 := by
  have := tau_lt (i := 0) (j := e) h1 h2
  have h0 : tau 0 = 0 := by simp [tau]
  rw [h0] at this
  exact this.ne'

theorem tau_127 : tau 127 = 1 := by unfold tau; norm_num

/-- The kernel's scale is the reference's. -/
theorem scale_eq (a : Ideal .f32) (h : mag (F := Ideal) a < tau 253) :
    pow2 (F := Ideal) (expBits (F := Ideal) a) = refScale (mag (F := Ideal) a) := by
  unfold refScale
  rcases expBits_spec a h with ⟨h1, h2⟩ | ⟨e, h1, h2, h3, h4⟩
  · rw [if_pos h2, h1, pow2_eq _ 127 (by norm_num) rfl, tau_127]
  · rw [h4, if_neg (tau_ne h1 (by omega)), h3, two_tau e h1 h2]
    refine pow2_eq _ (e + 1) (by omega) ?_
    have : ∀ e : Fin 253, 1 ≤ e.val → BitVec.ofNat 32 e.val - 126#32 + 127#32 = BitVec.ofNat 32 (e.val + 1) := by decide +kernel
    exact this ⟨e, by omega⟩ h1

theorem tau_inv (e : ℕ) (h1 : 1 ≤ e) (h2 : e ≤ 252) : tau (253 - e) = Ideal.div 1 (tau (e + 1)) := by
  unfold Ideal.div
  rw [if_neg (tau_ne (by omega) (by omega)), one_mul]
  unfold tau
  rw [if_neg (by omega), if_neg (by omega), if_neg (by omega), if_neg (by omega)]
  rw [← EReal.coe_inv, ← zpow_neg]
  congr 2
  push_cast [Nat.cast_sub (by omega : e ≤ 253)]
  ring

/-- The kernel's inverse scale is one over the reference's scale. -/
theorem inv_scale_eq (a : Ideal .f32) (h : mag (F := Ideal) a < tau 253) :
    pow2 (F := Ideal) (Scalar.subi 0#32 (expBits (F := Ideal) a)) = Ideal.div 1 (refScale (mag (F := Ideal) a)) := by
  unfold refScale
  rcases expBits_spec a h with ⟨h1, h2⟩ | ⟨e, h1, h2, h3, h4⟩
  · rw [if_pos h2, h1, pow2_eq _ 127 (by norm_num) rfl, tau_127]
    unfold Ideal.div
    simp
  · rw [h4, if_neg (tau_ne h1 (by omega)), h3, two_tau e h1 h2, ← tau_inv e h1 h2]
    refine pow2_eq _ (253 - e) (by omega) ?_
    have : ∀ e : Fin 253, 1 ≤ e.val → 0#32 - (BitVec.ofNat 32 e.val - 126#32) + 127#32 = BitVec.ofNat 32 (253 - e.val) := by decide +kernel
    exact this ⟨e, by omega⟩ h1

/-- A history bounded by the greatest float has a magnitude far below the range's top. -/
theorem mag_lt (a : Ideal .f32) (h1 : (a : EReal) ≤ Ideal.ofBits .f32 0x7F7FFFFF#32) (h2 : -Ideal.ofBits .f32 0x7F7FFFFF#32 ≤ (a : EReal)) :
    mag (F := Ideal) a < tau 253 := by
  have hf : Ideal.ofBits .f32 0x7F7FFFFF#32 = ((16777215 * (2 : ℝ) ^ (104 : ℤ) : ℝ) : EReal) := by
    rw [ofBits_normal _ 254 8388607 (by decide) (by decide) (by decide) (by norm_num) (by norm_num)]
    norm_num
  rw [hf] at h1 h2
  rw [← EReal.coe_neg] at h2
  change EReal at a
  induction a using EReal.rec with
  | bot => exact absurd h2 (not_le.mpr (EReal.bot_lt_coe _))
  | top => exact absurd h1 (not_le.mpr (EReal.coe_lt_top _))
  | coe r =>
    show max ((r : EReal) * Ideal.ofBits .f32 0x3B124925#32) (-((r : EReal) * Ideal.ofBits .f32 0x3B124925#32)) < tau 253
    rw [c448, ← EReal.coe_mul, ← EReal.coe_neg]
    rw [EReal.coe_le_coe_iff] at h1 h2
    unfold tau
    rw [if_neg (by norm_num), if_neg (by norm_num)]
    refine max_lt (EReal.coe_lt_coe_iff.mpr ?_) (EReal.coe_lt_coe_iff.mpr ?_)
    · norm_num at h1 h2 ⊢; nlinarith
    · norm_num at h1 h2 ⊢; nlinarith

end Cert.Scale

end
-- ==== Proof.ProjVal.lean ====
/- What one grid point of the projection leaves in its buffers, as values. -/
module

public import proofs.«01_k».proof.Proof.Region1
public import Idealize.ShloMosaic.Lib.Pipeline.Value
public import Idealize.ShloMosaic.Lib.Tactic
public import Idealize.ShloMosaic.Lib.ValueIdxCore
public import Idealize.ShloMosaic.Lib.Pipeline.ValueKit.Tiles
public import proofs.«01_k».proof.Proof.Scale

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl

theorem sout_A (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) :
    sout1_A_0 c i arg1 harg1 arg2 harg2 arg3 harg3 arg4 harg4 arg5 harg5 arg6 harg6 arg7 harg7 arg8 harg8 arg9 harg9 hc0 hc1 x0 x1 x2 x3 x4
      = k1_pay2 k1_pay1 x0 x1 := by
  unfold sout1_A_0
  rw [View.read_writes_eq_canon _ _ _ (scover1_A_0 c i arg1 harg1 arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S256x2880) hz2, View.readCov_unit_zero (S := S256x2880) _ hz2]
  simp only [View.readAt_eq_ld, harg1.read_unread, harg2.read_unread, View.ld_unit_zero (S := S256x1024) hz2, View.ld_unit_zero (S := S1024x2880) hz2]

theorem sout_B (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : ¬cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    sout1_B_0 c i arg1 harg1 arg2 harg2 arg3 harg3 arg4 harg4 arg5 harg5 arg6 harg6 arg7 harg7 arg8 harg8 arg9 harg9 hc0 hc1 x0 x1 x2 x3 x4 xs0
      = k1_pay2 xs0 x0 x1 := by
  unfold sout1_B_0
  rw [View.read_writes_eq_canon _ _ _ (scover1_B_0 c i arg1 harg1 arg2 harg2 arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero (S := S256x2880) hz2]
  simp only [View.readAt_eq_ld, harg1.read_unread, harg2.read_unread, harg9.read_unread, View.ld_unit_zero (S := S256x1024) hz2, View.ld_unit_zero (S := S1024x2880) hz2, View.ld_unit_zero (S := S256x2880) hz2]

theorem hz1 : (![0] : Fin 1 → Nat) = fun _ => 0 := funext fun a => by fin_cases a <;> rfl

/-- One entry of the history as the body reads it. -/
theorem read_hist (arg3 : Memref sig .tc .smem S16 .f32) (harg3 : arg3.IsWhole) (x2 : Vec F S16 .f32) (k : Nat) (hk : k < 16)
    (sz : Fin S16.rank → Nat) (inb) (h) :
    View.readAt (Elt F) arg3.view (Rect.unit ![k] sz inb).toLoadRect (harg3.unread x2) (Shape.Idx.first h) = x2 (ix1 ⟨k, hk⟩) := by
  rw [View.readAt_eq_ld, harg3.read_unread]
  refine View.ld_unit_apply_of x2 _ _ inb _ _ fun a => ?_
  fin_cases a
  rfl

/-- The history as a family of sixteen entries. -/
abbrev hist (x2 : Vec F S16 .f32) : Fin 16 → F .f32 := fun k => x2 (ix1 k)

/-- The shifted history: entries one later, the last one `b`. -/
def shift (x2 : Vec F S16 .f32) (b : F .f32) : Vec F S16 .f32 := fun p =>
  if h : (p 0).val + 1 < 16 then x2 (ix1 ⟨(p 0).val + 1, h⟩) else b

/-- The piece at `j` of the shifted history holds the entry after it. -/
theorem shift_at (x2 : Vec F S16 .f32) (b : F .f32) (y : S16.Idx) (j : Nat) (inb) (h : j + 1 < 16) :
    View.RectAt (Val := Elt F) (e := .f32) y (Rect.unit (s := S16) ![j] ![1] inb) (fun _ => x2 (ix1 ⟨j + 1, h⟩)) (shift x2 b y) := by
  rintro x rfl
  have h0 := (Rect.idx_unit_val (s := S16) ![j] ![1] inb x 0).symm
  have h1 : (x 0).val < 1 := (x 0).isLt
  simp only [Matrix.cons_val_zero] at h0
  have h2 : ((Rect.unit (s := S16) ![j] ![1] inb).emb x 0).val = j := by
    rw [show ((Rect.unit (s := S16) ![j] ![1] inb).emb x 0).val = j + (x 0).val from h0.symm]; omega
  unfold shift
  simp only [h2]
  rw [dif_pos h]

theorem shift_last (x2 : Vec F S16 .f32) (b : F .f32) (y : S16.Idx) (inb) :
    View.RectAt (Val := Elt F) (e := .f32) y (Rect.unit (s := S16) ![15] ![1] inb) (fun _ => b) (shift x2 b y) := by
  rintro x rfl
  have h0 := (Rect.idx_unit_val (s := S16) ![15] ![1] inb x 0).symm
  simp only [Matrix.cons_val_zero] at h0
  have h2 : ((Rect.unit (s := S16) ![15] ![1] inb).emb x 0).val = 15 + (x 0).val := h0.symm
  unfold shift
  rw [dif_neg (by omega)]

theorem out_C_6 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    out1_C_6 c i arg1 harg1 arg2 harg2 arg3 harg3 arg4 harg4 arg5 harg5 arg6 harg6 arg7 harg7 arg8 harg8 arg9 harg9 hc0 hc1 x0 x1 x2 x3 x4 xs0
      = fun _ => Scale.pow2 (Scale.expBits (Scale.hmax (hist x2))) := by
  unfold out1_C_6
  rw [View.read_writes_eq_canon _ _ _ (cover1_C_6 c i arg1 harg1 arg2 harg2 arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S1) hz1]
  simp only [read_hist arg3 harg3 x2 0 (by norm_num), read_hist arg3 harg3 x2 1 (by norm_num), read_hist arg3 harg3 x2 2 (by norm_num), read_hist arg3 harg3 x2 3 (by norm_num), read_hist arg3 harg3 x2 4 (by norm_num), read_hist arg3 harg3 x2 5 (by norm_num), read_hist arg3 harg3 x2 6 (by norm_num), read_hist arg3 harg3 x2 7 (by norm_num), read_hist arg3 harg3 x2 8 (by norm_num), read_hist arg3 harg3 x2 9 (by norm_num), read_hist arg3 harg3 x2 10 (by norm_num), read_hist arg3 harg3 x2 11 (by norm_num), read_hist arg3 harg3 x2 12 (by norm_num), read_hist arg3 harg3 x2 13 (by norm_num), read_hist arg3 harg3 x2 14 (by norm_num), read_hist arg3 harg3 x2 15 (by norm_num)]
  rfl

theorem out_C_7 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    out1_C_7 c i arg1 harg1 arg2 harg2 arg3 harg3 arg4 harg4 arg5 harg5 arg6 harg6 arg7 harg7 arg8 harg8 arg9 harg9 hc0 hc1 x0 x1 x2 x3 x4 xs0
      = shift x2 (k1_pay3 x4) := by
  unfold out1_C_7
  rw [View.read_writes_eq_canon _ _ _ (cover1_C_7 c i arg1 harg1 arg2 harg2 arg3 harg3 arg4 harg4 arg5 harg5 arg6 harg6 arg7 harg7 arg8 harg8 arg9 harg9 hc0 hc1 x0 x1 x2 x3 x4 xs0)]
  unfold kernelRun1_C
  dsimp only
  sl_unfold_words
  simp only [read_hist arg3 harg3 x2 0 (by norm_num), read_hist arg3 harg3 x2 1 (by norm_num), read_hist arg3 harg3 x2 2 (by norm_num), read_hist arg3 harg3 x2 3 (by norm_num), read_hist arg3 harg3 x2 4 (by norm_num), read_hist arg3 harg3 x2 5 (by norm_num), read_hist arg3 harg3 x2 6 (by norm_num), read_hist arg3 harg3 x2 7 (by norm_num), read_hist arg3 harg3 x2 8 (by norm_num), read_hist arg3 harg3 x2 9 (by norm_num), read_hist arg3 harg3 x2 10 (by norm_num), read_hist arg3 harg3 x2 11 (by norm_num), read_hist arg3 harg3 x2 12 (by norm_num), read_hist arg3 harg3 x2 13 (by norm_num), read_hist arg3 harg3 x2 14 (by norm_num), read_hist arg3 harg3 x2 15 (by norm_num)]
  simp only [View.readAt_eq_ld, harg5.read_unread, View.ld_unit_zero (S := S8x128) hz2]
  funext y
  refine View.canon_eq_of_allAt _ y _ (View.cover_of_tiled_head _ _ _ (by rfl) y) ?_
  exact View.allAt_cons _ _ _ (shift_last x2 _ y _) <|
    View.allAt_cons _ _ _ (shift_at x2 _ y 14 _ (by norm_num)) <|
    View.allAt_cons _ _ _ (shift_at x2 _ y 13 _ (by norm_num)) <|
    View.allAt_cons _ _ _ (shift_at x2 _ y 12 _ (by norm_num)) <|
    View.allAt_cons _ _ _ (shift_at x2 _ y 11 _ (by norm_num)) <|
    View.allAt_cons _ _ _ (shift_at x2 _ y 10 _ (by norm_num)) <|
    View.allAt_cons _ _ _ (shift_at x2 _ y 9 _ (by norm_num)) <|
    View.allAt_cons _ _ _ (shift_at x2 _ y 8 _ (by norm_num)) <|
    View.allAt_cons _ _ _ (shift_at x2 _ y 7 _ (by norm_num)) <|
    View.allAt_cons _ _ _ (shift_at x2 _ y 6 _ (by norm_num)) <|
    View.allAt_cons _ _ _ (shift_at x2 _ y 5 _ (by norm_num)) <|
    View.allAt_cons _ _ _ (shift_at x2 _ y 4 _ (by norm_num)) <|
    View.allAt_cons _ _ _ (shift_at x2 _ y 3 _ (by norm_num)) <|
    View.allAt_cons _ _ _ (shift_at x2 _ y 2 _ (by norm_num)) <|
    View.allAt_cons _ _ _ (shift_at x2 _ y 1 _ (by norm_num)) <|
    View.allAt_cons _ _ _ (shift_at x2 _ y 0 _ (by norm_num)) <|
    View.allAt_nil _ _

theorem out_C_5 (c : Dev nD) (i : grid1.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond1_0 i) (hc1 : cond1_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    out1_C_5 c i arg1 harg1 arg2 harg2 arg3 harg3 arg4 harg4 arg5 harg5 arg6 harg6 arg7 harg7 arg8 harg8 arg9 harg9 hc0 hc1 x0 x1 x2 x3 x4 xs0
      = k1_pay15 (Scale.expBits (Scale.hmax (hist x2))) (k1_pay2 xs0 x0 x1) x3 := by
  unfold out1_C_5
  rw [View.read_writes_eq_canon _ _ _ (cover1_C_5 c i arg1 harg1 arg2 harg2 arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S256x2880) hz2, View.readCov_unit_zero (S := S256x2880) _ hz2]
  simp only [read_hist arg3 harg3 x2 0 (by norm_num), read_hist arg3 harg3 x2 1 (by norm_num), read_hist arg3 harg3 x2 2 (by norm_num), read_hist arg3 harg3 x2 3 (by norm_num), read_hist arg3 harg3 x2 4 (by norm_num), read_hist arg3 harg3 x2 5 (by norm_num), read_hist arg3 harg3 x2 6 (by norm_num), read_hist arg3 harg3 x2 7 (by norm_num), read_hist arg3 harg3 x2 8 (by norm_num), read_hist arg3 harg3 x2 9 (by norm_num), read_hist arg3 harg3 x2 10 (by norm_num), read_hist arg3 harg3 x2 11 (by norm_num), read_hist arg3 harg3 x2 12 (by norm_num), read_hist arg3 harg3 x2 13 (by norm_num), read_hist arg3 harg3 x2 14 (by norm_num), read_hist arg3 harg3 x2 15 (by norm_num)]
  simp only [View.readAt_eq_ld, harg1.read_unread, harg2.read_unread, harg4.read_unread, harg9.read_unread, View.ld_unit_zero (S := S256x1024) hz2, View.ld_unit_zero (S := S1024x2880) hz2, View.ld_unit_zero (S := S256x2880) hz2, View.ld_unit_zero (S := S1x2880) hz2]

  rfl

end Cert.KernelIdeal.Value
-- ==== Proof.ProjAcc.lean ====
/- The projection's arrays after its run: the output is the scaled sum of the twelve partial products. -/
module

public import proofs.«01_k».proof.Proof.ProjVal
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.ValueIdx

variable {F : FTy → Type} [FloatOps F]
-- what the buffers hold when the call is entered
variable (V : (c : Dev nD) → (b : Ref sig .tc) → Buf (Elt F) ((c : Thread nD τ).loc b))

theorem flushed5 (c : Dev nD) (t : Fin cfg1.N) :
    (dat1 V c).flushed 5 t = (cfg1.win 5).cut (grid1.coords t) ((outsAt1 V c t.val t.isLt).1) := by
  show (cfg1.win 5).cut (grid1.coords t) ((dat1 V c).after 5 t) = _
  rw [after1_5]
theorem flushed6 (c : Dev nD) (t : Fin cfg1.N) :
    (dat1 V c).flushed 6 t = (cfg1.win 6).cut (grid1.coords t) ((outsAt1 V c t.val t.isLt).2.1) := by
  show (cfg1.win 6).cut (grid1.coords t) ((dat1 V c).after 6 t) = _
  rw [after1_6]
theorem flushed7 (c : Dev nD) (t : Fin cfg1.N) :
    (dat1 V c).flushed 7 t = (cfg1.win 7).cut (grid1.coords t) ((outsAt1 V c t.val t.isLt).2.2.1) := by
  show (cfg1.win 7).cut (grid1.coords t) ((dat1 V c).after 7 t) = _
  rw [after1_7]

/-- The accumulator after point `n`: the products of the blocks up to `n`, added in order from zero. -/
def chain (c : Dev nD) : (n : ℕ) → n < cfg1.N → Vec F S256x2880 .f32
  | 0, h => k1_pay2 k1_pay1 (iblk1 V c 0 ⟨0, h⟩) (iblk1 V c 1 ⟨0, h⟩)
  | n + 1, h => k1_pay2 (chain c n (Nat.lt_of_succ_lt h)) (iblk1 V c 0 ⟨n + 1, h⟩) (iblk1 V c 1 ⟨n + 1, h⟩)

/-- The scratch holds the accumulator before the last point. -/
theorem acc_eq (c : Dev nD) : ∀ (n : ℕ) (h : n < cfg1.N), n < 11 → (outsAt1 V c n h).2.2.2 = chain V c n h
  | 0, h, _ => by
    have e := congrArg (fun p => p.2.2.2) (outsAt1_A V c ⟨0, h⟩ rfl (by norm_num))
    dsimp only at e
    rw [sout_A] at e
    exact e
  | n + 1, h, hn => by
    have e := congrArg (fun p => p.2.2.2) (outsAt1_B V c ⟨n + 1, h⟩ (by dsimp only; omega) (by dsimp only; omega))
    dsimp only at e
    rw [sout_B] at e
    refine e.trans ?_
    show k1_pay2 (outsAt1 V c n _).2.2.2 _ _ = k1_pay2 (chain V c n _) _ _
    rw [acc_eq c n _ (by omega)]

theorem last_lt : 11 < cfg1.N := by rw [show cfg1.N = 12 from N_1]; norm_num

/-- The last point. -/
abbrev last : Fin cfg1.N := ⟨11, last_lt⟩

/-- The history as the last point reads it. -/
abbrev histAt (c : Dev nD) : Vec F S16 .f32 := iblk1 V c 2 last

abbrev bitsAt (c : Dev nD) : BitVec 32 := Scale.expBits (Scale.hmax (hist (histAt V c)))

/-- The output block of the last point. -/
theorem last_5 (c : Dev nD) : (outsAt1 V c 11 last_lt).1 = k1_pay15 (bitsAt V c) (chain V c 11 last_lt) (iblk1 V c 3 last) := by
  have e := congrArg (fun p => p.1) (outsAt1_C V c last (by norm_num) rfl)
  dsimp only at e
  rw [out_C_5] at e
  refine e.trans ?_
  show k1_pay15 _ (k1_pay2 (outsAt1 V c 10 _).2.2.2 _ _) _ = k1_pay15 _ (k1_pay2 (chain V c 10 _) _ _) _
  rw [acc_eq V c 10 _ (by norm_num)]

theorem last_6 (c : Dev nD) : (outsAt1 V c 11 last_lt).2.1 = fun _ => Scale.pow2 (bitsAt V c) := by
  have e := congrArg (fun p => p.2.1) (outsAt1_C V c last (by norm_num) rfl)
  dsimp only at e
  rw [out_C_6] at e
  exact e

theorem last_7 (c : Dev nD) : (outsAt1 V c 11 last_lt).2.2.1 = shift (histAt V c) (k1_pay3 (iblk1 V c 4 last)) := by
  have e := congrArg (fun p => p.2.2.1) (outsAt1_C V c last (by norm_num) rfl)
  dsimp only at e
  rw [out_C_7] at e
  exact e

theorem off5 (t : Fin cfg1.N) : (fun a => win1_5.index t a * main_v3_0.ty.shape.size a) = fun _ => 0 := by
  funext a; revert t a; decide +kernel
theorem off6 (t : Fin cfg1.N) : (fun a => win1_6.index t a * main_v3_1.ty.shape.size a) = fun _ => 0 := by
  funext a; revert t a; decide +kernel
theorem off7 (t : Fin cfg1.N) : (fun a => win1_7.index t a * main_v3_2.ty.shape.size a) = fun _ => 0 := by
  funext a; revert t a; decide +kernel

theorem point_of_flush5 (t : Fin cfg1.N) (hf : (cfg1.win 5).flush t = true) : t = last := by
  have hN : cfg1.N = 12 := N_1
  have := (flush1_5 t).mp hf; have := t.isLt
  exact Fin.ext (by show t.val = 11; omega)
theorem point_of_flush6 (t : Fin cfg1.N) (hf : (cfg1.win 6).flush t = true) : t = last := by
  have hN : cfg1.N = 12 := N_1
  have := (flush1_6 t).mp hf; have := t.isLt
  exact Fin.ext (by show t.val = 11; omega)
theorem point_of_flush7 (t : Fin cfg1.N) (hf : (cfg1.win 7).flush t = true) : t = last := by
  have hN : cfg1.N = 12 := N_1
  have := (flush1_7 t).mp hf; have := t.isLt
  exact Fin.ext (by show t.val = 11; omega)

theorem final_5 (c : Dev nD) : (dat1 V c).arrAt 5 cfg1.N = k1_pay15 (bitsAt V c) (chain V c 11 last_lt) (iblk1 V c 3 last) := by
  refine (dat1 V c).arrAt_eq_of_cover 5 _ (fun t hf => ?_) fun i => ⟨last, (flush1_5 last).mpr rfl, ?_⟩
  · obtain rfl := point_of_flush5 t hf
    rw [flushed5, ← last_5 V c]
    exact (Memref.read_access_unit_zero (Elt F) main_v3_0 (off5 last) (fun a => by rw [congrFun (off5 last) a]; simp) _).symm
  · show i ∈ ((View.whole main_v3_0).slice (win1_5.rect last)).set
    rw [View.set_slice_whole, Rect.mem_set_unit]
    intro a
    have h0 := congrFun (off5 last) a
    have h1 := (i a).isLt
    refine ⟨?_, ?_⟩
    · exact le_trans (le_of_eq h0) (Nat.zero_le _)
    · exact lt_of_lt_of_eq (lt_of_lt_of_eq h1 (Nat.zero_add _).symm) (congrArg (· + main_v3_0.ty.shape.size a) h0.symm)

theorem final_6 (c : Dev nD) : (dat1 V c).arrAt 6 cfg1.N = fun _ => Scale.pow2 (bitsAt V c) := by
  refine (dat1 V c).arrAt_eq_of_cover 6 _ (fun t hf => ?_) fun i => ⟨last, (flush1_6 last).mpr rfl, ?_⟩
  · obtain rfl := point_of_flush6 t hf
    rw [flushed6, show (outsAt1 V c last.val last.isLt).2.1 = _ from last_6 V c]
    exact (Memref.read_access_unit_zero (Elt F) main_v3_1 (off6 last) (fun a => by rw [congrFun (off6 last) a]; simp) _).symm
  · show i ∈ ((View.whole main_v3_1).slice (win1_6.rect last)).set
    rw [View.set_slice_whole, Rect.mem_set_unit]
    intro a
    have h0 := congrFun (off6 last) a
    have h1 := (i a).isLt
    refine ⟨?_, ?_⟩
    · exact le_trans (le_of_eq h0) (Nat.zero_le _)
    · exact lt_of_lt_of_eq (lt_of_lt_of_eq h1 (Nat.zero_add _).symm) (congrArg (· + main_v3_1.ty.shape.size a) h0.symm)

theorem final_7 (c : Dev nD) : (dat1 V c).arrAt 7 cfg1.N = shift (histAt V c) (k1_pay3 (iblk1 V c 4 last)) := by
  refine (dat1 V c).arrAt_eq_of_cover 7 _ (fun t hf => ?_) fun i => ⟨last, (flush1_7 last).mpr rfl, ?_⟩
  · obtain rfl := point_of_flush7 t hf
    rw [flushed7, ← last_7 V c]
    exact (Memref.read_access_unit_zero (Elt F) main_v3_2 (off7 last) (fun a => by rw [congrFun (off7 last) a]; simp) _).symm
  · show i ∈ ((View.whole main_v3_2).slice (win1_7.rect last)).set
    rw [View.set_slice_whole, Rect.mem_set_unit]
    intro a
    have h0 := congrFun (off7 last) a
    have h1 := (i a).isLt
    refine ⟨?_, ?_⟩
    · exact le_trans (le_of_eq h0) (Nat.zero_le _)
    · exact lt_of_lt_of_eq (lt_of_lt_of_eq h1 (Nat.zero_add _).symm) (congrArg (· + main_v3_2.ty.shape.size a) h0.symm)

/-! ## The blocks the body reads -/

theorem whole_hist (c : Dev nD) : (iblk1 V c 2 last : Vec F S16 .f32) = V c main_arg1 := by
  have hz : (fun a => win1_2.index last a * main_arg1.ty.shape.size a) = fun _ => 0 := by funext a; revert a; decide +kernel
  exact Memref.read_access_unit_zero (Elt F) main_arg1 hz (fun a => by rw [congrFun hz a]; simp) (V c main_arg1)
theorem whole_ws (c : Dev nD) : (iblk1 V c 3 last : Vec F S1x2880 .f32) = V c main_v2 := by
  have hz : (fun a => win1_3.index last a * main_v2.ty.shape.size a) = fun _ => 0 := by funext a; revert a; decide +kernel
  exact Memref.read_access_unit_zero (Elt F) main_v2 hz (fun a => by rw [congrFun hz a]; simp) (V c main_v2)
theorem whole_amax (c : Dev nD) : (iblk1 V c 4 last : Vec F S8x128 .f32) = V c main_v1_1 := by
  have hz : (fun a => win1_4.index last a * main_v1_1.ty.shape.size a) = fun _ => 0 := by funext a; revert a; decide +kernel
  exact Memref.read_access_unit_zero (Elt F) main_v1_1 hz (fun a => by rw [congrFun hz a]; simp) (V c main_v1_1)
theorem idx_codes : ∀ t : Fin cfg1.N, win1_0.index t 0 = 0 ∧ win1_0.index t 1 = t.val :=
  (by decide +kernel : ∀ t : Fin grid1.N, win1_0.index t 0 = 0 ∧ win1_0.index t 1 = t.val)
theorem idx_w : ∀ t : Fin cfg1.N, win1_1.index t 0 = t.val ∧ win1_1.index t 1 = 0 :=
  (by decide +kernel : ∀ t : Fin grid1.N, win1_1.index t 0 = t.val ∧ win1_1.index t 1 = 0)

/-- The codes' block of point `t`: columns from `1024 t`. -/
theorem block_codes (c : Dev nD) (t : Fin cfg1.N) (r : Fin 256) (k : Fin 1024) (h : 1024 * t.val + k.val < 12288) :
    (iblk1 V c 0 t : Vec F S256x1024 .fp8e4m3) (ix2 r k) = (V c main_v1_0 : Vec F S256x12288 .fp8e4m3) (ix2 r ⟨1024 * t.val + k.val, h⟩) := by
  obtain ⟨h0, h1⟩ := idx_codes t
  unfold iblk1
  rw [View.read_apply]
  show V c main_v1_0 _ = V c main_v1_0 _
  congr 1
  funext a
  apply Fin.ext
  match a with
  | ⟨0, _⟩ => show win1_0.index t 0 * 256 + 1 * r.val = r.val; rw [h0]; omega
  | ⟨1, _⟩ => show win1_0.index t 1 * 1024 + 1 * k.val = 1024 * t.val + k.val; rw [h1]; omega

/-- The weights' block of point `t`: rows from `1024 t`. -/
theorem block_w (c : Dev nD) (t : Fin cfg1.N) (k : Fin 1024) (q : Fin 2880) (h : 1024 * t.val + k.val < 12288) :
    (iblk1 V c 1 t : Vec F S1024x2880 .fp8e4m3) (ix2 k q) = (V c main_arg3 : Vec F S12288x2880 .fp8e4m3) (ix2 ⟨1024 * t.val + k.val, h⟩ q) := by
  obtain ⟨h0, h1⟩ := idx_w t
  unfold iblk1
  rw [View.read_apply]
  show V c main_arg3 _ = V c main_arg3 _
  congr 1
  funext a
  apply Fin.ext
  match a with
  | ⟨0, _⟩ => show win1_1.index t 0 * 1024 + 1 * k.val = 1024 * t.val + k.val; rw [h0]; omega
  | ⟨1, _⟩ => show win1_1.index t 1 * 2880 + 1 * q.val = q.val; rw [h1]; omega

end Cert.KernelIdeal.Value

end
-- ==== Proof.Had.lean ====
/- The Hadamard matrix of order 2^f by binary places, and the transform of 1024 reals computed two ways. -/
module

public import Mathlib.Data.EReal.Basic
public import Mathlib.Data.EReal.Operations
public import Mathlib.Algebra.BigOperators.Fin
public import Mathlib.Algebra.BigOperators.Intervals
public import Mathlib.Tactic.Ring
public import Mathlib.Tactic.IntervalCases
public import Mathlib.Tactic.NormNum

@[expose] public section

noncomputable section

namespace Cert.Had

/-- The product over the lowest `f` binary places of `n` of the factor -1 for each place that is set. -/
def sg : ℕ → ℕ → ℤ
  | 0, _ => 1
  | f + 1, n => (1 - 2 * ((n % 2 : ℕ) : ℤ)) * sg f (n / 2)

theorem sg_add (g a : ℕ) : ∀ (f b : ℕ), b < 2 ^ f → sg (f + g) (2 ^ f * a + b) = sg g a * sg f b
  | 0, b, h => by
    have : b = 0 := by simpa using h
    subst this; simp [sg]
  | f + 1, b, h => by
    have e : f + 1 + g = (f + g) + 1 := by ring
    have h1 : (2 ^ (f + 1) * a + b) % 2 = b % 2 := by
      rw [pow_succ, show 2 ^ f * 2 * a = 2 * (2 ^ f * a) by ring]; omega
    have h2 : (2 ^ (f + 1) * a + b) / 2 = 2 ^ f * a + b / 2 := by
      rw [pow_succ, show 2 ^ f * 2 * a = 2 * (2 ^ f * a) by ring]; omega
    rw [e]
    show _ * sg (f + g) _ = _
    rw [h1, h2, sg_add g a f (b / 2) (by rw [pow_succ] at h; omega)]
    show _ = sg g a * (_ * sg f (b / 2))
    ring

theorem and_split (f a b a' b' : ℕ) (h : b < 2 ^ f) (h' : b' < 2 ^ f) :
    (2 ^ f * a + b) &&& (2 ^ f * a' + b') = 2 ^ f * (a &&& a') + (b &&& b') := by
  have hb : b &&& b' < 2 ^ f := lt_of_le_of_lt Nat.and_le_left h
  refine Nat.eq_of_testBit_eq fun i => ?_
  rw [Nat.testBit_and, Nat.testBit_two_pow_mul_add _ h, Nat.testBit_two_pow_mul_add _ h', Nat.testBit_two_pow_mul_add _ hb]
  split <;> simp [Nat.testBit_and]

/-- The sign at a row and a column of 2^(f+g) places is the product of the signs of their high and of their low parts. -/
theorem sg_pair (f g a b a' b' : ℕ) (h : b < 2 ^ f) (h' : b' < 2 ^ f) :
    sg (f + g) ((2 ^ f * a + b) &&& (2 ^ f * a' + b')) = sg g (a &&& a') * sg f (b &&& b') := by
  rw [and_split f a b a' b' h h', sg_add _ _ _ _ (lt_of_le_of_lt Nat.and_le_left h)]

/-- Entry `q` of the transform of 1024 reals. -/
def T (x : ℕ → ℝ) (q : ℕ) : ℝ := ∑ p ∈ Finset.range 1024, x p * (sg 10 (p &&& q) : ℝ)

theorem sum_blocks (f : ℕ → ℝ) (b : ℕ) : ∀ n : ℕ, (∑ p ∈ Finset.range (b * n), f p) = ∑ i ∈ Finset.range n, ∑ j ∈ Finset.range b, f (b * i + j)
  | 0 => by simp
  | n + 1 => by rw [Nat.mul_succ, Finset.sum_range_add, sum_blocks f b n, Finset.sum_range_succ]

/-- By blocks of 2^f entries. -/
theorem T_blocks (x : ℕ → ℝ) (f g : ℕ) (hfg : f + g = 10) (a b : ℕ) (hb : b < 2 ^ f) :
    T x (2 ^ f * a + b) = ∑ i ∈ Finset.range (2 ^ g), (sg g (i &&& a) : ℝ) * ∑ j ∈ Finset.range (2 ^ f), x (2 ^ f * i + j) * (sg f (j &&& b) : ℝ) := by
  unfold T
  rw [show 1024 = 2 ^ f * 2 ^ g by rw [← pow_add, hfg]; norm_num, sum_blocks]
  refine Finset.sum_congr rfl fun i _ => ?_
  rw [Finset.mul_sum]
  refine Finset.sum_congr rfl fun j hj => ?_
  rw [← hfg, sg_pair f g i j a b (Finset.mem_range.mp hj) hb]
  push_cast
  ring

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sign as an extended real. -/
def se (f n : ℕ) : EReal := ((sg f n : ℝ) : EReal)

/-- The product of the `c`-th block of 256 entries with the matrix of order 256, at column `q`. -/
def kz (x : ℕ → EReal) (c q : ℕ) : EReal := ∑ p : Fin 256, x (256 * c + p.val) * se 8 (p.val &&& q)

theorem kz_coe (x : ℕ → ℝ) (c q : ℕ) :
    kz (fun n => (x n : EReal)) c q = ((∑ p ∈ Finset.range 256, x (256 * c + p) * (sg 8 (p &&& q) : ℝ) : ℝ) : EReal) := by
  unfold kz se
  rw [Finset.sum_range, coe_sum]
  simp only [EReal.coe_mul]

/-- The kernel's four combinations of the blocks' products. -/
def kcomb (x : ℕ → EReal) (q : ℕ) : ℕ → EReal
  | 0 => (kz x 0 q + kz x 1 q) + (kz x 2 q + kz x 3 q)
  | 1 => (kz x 0 q - kz x 1 q) + (kz x 2 q - kz x 3 q)
  | 2 => (kz x 0 q + kz x 1 q) - (kz x 2 q + kz x 3 q)
  | _ => (kz x 0 q - kz x 1 q) - (kz x 2 q - kz x 3 q)

/-- They are the transform's four blocks. -/
theorem kcomb_eq (x : ℕ → ℝ) (c q : ℕ) (hc : c < 4) (hq : q < 256) :
    kcomb (fun n => (x n : EReal)) q c = (T x (256 * c + q) : EReal) := by
  have h := T_blocks x 8 2 rfl c q hq
  rw [show (2 : ℕ) ^ 8 = 256 by norm_num, show (2 : ℕ) ^ 2 = 4 by norm_num] at h
  rw [h]
  simp only [Finset.sum_range_succ (n := 3), Finset.sum_range_succ (n := 2), Finset.sum_range_succ (n := 1), Finset.sum_range_one]
  interval_cases c <;> simp only [kcomb, kz_coe, ← EReal.coe_add, ← EReal.coe_sub] <;> congr 1 <;>
    simp [sg] <;> ring

/-- The transform in two steps of order 32: along the places of low order, then along those of high order. -/
theorem two_step (x : ℕ → ℝ) (r q : ℕ) (hq : q < 32) :
    (∑ i : Fin 32, se 5 (r &&& i.val) * ∑ j : Fin 32, (x (32 * i.val + j.val) : EReal) * se 5 (q &&& j.val)) = (T x (32 * r + q) : EReal) := by
  have h := T_blocks x 5 5 rfl r q hq
  rw [show (2 : ℕ) ^ 5 = 32 by norm_num] at h
  rw [h, Finset.sum_range, coe_sum]
  refine Finset.sum_congr rfl fun i _ => ?_
  rw [EReal.coe_mul, Finset.sum_range, coe_sum, Nat.and_comm r]
  unfold se
  congr 1
  refine Finset.sum_congr rfl fun j _ => ?_
  rw [EReal.coe_mul, Nat.and_comm q]

end Cert.Had

end
-- ==== Proof.MaxLaws.lean ====
/- Maxima over the extended reals, characterised by their upper bounds. -/
module

public import Idealize.ShloMosaic.PureOps.Reduce
public import Idealize.ShloMosaic.PureOps.Ideal
public import Idealize.ShloMosaic.PureOps.Ideal.Laws
public import Idealize.ShloMosaic.Lib.ValueIdxCore
public import Idealize.ShloMosaic.Lib.KernelVsHost
public import Idealize.ShloMosaic.Lib.IdealHost
public import Idealize.ShloMosaic.Lib.Pipeline.Value
public import proofs.«01_k».proof.Proof.Scale

@[expose] public section

noncomputable section

open Idealize.ShloMosaic Idealize.ShloMosaic.ValueIdx

namespace Cert.MaxLaws

theorem neg_inf : (FloatOps.ofBits .f32 0xFF800000#32 : Ideal .f32) = (⊥ : EReal) := by
  show Ideal.ofBits .f32 0xFF800000#32 = ⊥
  have h1 : ((0xFF800000#32 : BitVec 32).extractLsb' 31 1 == 1#1) = true := by decide
  have h2 : ((0xFF800000#32 : BitVec 32).extractLsb' 23 8).toNat = 255 := by decide
  have h3 : ((0xFF800000#32 : BitVec 32).extractLsb' 0 23).toNat = 0 := by decide
  unfold Ideal.ofBits Ideal.ieee
  simp only [Nat.reduceAdd, h1, h2, h3]
  norm_num

/-- A host maximum from minus infinity is at most `z` when every entry it runs over is. -/
theorem host_le {s t u : Shape} {axes : List (Fin s.rank)} (x : FVec Ideal s .f32) (h : s.ReducesTo axes t) (hu : 0 < u.numel) (j : t.Idx) (z : EReal) :
    (show EReal from (Host.reduce FloatOps.maximumf x (constant (F := Ideal) u .f32 0xFF800000#32) h hu j : Ideal .f32)) ≤ z ↔ ∀ i, h.drop i = j → (x i : EReal) ≤ z := by
  rw [Host.reduce_eq_fold FloatOps.maximumf x _ h hu j]
  refine (Finset.fold_max_le (β := EReal) z).trans ?_
  constructor
  · intro hh i hi
    exact hh.2 i (Finset.mem_filter.mpr ⟨Finset.mem_univ _, hi⟩)
  · intro hh
    refine ⟨?_, fun i hi => hh i (Finset.mem_filter.mp hi).2⟩
    show (FloatOps.ofBits .f32 0xFF800000#32 : Ideal .f32) ≤ z
    rw [neg_inf]; exact bot_le

/-- The same for a kernel's maximum. -/
theorem kernel_le {s t : Shape} {axes : List (Fin s.rank)} (x : FVec Ideal s .f32) (h : s.Reduces axes t) (hφ) (hacc) (j : t.Idx) (z : EReal) :
    (show EReal from (multiReduction .maximumf axes t x 0xFF800000#32 h hφ hacc j : Ideal .f32)) ≤ z ↔ ∀ i, h.drop i = j → (x i : EReal) ≤ z := by
  rw [multiReduction_maximumf_eq_fold]
  refine (Finset.fold_max_le (β := EReal) z).trans ?_
  constructor
  · intro hh i hi
    exact hh.2 i (Finset.mem_filter.mpr ⟨Finset.mem_univ _, hi⟩)
  · intro hh
    refine ⟨?_, fun i hi => hh i (Finset.mem_filter.mp hi).2⟩
    show (FloatOps.ofBits .f32 0xFF800000#32 : Ideal .f32) ≤ z
    rw [neg_inf]; exact bot_le

/-- A reshape has the same entries. -/
theorem cast_forall {s t : Shape} {α : Type} (x : s.Idx → α) (h : s.ShapeCasts t) (p : α → Prop) :
    (∀ j, p (shapeCast t x h j)) ↔ ∀ i, p (x i) := by
  unfold shapeCast
  constructor
  · intro hh i
    have := hh ((Shape.reshapeEquiv h).symm i)
    simpa using this
  · intro hh j
    exact hh _

theorem hmax_le (h : Fin 16 → Ideal .f32) (z : EReal) : (Scale.hmax h : EReal) ≤ z ↔ ∀ k, (h k : EReal) ≤ z := by
  unfold Scale.hmax
  simp only [show ∀ a b : Ideal .f32, (Scalar.maximumf a b : Ideal .f32) = (max (a : EReal) (b : EReal) : EReal) from fun _ _ => rfl]
  simp only [max_le_iff]
  constructor
  · intro hh k
    obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := hh
    fin_cases k <;> assumption
  · intro hh
    simp only [hh, and_self]

theorem eq_of_le {a b : EReal} (h : ∀ z, a ≤ z ↔ b ≤ z) : a = b := le_antisymm ((h b).mpr le_rfl) ((h a).mp le_rfl)

end Cert.MaxLaws

end
-- ==== Proof.RotRef.lean ====
/- What the rotation's reference computes, entry by entry, over the extended reals. -/
module

public import proofs.«01_k».proof.Proof.Had
public import proofs.«01_k».proof.Proof.MaxLaws
public import proofs.«01_k».proof.Proof.Gen.ReferenceIdeal.Value
public import Idealize.ShloMosaic.Lib.ValueIdxCore
public import Idealize.ShloMosaic.Lib.ValueLayout
public import Idealize.ShloMosaic.Lib.StackMember
public import Idealize.ShloMosaic.Lib.Pipeline.Value

@[expose] public section

set_option maxRecDepth 16384

noncomputable section

namespace Cert.RotRef

open Idealize.ShloMosaic
open Idealize.ShloMosaic.TcCoe Idealize.ShloMosaic.ValueIdx
open Cert.ReferenceIdeal Cert.ReferenceIdeal.Gen

/-! ## The matrix of order 32 -/

section Term
variable {F : FTy → Type} [FloatOps F]

/-- The Hadamard matrix of order 32. -/
def H32 : FVec F S32x32 .f32 :=
  sitofp .f32 (subi (broadcastInDim S32x32 ![] bcast_S_S32x32 (constantI S_ 32 1#32)) (muli (broadcastInDim S32x32 ![] bcast_S_S32x32 (constantI S_ 32 2#32)) (andi (ctpop (andi (iotaInDim S32x32 32 0) (iotaInDim S32x32 32 1))) (broadcastInDim S32x32 ![] bcast_S_S32x32 (constantI S_ 32 1#32)))))

/-- The step along the places of low order. -/
def stepLow (x : FVec F S256x12x32x32 .bf16) : FVec F S256x12x32x32 .f32 :=
  Host.dotGeneral dot_S256x12x32x32_S32x32_S256x12x32x32_3_1_012_0_n_n none x (truncf .bf16 (H32 (F := F)) bitsLt_bf16_f32)
/-- The step along the places of high order. -/
def stepHigh (z : FVec F S256x12x32x32 .f32) : FVec F S256x12x32x32 .f32 :=
  transpose S256x12x32x32 [1, 2, 0, 3] (Host.dotGeneral dot_S32x32_S256x12x32x32_S32x256x12x32_1_2_0_013_n_n (some .fp32) (H32 (F := F)) z) transposes_S32x256x12x32_S256x12x32x32_1_2_0_3
/-- The step over the groups. -/
def stepGroup (had : FVec F S12x12 .f32) (z : FVec F S256x12x32x32 .f32) : FVec F S256x12x32x32 .f32 :=
  transpose S256x12x32x32 [1, 0, 2, 3] (Host.dotGeneral dot_S12x12_S256x12x32x32_S12x256x32x32_1_1_0_023_n_n (some .fp32) had z) transposes_S12x256x32x32_S256x12x32x32_1_0_2_3
/-- The rotated rows. -/
def rot (x : FVec F S2x128x12288 .bf16) (had : FVec F S12x12 .f32) : FVec F S256x12288 .f32 :=
  shapeCast S256x12288 (mulf (stepGroup had (stepHigh (stepLow (shapeCast S256x12x32x32 x shapeCasts_S2x128x12288_S256x12x32x32)))) (broadcastInDim S256x12x32x32 ![] bcast_S_S256x12x32x32 (constant S_ .f32 0x3C13CD3A#32))) shapeCasts_S256x12x32x32_S256x12288

end Term

/-- The word of an entry, from the conjunction of its row and column: one minus twice the parity. -/
def word (v : BitVec 32) : BitVec 32 := IntOp.subi 1#32 (IntOp.muli 2#32 (IntOp.andi (IntOp.ctpop v) 1#32))

theorem word_eq : ∀ v : Fin 32, (word (BitVec.ofNat 32 v.val)).toInt = Had.sg 5 v.val := by decide +kernel

theorem had32 (p q : Fin 32) : (H32 (F := Ideal) (ix2 p q) : EReal) = Had.se 5 (p.val &&& q.val) := by
  have e : (H32 (F := Ideal) (ix2 p q) : EReal)
      = ((((word (IntOp.andi (BitVec.ofNat 32 p.val) (BitVec.ofNat 32 q.val))).toInt : ℤ) : ℝ) : EReal) := rfl
  have hb : IntOp.andi (BitVec.ofNat 32 p.val) (BitVec.ofNat 32 q.val) = BitVec.ofNat 32 (p.val &&& q.val) := by
    unfold IntOp.andi
    exact (BitVec.ofNat_and ..).symm
  have hlt : p.val &&& q.val < 32 := lt_of_le_of_lt Nat.and_le_left p.isLt
  rw [e, hb]
  have := word_eq ⟨p.val &&& q.val, hlt⟩
  dsimp only at this
  rw [this]
  rfl

/-! ## The three steps -/

theorem stepLow_apply (x : FVec Ideal S256x12x32x32 .bf16) (t : Fin 256) (k : Fin 12) (i q : Fin 32) :
    (stepLow x (ix4 t k i q) : EReal) = ∑ j : Fin 32, (x (ix4 t k i j) : EReal) * Had.se 5 (q.val &&& j.val) := by
  unfold stepLow
  simp only [Host.dotGeneral]
  rw [Ideal.dotGeneral_apply, ← Equiv.sum_comp (contrEquiv1 dot_S256x12x32x32_S32x32_S256x12x32x32_3_1_012_0_n_n 32 rfl rfl).symm]
  refine Finset.sum_congr rfl fun j _ => ?_
  have c4 := contrEquiv1_symm_val dot_S256x12x32x32_S32x32_S256x12x32x32_3_1_012_0_n_n 32 rfl rfl j
  have l4 : dot_S256x12x32x32_S32x32_S256x12x32x32_3_1_012_0_n_n.lhsIdx (ix4 t k i q) ((contrEquiv1 _ 32 rfl rfl).symm j) = ix4 t k i j := by
    funext ax; apply Fin.ext
    match ax with
    | ⟨0, _⟩ => rfl
    | ⟨1, _⟩ => rfl
    | ⟨2, _⟩ => rfl
    | ⟨3, _⟩ => exact c4
  have r4 : dot_S256x12x32x32_S32x32_S256x12x32x32_3_1_012_0_n_n.rhsIdx (ix4 t k i q) ((contrEquiv1 _ 32 rfl rfl).symm j) = ix2 q j := by
    funext ax; apply Fin.ext
    match ax with
    | ⟨0, _⟩ => rfl
    | ⟨1, _⟩ => exact c4
  rw [l4, r4, ← had32 q j]
  rfl

theorem stepHigh_apply (z : FVec Ideal S256x12x32x32 .f32) (t : Fin 256) (k : Fin 12) (r q : Fin 32) :
    (stepHigh z (ix4 t k r q) : EReal) = ∑ i : Fin 32, Had.se 5 (r.val &&& i.val) * (z (ix4 t k i q) : EReal) := by
  unfold stepHigh
  rw [transpose_apply [1, 2, 0, 3] _ transposes_S32x256x12x32_S256x12x32x32_1_2_0_3 (ix4 t k r q) (ix4 r t k q) (fun b => by fin_cases b <;> rfl)]
  simp only [Host.dotGeneral]
  rw [Ideal.dotGeneral_apply, ← Equiv.sum_comp (contrEquiv1 dot_S32x32_S256x12x32x32_S32x256x12x32_1_2_0_013_n_n 32 rfl rfl).symm]
  refine Finset.sum_congr rfl fun i _ => ?_
  have c4 := contrEquiv1_symm_val dot_S32x32_S256x12x32x32_S32x256x12x32_1_2_0_013_n_n 32 rfl rfl i
  have l4 : dot_S32x32_S256x12x32x32_S32x256x12x32_1_2_0_013_n_n.lhsIdx (ix4 r t k q) ((contrEquiv1 _ 32 rfl rfl).symm i) = ix2 r i := by
    funext ax; apply Fin.ext
    match ax with
    | ⟨0, _⟩ => rfl
    | ⟨1, _⟩ => exact c4
  have r4 : dot_S32x32_S256x12x32x32_S32x256x12x32_1_2_0_013_n_n.rhsIdx (ix4 r t k q) ((contrEquiv1 _ 32 rfl rfl).symm i) = ix4 t k i q := by
    funext ax; apply Fin.ext
    match ax with
    | ⟨0, _⟩ => rfl
    | ⟨1, _⟩ => rfl
    | ⟨2, _⟩ => exact c4
    | ⟨3, _⟩ => rfl
  rw [l4, r4, had32]

theorem stepGroup_apply (had : FVec Ideal S12x12 .f32) (z : FVec Ideal S256x12x32x32 .f32) (t : Fin 256) (a : Fin 12) (r q : Fin 32) :
    (stepGroup had z (ix4 t a r q) : EReal) = ∑ k : Fin 12, (had (ix2 a k) : EReal) * (z (ix4 t k r q) : EReal) := by
  unfold stepGroup
  rw [transpose_apply [1, 0, 2, 3] _ transposes_S12x256x32x32_S256x12x32x32_1_0_2_3 (ix4 t a r q) (ix4 a t r q) (fun b => by fin_cases b <;> rfl)]
  simp only [Host.dotGeneral]
  rw [Ideal.dotGeneral_apply, ← Equiv.sum_comp (contrEquiv1 dot_S12x12_S256x12x32x32_S12x256x32x32_1_1_0_023_n_n 12 rfl rfl).symm]
  refine Finset.sum_congr rfl fun k _ => ?_
  have c4 := contrEquiv1_symm_val dot_S12x12_S256x12x32x32_S12x256x32x32_1_1_0_023_n_n 12 rfl rfl k
  have l4 : dot_S12x12_S256x12x32x32_S12x256x32x32_1_1_0_023_n_n.lhsIdx (ix4 a t r q) ((contrEquiv1 _ 12 rfl rfl).symm k) = ix2 a k := by
    funext ax; apply Fin.ext
    match ax with
    | ⟨0, _⟩ => rfl
    | ⟨1, _⟩ => exact c4
  have r4 : dot_S12x12_S256x12x32x32_S12x256x32x32_1_1_0_023_n_n.rhsIdx (ix4 a t r q) ((contrEquiv1 _ 12 rfl rfl).symm k) = ix4 t k r q := by
    funext ax; apply Fin.ext
    match ax with
    | ⟨0, _⟩ => rfl
    | ⟨1, _⟩ => exact c4
    | ⟨2, _⟩ => rfl
    | ⟨3, _⟩ => rfl
  rw [l4, r4]

/-! ## The rotated rows -/

/-- The argument as rows. -/
abbrev flat (x : FVec Ideal S2x128x12288 .bf16) (h : S2x128x12288.ShapeCasts S256x12288) : FVec Ideal S256x12288 .bf16 := shapeCast S256x12288 x h

theorem split_apply (x : FVec Ideal S2x128x12288 .bf16) (h : S2x128x12288.ShapeCasts S256x12288) (t : Fin 256) (k : Fin 12) (i j : Fin 32) (n : Fin 12288)
    (hn : n.val = 1024 * k.val + 32 * i.val + j.val) :
    shapeCast S256x12x32x32 x shapeCasts_S2x128x12288_S256x12x32x32 (ix4 t k i j) = flat x h (ix2 t n) := by
  show _ = x (Shape.reshapeEquiv h (ix2 t n))
  refine shapeCast_apply x _ _ _ ?_
  rw [Shape.rowMajor_reshapeEquiv, Shape.rowMajor_val_two, Shape.rowMajor_val_four]
  show t.val * 12288 + n.val = ((t.val * 12 + k.val) * 32 + i.val) * 32 + j.val
  omega

theorem rot_apply (x : FVec Ideal S2x128x12288 .bf16) (had : FVec Ideal S12x12 .f32) (xr : Fin 256 → ℕ → ℝ) (h : S2x128x12288.ShapeCasts S256x12288)
    (hx : ∀ (t : Fin 256) (n : Fin 12288), (flat x h (ix2 t n) : EReal) = (xr t n.val : EReal))
    (t : Fin 256) (n : Fin 12288) (a : Fin 12) (q : ℕ) (hq : q < 1024) (hn : n.val = 1024 * a.val + q) :
    (rot x had (ix2 t n) : EReal)
      = (∑ k : Fin 12, (had (ix2 a k) : EReal) * (Had.T (fun p => xr t (1024 * k.val + p)) q : EReal)) * Ideal.ofBits .f32 0x3C13CD3A#32 := by
  unfold rot
  have hr : q / 32 < 32 := by omega
  have hs : q % 32 < 32 := by omega
  refine (shapeCast_apply _ _ (ix2 t n) (ix4 t a ⟨q / 32, hr⟩ ⟨q % 32, hs⟩) ?_).trans ?_
  · rw [Shape.rowMajor_val_two, Shape.rowMajor_val_four]
    show ((t.val * 12 + a.val) * 32 + q / 32) * 32 + q % 32 = t.val * 12288 + n.val
    omega
  show (_ : EReal) * Ideal.ofBits .f32 0x3C13CD3A#32 = _
  refine congrArg (fun v : EReal => v * Ideal.ofBits .f32 0x3C13CD3A#32) ?_
  refine (stepGroup_apply had _ t a _ _).trans (Finset.sum_congr rfl fun k _ => congrArg (fun v : EReal => (had (ix2 a k) : EReal) * v) ?_)
  rw [stepHigh_apply]
  have e := Had.two_step (fun p => xr t (1024 * k.val + p)) (q / 32) (q % 32) hs
  rw [show 32 * (q / 32) + q % 32 = q by omega] at e
  rw [← e]
  refine Finset.sum_congr rfl fun i _ => congrArg (fun v : EReal => Had.se 5 (q / 32 &&& i.val) * v) ?_
  refine (stepLow_apply _ t k i _).trans (Finset.sum_congr rfl fun j _ => congrArg (fun v : EReal => v * Had.se 5 (q % 32 &&& j.val)) ?_)
  have hb : 1024 * k.val + 32 * i.val + j.val < 12288 := by have := k.isLt; have := i.isLt; have := j.isLt; omega
  rw [split_apply x h t k i j ⟨_, hb⟩ rfl, hx]
  exact congrArg (fun p : ℕ => (xr t p : EReal)) (Nat.add_assoc _ _ _)

/-! ## The greatest magnitude -/

theorem max_le (y : FVec Ideal S256x12288 .f32) (z : EReal) :
    (show EReal from (Host.reduce FloatOps.maximumf (Host.absf y) (constant (F := Ideal) S_ .f32 0xFF800000#32) reducesTo_S256x12288_S_d0_1 h_S_ ix0 : Ideal .f32)) ≤ z
      ↔ ∀ (R : Fin 256) (n : Fin 12288), max (y (ix2 R n) : EReal) (-(y (ix2 R n) : EReal)) ≤ z := by
  refine (MaxLaws.host_le _ _ _ ix0 z).trans ?_
  constructor
  · intro hh R n
    exact hh (ix2 R n) (funext fun a => a.elim0)
  · intro hh i _
    rw [eq_ix2 i]
    exact hh (i 0) (i 1)

end Cert.RotRef

end
-- ==== Proof.RefVal.lean ====
/- The reference's values: the scale, the history and the output that its host operations and its call leave. -/
module

public import proofs.«01_k».proof.Proof.Scale
public import proofs.«01_k».proof.Proof.RotRef
public import proofs.«01_k».proof.Proof.Gen.ReferenceIdeal.Value
public import Idealize.ShloMosaic.Lib.StableHlo.RunRead
public import Idealize.ShloMosaic.Lib.ValueIdxCore
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Idealize.ShloMosaic.ValueIdx Cert.ReferenceIdeal.Facts

variable {F : FTy → Type} [FloatOps F]
variable (m : (ℓ : Loc nD τ sig) → Buf (Elt F) ℓ)

/-- The magnitude of the greatest history entry over 448. -/
def rmag (h : FVec F S16 .f32) : FVec F S_ .f32 :=
  Host.absf (mulf (Host.reduce FloatOps.maximumf h (constant S_ .f32 0xFF800000#32) reducesTo_S16_S_d0 h_S_) (constant S_ .f32 0x3B124925#32))
/-- The powers of two from 2^-126 to 2^127. -/
def rpow : FVec F S254 .f32 :=
  Host.powf (broadcastInDim S254 ![] bcast_S_S254 (constant S_ .f32 0x40000000#32))
    (subf (sitofp .f32 (iotaInDim S254 32 0)) (broadcastInDim S254 ![] bcast_S_S254 (constant S_ .f32 0x42FC0000#32)))
/-- The greatest of those powers at most `v`, or 0. -/
def rbelow (v : FVec F S_ .f32) : FVec F S_ .f32 :=
  Host.reduce FloatOps.maximumf (select (cmpf .ole (rpow (F := F)) (broadcastInDim S254 ![] bcast_S_S254 v)) rpow
    (broadcastInDim S254 ![] bcast_S_S254 (constant S_ .f32 0x00000000#32))) (constant S_ .f32 0xFF800000#32) reducesTo_S254_S_d0 h_S_
/-- The scale from that power. -/
def rscale (b : FVec F S_ .f32) : FVec F S_ .f32 :=
  select (cmpf .oeq b (constant S_ .f32 0x00000000#32)) (constant S_ .f32 0x3F800000#32) (mulf (constant S_ .f32 0x40000000#32) b)

/-- The codes of the rows `y` at the scale `s`. -/
def rcodes (y : FVec F S256x12288 .f32) (s : FVec F S_ .f32) : FVec F S256x12288 .fp8e4m3 :=
  Host.convertf .fp8e4m3 (minimumf (broadcastInDim S256x12288 ![] bcast_S_S256x12288 (constant S_ .f32 0x43E00000#32))
    (maximumf (broadcastInDim S256x12288 ![] bcast_S_S256x12288 (constant S_ .f32 0xC3E00000#32))
      (mulf y (broadcastInDim S256x12288 ![] bcast_S_S256x12288 (Host.divf (constant S_ .f32 0x3F800000#32) s)))))

/-! ## What the host operations leave -/

theorem V_v47 (c : Dev nD) : V m c main_v47 = shapeCast S1 (rscale (rbelow (rmag (m ((c : Thread nD τ).loc main_arg1))))) shapeCasts_S_S1 := by
  after_reads_simp
  rfl
theorem V_v58 (c : Dev nD) : V m c main_v58 = shapeCast S1x1 (rscale (rbelow (rmag (m ((c : Thread nD τ).loc main_arg1))))) shapeCasts_S_S1x1 := by
  after_reads_simp
  rfl
theorem V_v59 (c : Dev nD) : V m c main_v59 = shapeCast S1x2880 (m ((c : Thread nD τ).loc main_arg4)) shapeCasts_S2880_S1x2880 := by
  after_reads_simp
  rfl
theorem V_v52 (c : Dev nD) : V m c main_v52 = rcodes (RotRef.rot (m ((c : Thread nD τ).loc main_arg0)) (m ((c : Thread nD τ).loc main_arg2))) (rscale (rbelow (rmag (m ((c : Thread nD τ).loc main_arg1))))) := by
  after_reads_simp
  rfl
theorem V_v57 (c : Dev nD) : V m c main_v57 = concatenate S16 0 [⟨S15, extractStridedSlice S15 ![1] (m ((c : Thread nD τ).loc main_arg1)) slices_S16_S15_1⟩,
    ⟨S1, broadcastInDim S1 ![] bcast_S_S1 (Host.reduce FloatOps.maximumf (Host.absf (RotRef.rot (m ((c : Thread nD τ).loc main_arg0)) (m ((c : Thread nD τ).loc main_arg2)))) (constant S_ .f32 0xFF800000#32) reducesTo_S256x12288_S_d0_1 h_S_)⟩]
    concatenates_S15_S1_S16_d0 := by
  after_reads_simp
  have h53 : StableHlo.upto (List.flatten [hostOps0, hostOps0_1, hostOps0_2, hostOps0_3, hostOps0_4, hostOps0_5, hostOps0_6]) (fun b => m (c, b)) 85 (Proc.tc.devRef main_v53)
      = extractStridedSlice S15 ![1] (m ((c : Thread nD τ).loc main_arg1)) slices_S16_S15_1 := by
    after_reads_simp
  have h56 : StableHlo.upto (List.flatten [hostOps0, hostOps0_1, hostOps0_2, hostOps0_3, hostOps0_4, hostOps0_5, hostOps0_6]) (fun b => m (c, b)) 85 (Proc.tc.devRef main_v56)
      = broadcastInDim S1 ![] bcast_S_S1 (Host.reduce FloatOps.maximumf (Host.absf (RotRef.rot (m ((c : Thread nD τ).loc main_arg0)) (m ((c : Thread nD τ).loc main_arg2)))) (constant S_ .f32 0xFF800000#32) reducesTo_S256x12288_S_d0_1 h_S_) := by
    after_reads_simp
    rfl
  rw [h53, h56]

/-- The output block of the one point. -/
theorem out_4 (x0 : Vec F S256x12288 .fp8e4m3) (x1 : Vec F S12288x2880 .fp8e4m3) (x2 : Vec F S1x1 .f32) (x3 : Vec F S1x2880 .f32) :
    out0_4 x0 x1 x2 x3 = k0_pay1 x0 x1 x2 x3 := by
  have hz2 : (![0, 0] : Fin 2 → Nat) = fun _ => 0 := funext fun a => by fin_cases a <;> rfl
  unfold out0_4
  rw [View.canon_unit_zero (S := S256x2880) hz2]
  simp only [View.ld_unit_zero (S := S256x12288) hz2, View.ld_unit_zero (S := S12288x2880) hz2, View.ld_unit_zero (S := S1x1) hz2, View.ld_unit_zero (S := S1x2880) hz2]

/-- The only point. -/
abbrev pt : Fin cfg0.N := ⟨0, by rw [show cfg0.N = 1 from N_0]; norm_num⟩

theorem iblk_0 (c : Dev nD) : (iblk m c 0 pt : Vec F S256x12288 .fp8e4m3) = V m c main_v52 := by
  have hz : (fun a => win0_0.index pt a * main_v52.ty.shape.size a) = fun _ => 0 := by funext a; revert a; decide +kernel
  exact Memref.read_access_unit_zero (Elt F) main_v52 hz (fun a => by rw [congrFun hz a]; simp) (V m c main_v52)
theorem iblk_1 (c : Dev nD) : (iblk m c 1 pt : Vec F S12288x2880 .fp8e4m3) = m ((c : Thread nD τ).loc main_arg3) := by
  have hz : (fun a => win0_1.index pt a * main_arg3.ty.shape.size a) = fun _ => 0 := by funext a; revert a; decide +kernel
  exact (Memref.read_access_unit_zero (Elt F) main_arg3 hz (fun a => by rw [congrFun hz a]; simp) (V m c main_arg3)).trans (V_main_arg3 m c)
theorem iblk_2 (c : Dev nD) : (iblk m c 2 pt : Vec F S1x1 .f32) = V m c main_v58 := by
  have hz : (fun a => win0_2.index pt a * main_v58.ty.shape.size a) = fun _ => 0 := by funext a; revert a; decide +kernel
  exact Memref.read_access_unit_zero (Elt F) main_v58 hz (fun a => by rw [congrFun hz a]; simp) (V m c main_v58)
theorem iblk_3 (c : Dev nD) : (iblk m c 3 pt : Vec F S1x2880 .f32) = V m c main_v59 := by
  have hz : (fun a => win0_3.index pt a * main_v59.ty.shape.size a) = fun _ => 0 := by funext a; revert a; decide +kernel
  exact Memref.read_access_unit_zero (Elt F) main_v59 hz (fun a => by rw [congrFun hz a]; simp) (V m c main_v59)

theorem final_4 (c : Dev nD) : (dats m 0 c).arrAt 4 cfg0.N
    = k0_pay1 (V m c main_v52) (m ((c : Thread nD τ).loc main_arg3)) (V m c main_v58) (V m c main_v59) := by
  have hz : (fun a => win0_4.index pt a * main_v60.ty.shape.size a) = fun _ => 0 := by funext a; revert a; decide +kernel
  refine (dats m 0 c).arrAt_eq_of_cover 4 _ (fun t hf => ?_) fun i => ⟨pt, by decide +kernel, ?_⟩
  · obtain rfl : t = pt := Fin.ext (Nat.lt_one_iff.mp (lt_of_lt_of_eq t.isLt N_0))
    rw [flushed4, out_4, iblk_0, iblk_1, iblk_2, iblk_3]
    exact (Memref.read_access_unit_zero (Elt F) main_v60 hz (fun a => by rw [congrFun hz a]; simp) _).symm
  · show i ∈ ((View.whole main_v60).slice (win0_4.rect pt)).set
    rw [View.set_slice_whole, Rect.mem_set_unit]
    intro a
    have h0 := congrFun hz a
    have h1 := (i a).isLt
    refine ⟨?_, ?_⟩
    · exact le_trans (le_of_eq h0) (Nat.zero_le _)
    · exact lt_of_lt_of_eq (lt_of_lt_of_eq h1 (Nat.zero_add _).symm) (congrArg (· + main_v60.ty.shape.size a) h0.symm)

/-- The reference's run, read: the output and the host's results, the arguments kept. -/
theorem run (ρ : Dev nD → PrngReg) : θ_run defs (onTc (τ := τ) (main (F := F))) ⟨m, fun _ => 0, ρ⟩ fun r => ∀ c : Dev nD,
      r.2.mem ((c : Thread nD τ).loc main_v60)
        = k0_pay1 (V m c main_v52) (m ((c : Thread nD τ).loc main_arg3)) (V m c main_v58) (V m c main_v59)
      ∧ r.2.mem ((c : Thread nD τ).loc main_v52) = V m c main_v52
      ∧ r.2.mem ((c : Thread nD τ).loc main_v47) = V m c main_v47
      ∧ r.2.mem ((c : Thread nD τ).loc main_v57) = V m c main_v57
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post4 m r h c).trans (final_4 m c),
      ((h c).1 0).trans (((dats m 0 c).arrAt_in 0 rfl _).trans (A_eq m c 0)),
      (h c).2 main_v47 (Pipeline.mem_restRefs_of main_v47 (by decide) (by decide)),
      (h c).2 main_v57 (Pipeline.mem_restRefs_of main_v57 (by decide) (by decide)),
      kept_main_arg0 m r h c,
      kept_main_arg1 m r h c,
      kept_main_arg2 m r h c,
      kept_main_arg3 m r h c,
      kept_main_arg4 m r h c⟩)
    (run_main m ρ)

end Cert.ReferenceIdeal.Value

end
-- ==== Proof.Algebra.lean ====
/- Over the extended reals the kernel's results are the reference's. -/
module

public import proofs.«01_k».proof.Proof.ProjAcc
public import proofs.«01_k».proof.Proof.RefVal
public import proofs.«01_k».proof.Proof.MaxLaws
public import Idealize.ShloMosaic.Lib.MatmulPlain
public import Idealize.ShloMosaic.Lib.ValueLayout
public import Mathlib.Algebra.BigOperators.Fin
public import Mathlib.Algebra.BigOperators.Intervals

@[expose] public section

set_option maxRecDepth 16384

noncomputable section

open Idealize.ShloMosaic Idealize.ShloMosaic.TcCoe Idealize.SL.Sem Idealize.ShloMosaic.ValueIdx

namespace Cert.Algebra

abbrev K := Cert.KernelIdeal.S256x2880

/-! ## The product -/

theorem zero_word : Ideal.ofBits .f32 0x00000000#32 = 0 := by
  have := Scale.ofBits_shl 0 (by norm_num)
  simpa [Scale.tau] using this

/-- One term of the product, `0` past the contraction's end. -/
def term (A : Vec Ideal Cert.KernelIdeal.S256x12288 .fp8e4m3) (W : Vec Ideal Cert.KernelIdeal.S12288x2880 .fp8e4m3) (r : Fin 256) (q : Fin 2880) (k : ℕ) : EReal :=
  if h : k < 12288 then (A (ix2 r ⟨k, h⟩) : EReal) * W (ix2 ⟨k, h⟩ q) else 0

section Kernel
open Cert.KernelIdeal Cert.KernelIdeal.Gen Cert.KernelIdeal.Value

theorem pay2_apply (a : Vec Ideal S256x2880 .f32) (x : Vec Ideal S256x1024 .fp8e4m3) (w : Vec Ideal S1024x2880 .fp8e4m3) (r : Fin 256) (q : Fin 2880) :
    (k1_pay2 (F := Ideal) a x w (ix2 r q) : EReal) = (a (ix2 r q) : EReal) + ∑ k : Fin 1024, (x (ix2 r k) : EReal) * w (ix2 k q) := by
  unfold k1_pay2
  simp only [shapeCast_self]
  show (a (ix2 r q) : EReal) + FloatOps.matmul (F := Ideal) (DotDims.plain 256 1024 2880) none x w (constant (F := Ideal) _ .f32 0x00000000#32) (ix2 r q) = _
  rw [Ideal.matmul_plain_apply]
  congr 1
  show Ideal.ofBits .f32 0x00000000#32 + _ = _
  rw [zero_word, zero_add]

theorem pay1_apply (i : S256x2880.Idx) : (k1_pay1 (F := Ideal) i : EReal) = 0 := by
  unfold k1_pay1
  rw [shapeCast_self]
  exact zero_word

variable (V : (c : Dev nD) → (b : Ref sig .tc) → Buf (Elt Ideal) ((c : Thread nD τ).loc b))

theorem block_sum (c : Dev nD) (n : ℕ) (h : n < cfg1.N) (r : Fin 256) (q : Fin 2880) :
    (∑ k : Fin 1024, (show EReal from (iblk1 V c 0 ⟨n, h⟩ : Vec Ideal S256x1024 .fp8e4m3) (ix2 r k)) * (show EReal from (iblk1 V c 1 ⟨n, h⟩ : Vec Ideal S1024x2880 .fp8e4m3) (ix2 k q)))
      = ∑ k ∈ Finset.range 1024, term (V c main_v1_0) (V c main_arg3) r q (1024 * n + k) := by
  have hn : n < 12 := lt_of_lt_of_eq h N_1
  rw [Finset.sum_range]
  refine Finset.sum_congr rfl fun k _ => ?_
  have hk : 1024 * n + k.val < 12288 := by have := k.isLt; omega
  rw [block_codes V c ⟨n, h⟩ r k hk, block_w V c ⟨n, h⟩ k q hk]
  unfold term
  rw [dif_pos hk]

/-- The accumulator after point `n` is the sum of the first `1024 (n + 1)` terms. -/
theorem chain_apply (c : Dev nD) (r : Fin 256) (q : Fin 2880) : ∀ (n : ℕ) (h : n < cfg1.N), (chain V c n h (ix2 r q) : EReal)
      = ∑ k ∈ Finset.range (1024 * (n + 1)), term (V c main_v1_0) (V c main_arg3) r q k
  | 0, h => by
    unfold chain
    rw [pay2_apply, pay1_apply, zero_add, block_sum]
    simp only [Nat.mul_zero, Nat.zero_add, Nat.mul_one]
  | n + 1, h => by
    unfold chain
    rw [pay2_apply, chain_apply c r q n, block_sum, show 1024 * (n + 1 + 1) = 1024 * (n + 1) + 1024 by ring, Finset.sum_range_add]

end Kernel

/-- The whole product's terms. -/
theorem range_sum (A W) (r : Fin 256) (q : Fin 2880) :
    (∑ k ∈ Finset.range 12288, term A W r q k) = ∑ k : Fin 12288, (A (ix2 r k) : EReal) * W (ix2 k q) := by
  rw [Finset.sum_range]
  refine Finset.sum_congr rfl fun k _ => ?_
  unfold term
  rw [dif_pos k.isLt]

/-! ## The output, given the scale -/

theorem out_eq (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (e : BitVec 32)
    (s : Vec Ideal Cert.ReferenceIdeal.S1x1 .f32) (ws : Vec Ideal Cert.KernelIdeal.S1x2880 .f32)
    (hs : (s (ix2 0 0) : EReal) = Scale.pow2 (F := Ideal) e) :
    Cert.KernelIdeal.Gen.k1_pay15 (F := Ideal) e (Cert.KernelIdeal.Value.chain V c 11 Cert.KernelIdeal.Value.last_lt) ws
      = Cert.ReferenceIdeal.Gen.k0_pay1 (F := Ideal) (V c Cert.KernelIdeal.main_v1_0) (V c Cert.KernelIdeal.main_arg3) s ws := by
  funext i
  obtain ⟨r, q, rfl⟩ : ∃ r q, i = ix2 r q := ⟨i 0, i 1, eq_ix2 i⟩
  unfold Cert.KernelIdeal.Gen.k1_pay15 Cert.ReferenceIdeal.Gen.k0_pay1
  simp only [shapeCast_self]
  show ((_ : EReal) * _) * _ = (_ * _) * _
  congr 1
  congr 1
  · rw [chain_apply]
    rw [range_sum]
    symm
    show FloatOps.matmul (F := Ideal) (DotDims.plain 256 12288 2880) none _ _ (constant (F := Ideal) _ .f32 0x00000000#32) (ix2 r q) = _
    rw [Ideal.matmul_plain_apply]
    show Ideal.ofBits .f32 0x00000000#32 + _ = _
    rw [zero_word, zero_add]
  · show Scale.pow2 (F := Ideal) e = _
    rw [← hs]
    symm
    refine broadcastTo_apply s _ (ix2 r q) (ix2 0 0) fun a => ?_
    fin_cases a <;> rfl

/-! ## The scale -/

theorem mag_eq (h : FVec Ideal Cert.ReferenceIdeal.S16 .f32) :
    (Cert.ReferenceIdeal.Value.rmag (F := Ideal) h ix0 : EReal) = Scale.mag (F := Ideal) (Scale.hmax (fun k => h (ix1 k))) := by
  unfold Cert.ReferenceIdeal.Value.rmag Scale.mag
  have e : (Host.reduce FloatOps.maximumf h (constant Cert.ReferenceIdeal.S_ .f32 0xFF800000#32) Cert.ReferenceIdeal.Gen.reducesTo_S16_S_d0 Cert.ReferenceIdeal.Gen.h_S_ ix0 : Ideal .f32)
      = Scale.hmax (fun k => h (ix1 k)) := by
    refine MaxLaws.eq_of_le fun z => (MaxLaws.host_le h _ _ ix0 z).trans ?_
    rw [MaxLaws.hmax_le]
    constructor
    · intro hh k; exact hh _ (funext fun a => a.elim0)
    · intro hh i _
      rw [eq_ix1 i]; exact hh _
  rw [← e]
  have e0 : (Ideal.ofBits .f32 991054117#32) = FloatOps.ofBits (F := Ideal) FTy.f32 991054117#32 := rfl
  rfl

theorem f32_two : Ideal.ofBits .f32 0x40000000#32 = ((2 : ℝ) : EReal) := by
  rw [Scale.ofBits_normal _ 128 0 (by decide) (by decide) (by decide) (by norm_num) (by norm_num)]
  norm_num
theorem f32_one : Ideal.ofBits .f32 0x3F800000#32 = ((1 : ℝ) : EReal) := by
  rw [Scale.ofBits_normal _ 127 0 (by decide) (by decide) (by decide) (by norm_num) (by norm_num)]
  norm_num
theorem f32_126 : Ideal.ofBits .f32 0x42FC0000#32 = ((126 : ℝ) : EReal) := by
  rw [Scale.ofBits_normal _ 133 8126464 (by decide) (by decide) (by decide) (by norm_num) (by norm_num)]
  norm_num

theorem pow_eq (k : Fin 254) : (Cert.ReferenceIdeal.Value.rpow (F := Ideal) (ix1 k) : EReal) = Scale.pw k.val := by
  unfold Cert.ReferenceIdeal.Value.rpow Scale.pw
  show Ideal.pow (Ideal.ofBits .f32 0x40000000#32) ((((BitVec.ofNat 32 k.val).toInt : ℝ) : EReal) - Ideal.ofBits .f32 0x42FC0000#32) = _
  rw [f32_two, f32_126, ← EReal.coe_sub, Ideal.pow_coe_coe]
  have hk : (BitVec.ofNat 32 k.val).toInt = (k.val : ℤ) := by
    have := k.isLt
    rw [BitVec.toInt_ofNat']
    rw [Int.bmod_eq_of_le] <;> omega
  rw [hk]
  congr 1
  show (2 : ℝ) ^ (((k.val : ℤ) : ℝ) - 126) = _
  rw [← Real.rpow_intCast]
  push_cast
  rfl

theorem below_eq (v : FVec Ideal Cert.ReferenceIdeal.S_ .f32) :
    (Cert.ReferenceIdeal.Value.rbelow (F := Ideal) v ix0 : EReal) = Scale.below (v ix0) := by
  refine MaxLaws.eq_of_le fun z => (MaxLaws.host_le _ _ _ ix0 z).trans ?_
  unfold Scale.below
  rw [Finset.sup_le_iff]
  have key : ∀ k : Fin 254, (select (cmpf .ole (Cert.ReferenceIdeal.Value.rpow (F := Ideal)) (broadcastInDim Cert.ReferenceIdeal.S254 ![] Cert.ReferenceIdeal.Gen.bcast_S_S254 v)) (Cert.ReferenceIdeal.Value.rpow (F := Ideal))
      (broadcastInDim Cert.ReferenceIdeal.S254 ![] Cert.ReferenceIdeal.Gen.bcast_S_S254 (constant (F := Ideal) Cert.ReferenceIdeal.S_ .f32 0x00000000#32)) (ix1 k) : Ideal .f32)
      = if Scale.pw k.val ≤ v ix0 then Scale.pw k.val else 0 := by
    intro k
    show Scalar.select (Ideal.cmp .ole (Cert.ReferenceIdeal.Value.rpow (F := Ideal) (ix1 k)) (v _)) (Cert.ReferenceIdeal.Value.rpow (F := Ideal) (ix1 k)) (Ideal.ofBits .f32 0x00000000#32) = _
    rw [pow_eq, zero_word]
    rw [show ∀ i : Cert.ReferenceIdeal.S_.Idx, v i = v ix0 from fun i => congrArg v (funext fun a => a.elim0)]
    by_cases hc : Scale.pw k.val ≤ v ix0
    · rw [if_pos hc, show Ideal.cmp .ole (Scale.pw k.val) (v ix0) = 1#1 by simp [Ideal.cmp, hc]]; rfl
    · rw [if_neg hc, show Ideal.cmp .ole (Scale.pw k.val) (v ix0) = 0#1 by simp [Ideal.cmp, hc]]; rfl
  constructor
  · intro hh k _
    rw [← key k]
    exact hh _ (funext fun a => a.elim0)
  · intro hh i _
    rw [eq_ix1 i]
    refine le_of_eq_of_le (key (i 0)) (hh _ (Finset.mem_univ _))

theorem scale_eq (b : FVec Ideal Cert.ReferenceIdeal.S_ .f32) (v : EReal) (hb : (b ix0 : EReal) = Scale.below v) :
    (Cert.ReferenceIdeal.Value.rscale (F := Ideal) b ix0 : EReal) = Scale.refScale v := by
  unfold Cert.ReferenceIdeal.Value.rscale Scale.refScale
  show Scalar.select (Ideal.cmp .oeq (b ix0) (Ideal.ofBits .f32 0x00000000#32)) (Ideal.ofBits .f32 0x3F800000#32) (Ideal.ofBits .f32 0x40000000#32 * b ix0 : EReal) = _
  rw [zero_word, f32_one, f32_two, hb]
  by_cases hc : Scale.below v = 0
  · rw [if_pos hc, show Ideal.cmp .oeq (Scale.below v) 0 = 1#1 by simp [Ideal.cmp, hc]]; rfl
  · rw [if_neg hc, show Ideal.cmp .oeq (Scale.below v) 0 = 0#1 by simp [Ideal.cmp, hc]]; rfl

/-- The reference's scale is the kernel's, for a history bounded by the greatest float. -/
theorem ref_scale (h : FVec Ideal Cert.ReferenceIdeal.S16 .f32) (hb : ∀ k : Fin 16, (max (h (ix1 k) : EReal) (-(h (ix1 k) : EReal))) ≤ Ideal.ofBits .f32 0x7F7FFFFF#32) :
    (Cert.ReferenceIdeal.Value.rscale (F := Ideal) (Cert.ReferenceIdeal.Value.rbelow (Cert.ReferenceIdeal.Value.rmag h)) ix0 : EReal)
      = Scale.pow2 (F := Ideal) (Scale.expBits (F := Ideal) (Scale.hmax (fun k => h (ix1 k)))) := by
  rw [scale_eq _ _ (below_eq _), mag_eq, Scale.scale_eq]
  refine Scale.mag_lt _ ((MaxLaws.hmax_le _ _).mpr fun k => (max_le_iff.mp (hb k)).1) ?_
  refine le_trans ?_ ((MaxLaws.hmax_le (fun k => h (ix1 k)) _).mp le_rfl 0)
  exact EReal.neg_le.mp (max_le_iff.mp (hb 0)).2

/-! ## The history -/

theorem pay3_le (x : Vec Ideal Cert.KernelIdeal.S8x128 .f32) (z : EReal) :
    (show EReal from Cert.KernelIdeal.Gen.k1_pay3 (F := Ideal) x) ≤ z ↔ ∀ i, (x i : EReal) ≤ z := by
  unfold Cert.KernelIdeal.Gen.k1_pay3 extractAt
  simp only [shapeCast_self]
  unfold shapeCast
  refine (MaxLaws.kernel_le _ _ _ _ _ z).trans ?_
  constructor
  · intro hh i
    exact (MaxLaws.cast_forall x Cert.KernelIdeal.Gen.shapeCasts_S8x128_S1x8x128 (fun e => (e : EReal) ≤ z)).mp
      (fun j => hh j (funext fun a => by fin_cases a; exact @Subsingleton.elim (Fin 1) _ _ _)) i
  · intro hh j _
    exact (MaxLaws.cast_forall x Cert.KernelIdeal.Gen.shapeCasts_S8x128_S1x8x128 (fun e => (e : EReal) ≤ z)).mpr (fun i => hh i) j

theorem shift_eq (h : Vec Ideal Cert.KernelIdeal.S16 .f32) (b : FVec Ideal Cert.ReferenceIdeal.S_ .f32) :
    Cert.KernelIdeal.Value.shift h (b ix0) = concatenate Cert.ReferenceIdeal.S16 0 [⟨Cert.ReferenceIdeal.S15, extractStridedSlice Cert.ReferenceIdeal.S15 ![1] h Cert.ReferenceIdeal.Gen.slices_S16_S15_1⟩,
      ⟨Cert.ReferenceIdeal.S1, broadcastInDim Cert.ReferenceIdeal.S1 ![] Cert.ReferenceIdeal.Gen.bcast_S_S1 b⟩] Cert.ReferenceIdeal.Gen.concatenates_S15_S1_S16_d0 := by
  funext p
  unfold Cert.KernelIdeal.Value.shift
  by_cases hp : (p 0).val + 1 < 16
  · rw [dif_pos hp]
    have hp' : (p 0).val < 15 := by omega
    rw [concatenate_pair_apply_left (s₁ := Cert.ReferenceIdeal.S15) (s₂ := Cert.ReferenceIdeal.S1) 0 _ _ _ p rfl (ix1 ⟨(p 0).val, hp'⟩) (fun b => by fin_cases b; rfl)]
    refine congrArg h (funext fun a => ?_)
    fin_cases a
    exact Fin.ext (Nat.add_comm (p 0).val 1)
  · rw [dif_neg hp]
    have hl : (p 0).val < 16 := (p 0).isLt
    rw [concatenate_pair_apply_right (s₁ := Cert.ReferenceIdeal.S15) (s₂ := Cert.ReferenceIdeal.S1) 0 _ _ _ p rfl rfl (ix1 0) (fun b hb => by fin_cases b; exact absurd rfl hb)
      (by show 0 + 15 = (p 0).val; omega)]
    exact congrArg b (funext fun a => a.elim0)

end Cert.Algebra

end
-- ==== Proof.Region0.lean ====
/- The first call of the kernel, `rotate`, at whatever contents it is entered with: its body's run at a point, what its
   outputs hold after each point, and the obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # The first call, `rotate`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask:
    bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x80 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- One staging buffer of output window 3, through which its contents are stated (`View.read_writes_of_cover`: the
    choice does not matter). -/
abbrev VO0_3 : View sig .tc .vmem S32x12288 .fp8e4m3 := (Memref.whole cc0_stg3_0 : Memref sig .tc .vmem S32x12288 .fp8e4m3).view
/-- One staging buffer of output window 4, through which its contents are stated (`View.read_writes_of_cover`: the
    choice does not matter). -/
abbrev VO0_4 : View sig .tc .vmem S8x128 .f32 := (Memref.whole cc0_stg4_0 : Memref sig .tc .vmem S8x128 .f32).view
/-- Each window's current staging memref at point `t`, spelled as the pipeline passes it (`bodyAt0`), and its wholeness. -/
abbrev ms0_0 (t : Fin cfg0.N) : Memref sig .tc .vmem S32x12288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S12x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x12288 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S12x32x1024 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 13132000 in
/-- What the body's stores leave in each output's staging memref, as pieces (last first) IN CASE A (`scf.if` 0 taken, `scf.if` 1 not taken: points 0), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : cond0_0 i) (hc1 : ¬cond0_1 i)
    (x0 : Vec F S32x12288 .bf16) (x1 : Vec F S16 .f32) (x2 : Vec F S12x12 .f32) :
    Σ' (L3 : List (View.Piece (Elt F) S32x12288 .fp8e4m3)), Σ' (L4 : List (View.Piece (Elt F) S8x128 .f32)), { LT0 : List (View.Piece (Elt F) S12x32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0)) -∗ K ⟨⟩))
          ⊢ wp frame (wpE (defs₀ (F := F)) Variants.none c none) E (cc0_rotate i arg1 harg1 arg2 harg2 arg3 harg3 arg4 harg4 arg5 harg5 arg6 harg6) K } := by
  refine ⟨?_, ?_, ?_, fun E K => ?run⟩
  case run =>
    simp only [cc0_rotate_eq_skeleton]; unfold cc0_rotate_skel
    simp only [k0_part270_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part271_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part272_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part273_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part274_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-- Case A's pieces for output 3 tile its block (96 stores of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : cond0_0 i) (hc1 : ¬cond0_1 i)
    (x0 : Vec F S32x12288 .bf16) (x1 : Vec F S16 .f32) (x2 : Vec F S12x12 .f32) (y : S32x12288.Idx) :
    ∃ pc ∈ (kernelRun0_A c i arg1 harg1 arg2 harg2 arg3 harg3 arg4 harg4 arg5 harg5 arg6 harg6 hc0 hc1 x0 x1 x2).1, y ∈ pc.1.set :=
  View.cover_of_tiledL (kernelRun0_A c i arg1 harg1 arg2 harg2 arg3 harg3 arg4 harg4 arg5 harg5 arg6 harg6 hc0 hc1 x0 x1 x2).1 S32x128.size (by sl_kernel_rfl) y

/-- What case A leaves in output 3's staging buffer: its pieces read back over junk. -/
def out0_A_3 (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : cond0_0 i) (hc1 : ¬cond0_1 i)
    (x0 : Vec F S32x12288 .bf16) (x1 : Vec F S16 .f32) (x2 : Vec F S12x12 .f32) : Vec F S32x12288 .fp8e4m3 :=
  VO0_3.read (Elt F) (VO0_3.writes (Elt F) VO0_3.junk (kernelRun0_A c i arg1 harg1 arg2 harg2 arg3 harg3 arg4 harg4 arg5 harg5 arg6 harg6 hc0 hc1 x0 x1 x2).1)

/-- Case A's pieces for output 4 tile its block (1 store of `S8x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : cond0_0 i) (hc1 : ¬cond0_1 i)
    (x0 : Vec F S32x12288 .bf16) (x1 : Vec F S16 .f32) (x2 : Vec F S12x12 .f32) (y : S8x128.Idx) :
    ∃ pc ∈ (kernelRun0_A c i arg1 harg1 arg2 harg2 arg3 harg3 arg4 harg4 arg5 harg5 arg6 harg6 hc0 hc1 x0 x1 x2).2.1, y ∈ pc.1.set :=
  View.cover_of_tiledL (kernelRun0_A c i arg1 harg1 arg2 harg2 arg3 harg3 arg4 harg4 arg5 harg5 arg6 harg6 hc0 hc1 x0 x1 x2).2.1 S8x128.size (by sl_kernel_rfl) y

/-- What case A leaves in output 4's staging buffer: its pieces read back over junk. -/
def out0_A_4 (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : cond0_0 i) (hc1 : ¬cond0_1 i)
    (x0 : Vec F S32x12288 .bf16) (x1 : Vec F S16 .f32) (x2 : Vec F S12x12 .f32) : Vec F S8x128 .f32 :=
  VO0_4.read (Elt F) (VO0_4.writes (Elt F) VO0_4.junk (kernelRun0_A c i arg1 harg1 arg2 harg2 arg3 harg3 arg4 harg4 arg5 harg5 arg6 harg6 hc0 hc1 x0 x1 x2).2.1)

-- (the run's proof term is large: the definition's epilogue — `abstractNestedProofs` — walks it past the default budget)
set_option maxHeartbeats 13136000 in
/-- What the body's stores leave in each output's staging memref, as pieces (last first) IN CASE B (`scf.if` 0 not taken, `scf.if` 1 taken: points 1, 2, … 7: 7 of 8), WITH the
    proof that on whole staging memrefs — the inputs' at their contents, the outputs it reads before covering (4) at their running contents `xo·`, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : ¬cond0_0 i) (hc1 : cond0_1 i)
    (x0 : Vec F S32x12288 .bf16) (x1 : Vec F S16 .f32) (x2 : Vec F S12x12 .f32) (xo4 : Vec F S8x128 .f32) :
    Σ' (L3 : List (View.Piece (Elt F) S32x12288 .fp8e4m3)), Σ' (L4 : List (View.Piece (Elt F) S8x128 .f32)), { LT0 : List (View.Piece (Elt F) S12x32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0)) -∗ K ⟨⟩))
          ⊢ wp frame (wpE (defs₀ (F := F)) Variants.none c none) E (cc0_rotate i arg1 harg1 arg2 harg2 arg3 harg3 arg4 harg4 arg5 harg5 arg6 harg6) K } := by
  refine ⟨?_, ?_, ?_, fun E K => ?run⟩
  case run =>
    simp only [cc0_rotate_eq_skeleton]; unfold cc0_rotate_skel
    simp only [k0_part270_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part271_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part272_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part273_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part274_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-- Case B's pieces for output 3 tile its block (96 stores of `S32x128`, checked by the kernel's evaluation: Lib/Ring.lean `Piece.tiledL`, linear in the pieces, through a loop's `@[irreducible]` trip theorem too), so they cover it. -/
theorem cover0_B_3 (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : ¬cond0_0 i) (hc1 : cond0_1 i)
    (x0 : Vec F S32x12288 .bf16) (x1 : Vec F S16 .f32) (x2 : Vec F S12x12 .f32) (xo4 : Vec F S8x128 .f32) (y : S32x12288.Idx) :
    ∃ pc ∈ (kernelRun0_B c i arg1 harg1 arg2 harg2 arg3 harg3 arg4 harg4 arg5 harg5 arg6 harg6 hc0 hc1 x0 x1 x2 xo4).1, y ∈ pc.1.set :=
  View.cover_of_tiledL (kernelRun0_B c i arg1 harg1 arg2 harg2 arg3 harg3 arg4 harg4 arg5 harg5 arg6 harg6 hc0 hc1 x0 x1 x2 xo4).1 S32x128.size (by sl_kernel_rfl) y

/-- What case B leaves in output 3's staging buffer: its pieces read back over junk. -/
def out0_B_3 (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : ¬cond0_0 i) (hc1 : cond0_1 i)
    (x0 : Vec F S32x12288 .bf16) (x1 : Vec F S16 .f32) (x2 : Vec F S12x12 .f32) (xo4 : Vec F S8x128 .f32) : Vec F S32x12288 .fp8e4m3 :=
  VO0_3.read (Elt F) (VO0_3.writes (Elt F) VO0_3.junk (kernelRun0_B c i arg1 harg1 arg2 harg2 arg3 harg3 arg4 harg4 arg5 harg5 arg6 harg6 hc0 hc1 x0 x1 x2 xo4).1)

/-- Case B's pieces for output 4 tile its block (1 store of `S8x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : ¬cond0_0 i) (hc1 : cond0_1 i)
    (x0 : Vec F S32x12288 .bf16) (x1 : Vec F S16 .f32) (x2 : Vec F S12x12 .f32) (xo4 : Vec F S8x128 .f32) (y : S8x128.Idx) :
    ∃ pc ∈ (kernelRun0_B c i arg1 harg1 arg2 harg2 arg3 harg3 arg4 harg4 arg5 harg5 arg6 harg6 hc0 hc1 x0 x1 x2 xo4).2.1, y ∈ pc.1.set :=
  View.cover_of_tiledL (kernelRun0_B c i arg1 harg1 arg2 harg2 arg3 harg3 arg4 harg4 arg5 harg5 arg6 harg6 hc0 hc1 x0 x1 x2 xo4).2.1 S8x128.size (by sl_kernel_rfl) y

/-- What case B leaves in output 4's staging buffer: its pieces read back over junk. -/
def out0_B_4 (c : Dev nD) (i : grid0.Coords) (arg1 : Memref sig .tc .vmem S32x12288 .bf16) (harg1 : arg1.IsWhole) (arg2 : Memref sig .tc .smem S16 .f32) (harg2 : arg2.IsWhole) (arg3 : Memref sig .tc .smem S12x12 .f32) (harg3 : arg3.IsWhole) (arg4 : Memref sig .tc .vmem S32x12288 .fp8e4m3) (harg4 : arg4.IsWhole) (arg5 : Memref sig .tc .vmem S8x128 .f32) (harg5 : arg5.IsWhole) (arg6 : Memref sig .tc .vmem S12x32x1024 .f32) (harg6 : arg6.IsWhole) (hc0 : ¬cond0_0 i) (hc1 : cond0_1 i)
    (x0 : Vec F S32x12288 .bf16) (x1 : Vec F S16 .f32) (x2 : Vec F S12x12 .f32) (xo4 : Vec F S8x128 .f32) : Vec F S8x128 .f32 :=
  VO0_4.read (Elt F) (VO0_4.writes (Elt F) VO0_4.junk (kernelRun0_B c i arg1 harg1 arg2 harg2 arg3 harg3 arg4 harg4 arg5 harg5 arg6 harg6 hc0 hc1 x0 x1 x2 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S32x12288 .fp8e4m3 × Vec F S8x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : 1 ≤ (n + 1) then
        False.elim (by have hN : n + 1 < 8 := lt_of_lt_of_eq hn (show cfg0.N = 8 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : 1 ≤ (n + 1) then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by have hN : n + 1 < 8 := lt_of_lt_of_eq hn (show cfg0.N = 8 from N_0); omega)

/-- `outsAt0` at a point of case A: that case's contents. -/
theorem outsAt0_A (c : Dev nD) (t : Fin cfg0.N) (h0 : t.val % 8 = 0) (h1 : ¬1 ≤ t.val) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : 1 ≤ t.val) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  have hN : t.val < 8 := lt_of_lt_of_eq t.isLt (show cfg0.N = 8 from N_0)
  rw [after0_4, after0_4]
  by_cases h0 : t.val % 8 = 0
  · by_cases h1 : 1 ≤ t.val
    · exfalso; omega
    · rw [liveAt0_4_A t ((hcond0_0 t).mpr h0) (fun h => h1 ((hcond0_1 t).mp h))] at hi
      exact absurd hi Bool.false_ne_true
  · by_cases h1 : 1 ≤ t.val
    · rw [liveAt0_4_B t (fun h => h0 ((hcond0_0 t).mp h)) ((hcond0_1 t).mpr h1)] at hi
      exact absurd hi Bool.false_ne_true
    · exfalso; omega
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 8 = 0) (h1 : 1 ≤ t.val) (d) :
    (dat0 V c).before 4 t d = (outsAt0 V c (t.val - 1) (Nat.lt_of_le_of_lt (Nat.sub_le _ _) t.isLt)).2 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  rw [show (dat0 V c).Φ t.castSucc = Pipeline.ΦA spec0 c from rfl, PhiA0_eq]
  have hN : t.val < 8 := lt_of_lt_of_eq t.isLt (show cfg0.N = 8 from N_0)
  by_cases h0 : t.val % 8 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_A t ((hcond0_0 t).mpr h0) (fun h => h1 ((hcond0_1 t).mp h))], after0_4]
      rw [outsAt0_A V c t h0 h1]
      unfold out0_A_3 out0_A_4; (try dsimp only)
      iintro ⟨⟨⟨HS0, HR1, HR2, HR3, HR4, HR5, HR6, HR7, HR8, HR9, HR10, HR11⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%fT0, HS0⟩⟩
      isplitl [HS0 HR1 HR2 HR3 HR4 HR5 HR6 HR7 HR8 HR9 HR10 HR11 Hg]
      · isplitl [HS0 HR1 HR2 HR3 HR4 HR5 HR6 HR7 HR8 HR9 HR10 HR11]
        · isplitl [HS0]
          · iexists _; unfold owns; iexists _; isplitr
            swap; · iexact HS0
            ipureintro; rfl
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          iexact HR11
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_B t (fun h => h0 ((hcond0_0 t).mp h)) ((hcond0_1 t).mpr h1)], after0_4]
      rw [outsAt0_B V c t h0 h1]
      simp only [before0_4_B V c t h0 h1]
      unfold out0_B_3 out0_B_4; (try dsimp only)
      iintro ⟨⟨⟨HS0, HR1, HR2, HR3, HR4, HR5, HR6, HR7, HR8, HR9, HR10, HR11⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, ⟨%e4, H4⟩, ⟨%fT0, HS0⟩⟩
      isplitl [HS0 HR1 HR2 HR3 HR4 HR5 HR6 HR7 HR8 HR9 HR10 HR11 Hg]
      · isplitl [HS0 HR1 HR2 HR3 HR4 HR5 HR6 HR7 HR8 HR9 HR10 HR11]
        · isplitl [HS0]
          · iexists _; unfold owns; iexists _; isplitr
            swap; · iexact HS0
            ipureintro; rfl
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          iexact HR11
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.RotPieces.lean ====
/- What `rotate`'s body stores, at one grid point: the generated run names every intermediate value on its own; here the
   same pieces are given by their number, so that a fact about one of them is proved once. -/
module

public import proofs.«01_k».proof.Proof.Region0

@[expose] public section

set_option maxRecDepth 16384

noncomputable section

namespace Cert.RotPieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The values `f (n - 1), …, f 0`: the order in which the run lists the stores, the last one first. -/
def down {α : Type*} (f : ℕ → α) : ℕ → List α
  | 0 => []
  | n + 1 => f n :: down f n

theorem mem_down {α : Type*} (f : ℕ → α) (p : α) : ∀ n, p ∈ down f n ↔ ∃ i, i < n ∧ p = f i
  | 0 => by simp [down]
  | n + 1 => by
    rw [down, List.mem_cons, mem_down f p n]
    constructor
    · rintro (h | ⟨i, hi, h⟩)
      · exact ⟨n, Nat.lt_succ_self n, h⟩
      · exact ⟨i, by omega, h⟩
    · rintro ⟨i, hi, h⟩
      rcases Nat.lt_succ_iff_lt_or_eq.mp hi with h' | rfl
      · exact Or.inr ⟨i, h', h⟩
      · exact Or.inl h

/-- The columns `256 c … 256 c + 255` of group `k` of the rows of `x` lie inside the block. -/
theorem inbX (k c : ℕ) : ∀ a, (![0, 1024 * (k % 12) + 256 * (c % 4)] : Fin 2 → ℕ) a + S32x256.size a ≤ S32x12288.size a := by
  intro a
  fin_cases a
  · show 0 + 32 ≤ 32; omega
  · show 1024 * (k % 12) + 256 * (c % 4) + 256 ≤ 12288; omega

/-- Quarter `c` of group `k` lies inside the scratch. -/
theorem inbZ (k c : ℕ) : ∀ a, (![k % 12, 0, 256 * (c % 4)] : Fin 3 → ℕ) a + S1x32x256.size a ≤ S12x32x1024.size a := by
  intro a
  fin_cases a
  · show k % 12 + 1 ≤ 12; omega
  · show 0 + 32 ≤ 32; omega
  · show 256 * (c % 4) + 256 ≤ 1024; omega

/-- Eighth `j` of group `k` lies inside the scratch. -/
theorem inbL (k j : ℕ) : ∀ a, (![k % 12, 0, 128 * (j % 8)] : Fin 3 → ℕ) a + S1x32x128.size a ≤ S12x32x1024.size a := by
  intro a
  fin_cases a
  · show k % 12 + 1 ≤ 12; omega
  · show 0 + 32 ≤ 32; omega
  · show 128 * (j % 8) + 128 ≤ 1024; omega

/-- Entry `(a, k)` lies inside the small Hadamard matrix. -/
theorem inbH (a k : ℕ) : ∀ b, (![a % 12, k % 12] : Fin 2 → ℕ) b + S1x1.size b ≤ S12x12.size b := by
  intro b
  fin_cases b
  · show a % 12 + 1 ≤ 12; omega
  · show k % 12 + 1 ≤ 12; omega

/-- Eighth `j` of group `a` lies inside the block of the codes. -/
theorem inbY (a j : ℕ) : ∀ b, (![0, 1024 * (a % 12) + 128 * (j % 8)] : Fin 2 → ℕ) b + S32x128.size b ≤ S32x12288.size b := by
  intro b
  fin_cases b
  · show 0 + 32 ≤ 32; omega
  · show 1024 * (a % 12) + 128 * (j % 8) + 128 ≤ 12288; omega

/-- Quarter `c` of group `k` of the rows, multiplied by the 256 × 256 Hadamard matrix. -/
def zdot (arg1 : Memref sig .tc .vmem S32x12288 .bf16) (harg1 : arg1.IsWhole) (x0 : Vec F S32x12288 .bf16) (k c : ℕ) :
    FVec F S32x256 .f32 :=
  matmul dot_S32x256_S256x256_S32x256_1_0_0_1_n_n none
    (shapeCast S32x256
      (View.readAt (Elt F) arg1.view (Rect.unit (s := S32x12288) ![0, 1024 * (k % 12) + 256 * (c % 4)] S32x256.size (inbX k c)).toLoadRect
        (harg1.unread x0) : Vec F S32x256 .bf16) shapeCasts_S32x256_S32x256)
    k0_pay2 (constant S32x256 .f32 0x00000000#32)

/-- Quarter `c` of the 1024-point transform, from the four quarters' transforms `z 0 … z 3`. -/
def comb (z : ℕ → FVec F S32x256 .f32) : ℕ → FVec F S32x256 .f32
  | 0 => addf (addf (z 0) (z 1)) (addf (z 2) (z 3))
  | 1 => addf (subf (z 0) (z 1)) (subf (z 2) (z 3))
  | 2 => subf (addf (z 0) (z 1)) (addf (z 2) (z 3))
  | _ => subf (subf (z 0) (z 1)) (subf (z 2) (z 3))

/-- Store number `n = 4 k + c` into the scratch. -/
def zPiece (arg1 : Memref sig .tc .vmem S32x12288 .bf16) (harg1 : arg1.IsWhole) (x0 : Vec F S32x12288 .bf16) (n : ℕ) :
    View.Piece (Elt F) S12x32x1024 .f32 :=
  ⟨Rect.unit (s := S12x32x1024) ![n / 4 % 12, 0, 256 * (n % 4)] S1x32x256.size (inbZ (n / 4) n),
    shapeCast S1x32x256 (comb (zdot arg1 harg1 x0 (n / 4)) (n % 4)) shapeCasts_S32x256_S1x32x256⟩

/-- Eighth `j` of group `k` of the transformed rows, as the second half of the body loads it. -/
def zload (arg6 : Memref sig .tc .vmem S12x32x1024 .f32) (L : List (View.Piece (Elt F) S12x32x1024 .f32)) (k j : ℕ) :
    Vec F S1x32x128 .f32 :=
  arg6.view.readCov L (Rect.unit (s := S12x32x1024) ![k % 12, 0, 128 * (j % 8)] S1x32x128.size (inbL k j)).toLoadRect

/-- Entry `(a, k)` of the small Hadamard matrix. -/
def hload (arg3 : Memref sig .tc .smem S12x12 .f32) (harg3 : arg3.IsWhole) (x2 : Vec F S12x12 .f32) (a k : ℕ) : Elt F .f32 :=
  View.readAt (Elt F) arg3.view (Rect.unit (s := S12x12) ![a % 12, k % 12] S1x1.size (inbH a k)).toLoadRect (harg3.unread x2)
    (Shape.Idx.first (show 0 < S1x1.numel by decide))

/-- One term of the sum over the groups. -/
def yterm (arg3 : Memref sig .tc .smem S12x12 .f32) (harg3 : arg3.IsWhole) (arg6 : Memref sig .tc .vmem S12x32x1024 .f32)
    (L : List (View.Piece (Elt F) S12x32x1024 .f32)) (x2 : Vec F S12x12 .f32) (a j k : ℕ) : FVec F S32x128 .f32 :=
  mulf (shapeCast S32x128 (zload arg6 L k j) shapeCasts_S1x32x128_S32x128) (broadcast S32x128 (hload arg3 harg3 x2 a k))

/-- The sum of the terms `0 … n`, taken from the left. -/
def ysum (arg3 : Memref sig .tc .smem S12x12 .f32) (harg3 : arg3.IsWhole) (arg6 : Memref sig .tc .vmem S12x32x1024 .f32)
    (L : List (View.Piece (Elt F) S12x32x1024 .f32)) (x2 : Vec F S12x12 .f32) (a j : ℕ) : ℕ → FVec F S32x128 .f32
  | 0 => yterm arg3 harg3 arg6 L x2 a j 0
  | n + 1 => addf (ysum arg3 harg3 arg6 L x2 a j n) (yterm arg3 harg3 arg6 L x2 a j (n + 1))

/-- Tile number `n = 12 j + a` of the rotated rows. -/
def ytile (arg3 : Memref sig .tc .smem S12x12 .f32) (harg3 : arg3.IsWhole) (arg6 : Memref sig .tc .vmem S12x32x1024 .f32)
    (L : List (View.Piece (Elt F) S12x32x1024 .f32)) (x2 : Vec F S12x12 .f32) (n : ℕ) : FVec F S32x128 .f32 :=
  mulf (ysum arg3 harg3 arg6 L x2 (n % 12) (n / 12) 11) (broadcast S32x128 (Scalar.ofBits .f32 0x3C13CD3A#32))

/-- The codes of a tile. -/
def codes (inv : F .f32) (y : FVec F S32x128 .f32) : FVec F S32x128 .fp8e4m3 :=
  truncf .fp8e4m3
    (minimumf (broadcast S32x128 (Scalar.ofBits .f32 0x43E00000#32))
      (maximumf (broadcast S32x128 (Scalar.ofBits .f32 0xC3E00000#32)) (mulf y (broadcast S32x128 inv))))
    bitsLt_fp8e4m3_f32

/-- Store number `n` into the block of the codes. -/
def cPiece (arg3 : Memref sig .tc .smem S12x12 .f32) (harg3 : arg3.IsWhole) (arg6 : Memref sig .tc .vmem S12x32x1024 .f32)
    (L : List (View.Piece (Elt F) S12x32x1024 .f32)) (x2 : Vec F S12x12 .f32) (inv : F .f32) (n : ℕ) :
    View.Piece (Elt F) S32x12288 .fp8e4m3 :=
  ⟨Rect.unit (s := S32x12288) ![0, 1024 * (n % 12) + 128 * (n / 12 % 8)] S32x128.size (inbY n (n / 12)),
    codes inv (ytile arg3 harg3 arg6 L x2 n)⟩

/-- The running maxima after a further tile: its four blocks of eight rows, one after another. -/
def amaxStep (acc : FVec F S8x128 .f32) (y : FVec F S32x128 .f32) : FVec F S8x128 .f32 :=
  maximumf
    (maximumf
      (maximumf (maximumf acc (absf (extractStridedSlice S8x128 ![0, 0] y slices_S32x128_o0_0_S8x128)))
        (absf (extractStridedSlice S8x128 ![8, 0] y slices_S32x128_o8_0_S8x128)))
      (absf (extractStridedSlice S8x128 ![16, 0] y slices_S32x128_o16_0_S8x128)))
    (absf (extractStridedSlice S8x128 ![24, 0] y slices_S32x128_o24_0_S8x128))

/-- The running maxima after the first `n` of the tiles `y`. -/
def amax (y : ℕ → FVec F S32x128 .f32) : ℕ → FVec F S8x128 .f32
  | 0 => broadcast S8x128 (Scalar.ofBits .f32 0x00000000#32)
  | n + 1 => amaxStep (amax y n) (y n)

section A
variable (c : Dev nD) (i : grid0.Coords) (arg1 : Memref sig .tc .vmem S32x12288 .bf16) (harg1 : arg1.IsWhole)
  (arg2 : Memref sig .tc .smem S16 .f32) (harg2 : arg2.IsWhole) (arg3 : Memref sig .tc .smem S12x12 .f32) (harg3 : arg3.IsWhole)
  (arg4 : Memref sig .tc .vmem S32x12288 .fp8e4m3) (harg4 : arg4.IsWhole) (arg5 : Memref sig .tc .vmem S8x128 .f32)
  (harg5 : arg5.IsWhole) (arg6 : Memref sig .tc .vmem S12x32x1024 .f32) (harg6 : arg6.IsWhole)
  (x0 : Vec F S32x12288 .bf16) (x1 : Vec F S16 .f32) (x2 : Vec F S12x12 .f32)

/-- The scratch, in case A. -/
theorem zPieces_A : kernelRun0_A.sl.HS0_48 c arg1 harg1 x0 = down (zPiece arg1 harg1 x0) 48 := by sl_kernel_rfl

/-- The same in case B. -/
theorem zPieces_B : kernelRun0_B.sl.HS0_48 c arg1 harg1 x0 = down (zPiece arg1 harg1 x0) 48 := by sl_kernel_rfl

/-- The codes, in case A. -/
theorem cPieces_A (hc0 : cond0_0 i) (hc1 : ¬cond0_1 i) :
    (kernelRun0_A c i arg1 harg1 arg2 harg2 arg3 harg3 arg4 harg4 arg5 harg5 arg6 harg6 hc0 hc1 x0 x1 x2).1
      = down (cPiece arg3 harg3 arg6 (kernelRun0_A.sl.HS0_48 c arg1 harg1 x0) x2 (kernelRun0_A.sl.r_20 c arg2 harg2 x1)) 96 := by
  sl_kernel_rfl

/-- The same in case B. -/
theorem cPieces_B (hc0 : ¬cond0_0 i) (hc1 : cond0_1 i) (xo4 : Vec F S8x128 .f32) :
    (kernelRun0_B c i arg1 harg1 arg2 harg2 arg3 harg3 arg4 harg4 arg5 harg5 arg6 harg6 hc0 hc1 x0 x1 x2 xo4).1
      = down (cPiece arg3 harg3 arg6 (kernelRun0_B.sl.HS0_48 c arg1 harg1 x0) x2 (kernelRun0_B.sl.r_20 c arg2 harg2 x1)) 96 := by
  sl_kernel_rfl

/-- The maxima, in case A. -/
theorem mPieces_A (hc0 : cond0_0 i) (hc1 : ¬cond0_1 i) :
    (kernelRun0_A c i arg1 harg1 arg2 harg2 arg3 harg3 arg4 harg4 arg5 harg5 arg6 harg6 hc0 hc1 x0 x1 x2).2.1
      = [⟨Rect.unit (s := S8x128) ![0, 0] S8x128.size inb_S8x128_S8x128_0_0,
          amax (ytile arg3 harg3 arg6 (kernelRun0_A.sl.HS0_48 c arg1 harg1 x0) x2) 96⟩] := by
  sl_kernel_rfl

/-- The maxima, in case B: with those of the points before. -/
theorem mPieces_B (hc0 : ¬cond0_0 i) (hc1 : cond0_1 i) (xo4 : Vec F S8x128 .f32) :
    (kernelRun0_B c i arg1 harg1 arg2 harg2 arg3 harg3 arg4 harg4 arg5 harg5 arg6 harg6 hc0 hc1 x0 x1 x2 xo4).2.1
      = [⟨Rect.unit (s := S8x128) ![0, 0] S8x128.size inb_S8x128_S8x128_0_0,
          k0_pay1 (amax (ytile arg3 harg3 arg6 (kernelRun0_B.sl.HS0_48 c arg1 harg1 x0) x2) 96)
            (View.readAt (Elt F) arg5.view
              (Rect.unit (s := S8x128) ![0, 0] S8x128.size inb_S8x128_S8x128_0_0).toLoadRect (harg5.unread xo4))⟩] := by
  sl_kernel_rfl

end A

end Cert.RotPieces
-- ==== Proof.RotVal.lean ====
/- What one grid point of the rotation computes, over the extended reals. -/
module

public import proofs.«01_k».proof.Proof.RotPieces
public import proofs.«01_k».proof.Proof.Had
public import proofs.«01_k».proof.Proof.Scale
public import Idealize.ShloMosaic.Lib.Pipeline.Value
public import Idealize.ShloMosaic.Lib.Pipeline.ValueKit.Tiles
public import Idealize.ShloMosaic.Lib.ValueIdxCore
public import Idealize.ShloMosaic.Lib.MatmulPlain
public import Idealize.ShloMosaic.Lib.ValueLayout
public import Idealize.ShloMosaic.Lib.Pointwise.ShapeOpsCore
public import Idealize.ShloMosaic.Lib.WholeRead

@[expose] public section

set_option maxRecDepth 16384

noncomputable section

namespace Cert.RotVal

open Idealize.ShloMosaic hiding ix2
open Idealize.ShloMosaic.TcCoe Idealize.ShloMosaic.Tactic Idealize.ShloMosaic.ValueIdx
open Idealize.SL Idealize.SL.Sem
open Cert.KernelIdeal Cert.KernelIdeal.Gen Cert.RotPieces

/-! ## The matrix of order 256 -/

/-- The word of an entry, from the conjunction of its row and column: one minus twice the parity. -/
def word (v : BitVec 32) : BitVec 32 :=
  let s (k : BitVec 32) := IntOp.shrsi .vector v k
  IntOp.subi 1#32 (IntOp.muli 2#32 (IntOp.andi (IntOp.xori (IntOp.xori (IntOp.xori (IntOp.xori (IntOp.xori (IntOp.xori (IntOp.xori (IntOp.xori 0#32
    (s 0#32)) (s 1#32)) (s 2#32)) (s 3#32)) (s 4#32)) (s 5#32)) (s 6#32)) (s 7#32)) 1#32))

theorem word_eq : ∀ v : Fin 256, (word (BitVec.ofNat 32 v.val)).toInt = Had.sg 8 v.val := by decide +kernel

theorem had256 (p q : Fin 256) : (k0_pay2 (F := Ideal) (ix2 p q) : EReal) = Had.se 8 (p.val &&& q.val) := by
  have h0 : iota .tc S256x256 32 [0] iota_S256x256_d0_w32 (ix2 p q) = BitVec.ofNat 32 p.val := by
    rw [iota_apply]; simp
  have h1 : iota .tc S256x256 32 [1] iota_S256x256_d1_w32 (ix2 p q) = BitVec.ofNat 32 q.val := by
    rw [iota_apply]; simp
  have e : (k0_pay2 (F := Ideal) (ix2 p q) : EReal)
      = ((((word (IntOp.andi (iota .tc S256x256 32 [0] iota_S256x256_d0_w32 (ix2 p q)) (iota .tc S256x256 32 [1] iota_S256x256_d1_w32 (ix2 p q)))).toInt : ℤ) : ℝ) : EReal) := rfl
  rw [e, h0, h1]
  have hb : IntOp.andi (BitVec.ofNat 32 p.val) (BitVec.ofNat 32 q.val) = BitVec.ofNat 32 (p.val &&& q.val) := by
    unfold IntOp.andi
    exact (BitVec.ofNat_and ..).symm
  have hlt : p.val &&& q.val < 256 := lt_of_le_of_lt Nat.and_le_left p.isLt
  rw [hb]
  have := word_eq ⟨p.val &&& q.val, hlt⟩
  dsimp only at this
  rw [this]
  rfl

/-! ## The transform inside a group -/

/-- Row `r` of a block of `x`, by column number. -/
def row (x0 : Vec Ideal S32x12288 .bf16) (r : Fin 32) (n : ℕ) : EReal := x0 (ix2 r ⟨n % 12288, Nat.mod_lt _ (by norm_num)⟩)

section Body
variable (arg1 : Memref sig .tc .vmem S32x12288 .bf16) (harg1 : arg1.IsWhole) (arg3 : Memref sig .tc .smem S12x12 .f32) (harg3 : arg3.IsWhole)
  (arg6 : Memref sig .tc .vmem S12x32x1024 .f32) (x0 : Vec Ideal S32x12288 .bf16) (x2 : Vec Ideal S12x12 .f32)

theorem zero_word : Ideal.ofBits .f32 0x00000000#32 = 0 := by
  have := Scale.ofBits_shl 0 (by norm_num)
  simpa [Scale.tau] using this

theorem zdot_apply (k c : ℕ) (hk : k < 12) (hc : c < 4) (r : Fin 32) (q : Fin 256) :
    (zdot (F := Ideal) arg1 harg1 x0 k c (ix2 r q) : EReal) = Had.kz (fun n => row x0 r (1024 * k + n)) c q.val := by
  unfold zdot
  show FloatOps.matmul (F := Ideal) (DotDims.plain 32 256 256) none _ _ (constant (F := Ideal) _ .f32 0x00000000#32) (ix2 r q) = _
  rw [Ideal.matmul_plain_apply]
  show Ideal.ofBits .f32 0x00000000#32 + _ = _
  rw [zero_word, zero_add]
  unfold Had.kz
  refine Finset.sum_congr rfl fun p _ => ?_
  rw [had256]
  congr 1
  refine (congrFun (shapeCast_self _ _) _).trans ((harg1.readAt_unread x0 _ _).trans ?_)
  unfold row
  refine congrArg x0 (funext fun a => Fin.ext ?_)
  have hp := p.isLt
  fin_cases a
  · show 0 + 1 * r.val = r.val; omega
  · show 1024 * (k % 12) + 256 * (c % 4) + 1 * p.val = (1024 * k + (256 * c + p.val)) % 12288
    rw [Nat.mod_eq_of_lt hk, Nat.mod_eq_of_lt hc]; omega

/-- The scratch after the first half: group, row, column. -/
def zval (k : ℕ) (r : Fin 32) (q : ℕ) : EReal := Had.kcomb (fun n => row x0 r (1024 * k + n)) (q % 256) (q / 256)

theorem comb_apply (k c : ℕ) (hk : k < 12) (hc : c < 4) (r : Fin 32) (q : Fin 256) :
    (comb (zdot (F := Ideal) arg1 harg1 x0 k) c (ix2 r q) : EReal) = Had.kcomb (fun n => row x0 r (1024 * k + n)) q.val c := by
  have h := fun c hc => zdot_apply arg1 harg1 x0 k c hk hc r q
  have h0 := h 0 (by norm_num)
  have h1 := h 1 (by norm_num)
  have h2 := h 2 (by norm_num)
  have h3 := h 3 (by norm_num)
  match c, hc with
  | 0, _ => show ((_ : EReal) + _) + (_ + _) = _; rw [h0, h1, h2, h3]; rfl
  | 1, _ => show ((_ : EReal) - _) + (_ - _) = _; rw [h0, h1, h2, h3]; rfl
  | 2, _ => show ((_ : EReal) + _) - (_ + _) = _; rw [h0, h1, h2, h3]; rfl
  | 3, _ => show ((_ : EReal) - _) - (_ - _) = _; rw [h0, h1, h2, h3]; rfl

/-- The scratch as one function of its index. -/
def zG (i : S12x32x1024.Idx) : Elt Ideal .f32 := zval x0 (i 0).val (i 1) (i 2).val

theorem zPiece_apply (n : ℕ) (hn : n < 48) (x : (zPiece (F := Ideal) arg1 harg1 x0 n).1.shape.Idx) :
    (zPiece (F := Ideal) arg1 harg1 x0 n).2 x = zG x0 ((zPiece (F := Ideal) arg1 harg1 x0 n).1.emb x) := by
  have hk : n / 4 < 12 := by omega
  have hc : n % 4 < 4 := by omega
  have hx0 : (x 0).val = 0 := by have : (x 0).val < 1 := (x 0).isLt; omega
  have hx2 : (x 2).val < 256 := (x 2).isLt
  have hx1 : (x 1).val < 32 := (x 1).isLt
  have e : (zPiece (F := Ideal) arg1 harg1 x0 n).2 x = comb (zdot (F := Ideal) arg1 harg1 x0 (n / 4)) (n % 4) (ix2 ⟨(x 1).val, hx1⟩ ⟨(x 2).val, hx2⟩) := by
    refine (shapeCast_addUnit_apply ![32, 256] _ shapeCasts_S32x256_S1x32x256 x).trans ?_
    refine congrArg (comb (zdot (F := Ideal) arg1 harg1 x0 (n / 4)) (n % 4)) (funext fun a => ?_)
    fin_cases a <;> rfl
  rw [e]
  refine (comb_apply arg1 harg1 x0 _ _ hk hc _ _).trans ?_
  have e0 : (((zPiece (F := Ideal) arg1 harg1 x0 n).1.emb x) 0).val = n / 4 := by
    show n / 4 % 12 + 1 * (x 0).val = _
    rw [hx0]; omega
  have e1 : ((zPiece (F := Ideal) arg1 harg1 x0 n).1.emb x) 1 = (⟨(x 1).val, hx1⟩ : Fin 32) := by
    refine Fin.ext ?_
    show 0 + 1 * (x 1).val = (x 1).val
    omega
  have e2 : (((zPiece (F := Ideal) arg1 harg1 x0 n).1.emb x) 2).val = 256 * (n % 4) + (x 2).val := by
    show 256 * (n % 4) + 1 * (x 2).val = _
    omega
  unfold zG zval
  rw [e0, e2, show (256 * (n % 4) + (x 2).val) % 256 = (x 2).val by omega, show (256 * (n % 4) + (x 2).val) / 256 = n % 4 by omega]
  exact congrArg (fun r : Fin 32 => Had.kcomb (fun m => row x0 r (1024 * (n / 4) + m)) (x 2).val (n % 4)) e1.symm

theorem zcanon (y : S12x32x1024.Idx) : View.canon (Val := Elt Ideal) (down (zPiece (F := Ideal) arg1 harg1 x0) 48) y = zG x0 y := by
  have h0 : (y 0).val < 12 := (y 0).isLt
  have h1 : (y 1).val < 32 := (y 1).isLt
  have h2 : (y 2).val < 1024 := (y 2).isLt
  refine View.canon_apply_of_pieces (zG x0) _ (fun p hp x => ?_) y ⟨zPiece arg1 harg1 x0 (4 * (y 0).val + (y 2).val / 256), (mem_down _ _ _).mpr ⟨_, by omega, rfl⟩, ?_⟩
  · obtain ⟨n, hn, rfl⟩ := (mem_down _ _ _).mp hp
    exact zPiece_apply arg1 harg1 x0 n hn x
  · unfold zPiece
    dsimp only
    rw [Rect.mem_set_unit]
    intro a
    fin_cases a
    · show (4 * (y 0).val + (y 2).val / 256) / 4 % 12 ≤ (y 0).val ∧ (y 0).val < (4 * (y 0).val + (y 2).val / 256) / 4 % 12 + 1
      omega
    · show 0 ≤ (y 1).val ∧ (y 1).val < 0 + 32
      omega
    · show 256 * ((4 * (y 0).val + (y 2).val / 256) % 4) ≤ (y 2).val ∧ (y 2).val < 256 * ((4 * (y 0).val + (y 2).val / 256) % 4) + 256
      omega

/-! ## The sum over the groups -/

/-- Entry `(r, 1024 a + q)` of the rotated block. -/
def yval (r : Fin 32) (a : Fin 12) (q : ℕ) : EReal :=
  (∑ k : Fin 12, zval x0 k.val r q * (x2 (ix2 a k) : EReal)) * Ideal.ofBits .f32 0x3C13CD3A#32

theorem hload_apply (a k : Fin 12) : (hload (F := Ideal) arg3 harg3 x2 a.val k.val) = x2 (ix2 a k) := by
  unfold hload
  refine (harg3.readAt_unread x2 _ _).trans ?_
  refine congrArg x2 (funext fun b => Fin.ext ?_)
  have ha := a.isLt
  have hk := k.isLt
  fin_cases b
  · show a.val % 12 + 1 * 0 = a.val; omega
  · show k.val % 12 + 1 * 0 = k.val; omega

theorem yterm_apply (a k : Fin 12) (j : ℕ) (hj : j < 8) (r : Fin 32) (l : Fin 128) :
    (yterm (F := Ideal) arg3 harg3 arg6 (down (zPiece (F := Ideal) arg1 harg1 x0) 48) x2 a.val j k.val (ix2 r l) : EReal)
      = zval x0 k.val r (128 * j + l.val) * (x2 (ix2 a k) : EReal) := by
  unfold yterm
  show (_ : EReal) * hload (F := Ideal) arg3 harg3 x2 a.val k.val = _
  rw [hload_apply]
  refine congrArg (fun z : EReal => z * (x2 (ix2 a k) : EReal)) ?_
  refine (shapeCast_dropUnit_apply ![32, 128] _ shapeCasts_S1x32x128_S32x128 (ix2 r l)).trans ?_
  unfold zload
  refine (congrFun (View.readCov_eq_canon' _ _ _) _).trans ((zcanon arg1 harg1 x0 _).trans ?_)
  have hk := k.isLt
  have e0 : k.val % 12 + 1 * 0 = k.val := by omega
  have e1 : 0 + 1 * r.val = r.val := by omega
  have e2 : 128 * (j % 8) + 1 * l.val = 128 * j + l.val := by omega
  show zval x0 (k.val % 12 + 1 * 0) ⟨0 + 1 * r.val, _⟩ (128 * (j % 8) + 1 * l.val) = _
  simp only [e0, e1, e2]

theorem ysum_apply (a : Fin 12) (j : ℕ) (hj : j < 8) (r : Fin 32) (l : Fin 128) : ∀ (n : ℕ) (hn : n < 12),
    (ysum (F := Ideal) arg3 harg3 arg6 (down (zPiece (F := Ideal) arg1 harg1 x0) 48) x2 a.val j n (ix2 r l) : EReal)
      = ∑ k : Fin (n + 1), zval x0 k.val r (128 * j + l.val) * (x2 (ix2 a ⟨k.val, by have := k.isLt; omega⟩) : EReal)
  | 0, hn => by
    rw [Fin.sum_univ_one]
    exact yterm_apply arg1 harg1 arg3 harg3 arg6 x0 x2 a 0 j hj r l
  | n + 1, hn => by
    rw [Fin.sum_univ_castSucc]
    show (ysum (F := Ideal) arg3 harg3 arg6 (down (zPiece (F := Ideal) arg1 harg1 x0) 48) x2 a.val j n (ix2 r l) : EReal) + _ = _
    rw [ysum_apply a j hj r l n (by omega)]
    exact congrArg (fun z : EReal => _ + z) (yterm_apply arg1 harg1 arg3 harg3 arg6 x0 x2 a ⟨n + 1, hn⟩ j hj r l)

theorem ytile_apply (n : ℕ) (hn : n < 96) (r : Fin 32) (l : Fin 128) :
    (ytile (F := Ideal) arg3 harg3 arg6 (down (zPiece (F := Ideal) arg1 harg1 x0) 48) x2 n (ix2 r l) : EReal)
      = yval x0 x2 r ⟨n % 12, by omega⟩ (128 * (n / 12) + l.val) := by
  unfold ytile yval
  show (_ : EReal) * Ideal.ofBits .f32 0x3C13CD3A#32 = _
  exact congrArg (fun z : EReal => z * Ideal.ofBits .f32 0x3C13CD3A#32) (ysum_apply arg1 harg1 arg3 harg3 arg6 x0 x2 ⟨n % 12, by omega⟩ (n / 12) (by omega) r l 11 (by norm_num))

end Body

end Cert.RotVal

end
-- ==== Proof.RotOut.lean ====
/- What one grid point of the rotation leaves in its two output buffers, over the extended reals. -/
module

public import proofs.«01_k».proof.Proof.RotVal

@[expose] public section

set_option maxRecDepth 16384

noncomputable section

namespace Cert.RotOut

open Idealize.ShloMosaic hiding ix2 ix1
open Idealize.ShloMosaic.TcCoe Idealize.ShloMosaic.Tactic Idealize.ShloMosaic.ValueIdx
open Idealize.SL Idealize.SL.Sem
open Cert.KernelIdeal Cert.KernelIdeal.Gen Cert.RotPieces Cert.RotVal

theorem hz2 : (![0, 0] : Fin 2 → Nat) = fun _ => 0 := funext fun a => by fin_cases a <;> rfl

/-! ## The scale's inverse -/

section Inv
variable {F : FTy → Type} [FloatOps F]
variable (c : Dev nD) (arg2 : Memref sig .tc .smem S16 .f32) (harg2 : arg2.IsWhole) (x1 : Vec F S16 .f32)

theorem inbS (k : Fin 16) : ∀ a, (![k.val] : Fin 1 → ℕ) a + S1.size a ≤ S16.size a := by
  intro a
  fin_cases a
  show k.val + 1 ≤ 16
  omega

/-- Entry `k` of the history, as the body loads it. -/
def hist (k : Fin 16) : F .f32 :=
  View.readAt (Elt F) arg2.view (Rect.unit (s := S16) ![k.val] S1.size (inbS k)).toLoadRect (harg2.unread x1)
    (Shape.Idx.first (show 0 < S1.numel by decide))

theorem hist_eq : hist arg2 harg2 x1 = fun k => x1 (ix1 k) := by
  funext k
  unfold hist
  refine (harg2.readAt_unread x1 _ _).trans ?_
  refine congrArg x1 (funext fun b => Fin.ext ?_)
  fin_cases b
  show k.val + 1 * 0 = k.val
  omega

/-- The inverse of the scale, by the history. -/
def inv : F .f32 := Scale.pow2 (Scalar.subi 0#32 (Scale.expBits (Scale.hmax fun k => x1 (ix1 k))))

theorem inv_A : kernelRun0_A.sl.r_20 c arg2 harg2 x1 = inv x1 := by
  unfold inv
  rw [← hist_eq arg2 harg2 x1]
  sl_kernel_rfl

theorem inv_B : kernelRun0_B.sl.r_20 c arg2 harg2 x1 = inv x1 := by
  unfold inv
  rw [← hist_eq arg2 harg2 x1]
  sl_kernel_rfl

end Inv

/-! ## The codes -/

/-- The code of a value. -/
def code (y inv : EReal) : EReal :=
  min (Ideal.ofBits .f32 0x43E00000#32) (max (Ideal.ofBits .f32 0xC3E00000#32) (y * inv))

section Body
variable (arg1 : Memref sig .tc .vmem S32x12288 .bf16) (harg1 : arg1.IsWhole) (arg3 : Memref sig .tc .smem S12x12 .f32) (harg3 : arg3.IsWhole)
  (arg6 : Memref sig .tc .vmem S12x32x1024 .f32) (x0 : Vec Ideal S32x12288 .bf16) (x1 : Vec Ideal S16 .f32) (x2 : Vec Ideal S12x12 .f32)

/-- The block of the codes as one function of its index. -/
def cG (i : S32x12288.Idx) : Elt Ideal .fp8e4m3 :=
  code (yval x0 x2 (i 0) ⟨(i 1).val / 1024, by have : (i 1).val < 12288 := (i 1).isLt; omega⟩ ((i 1).val % 1024)) (inv (F := Ideal) x1)

theorem yval_congr {r r' : Fin 32} {a a' : Fin 12} {q q' : ℕ} (h : r.val = r'.val) (h' : a.val = a'.val) (h'' : q = q') :
    yval x0 x2 r a q = yval x0 x2 r' a' q' := by
  obtain rfl := Fin.ext h
  obtain rfl := Fin.ext h'
  obtain rfl := h''
  rfl

theorem cPiece_apply (n : ℕ) (hn : n < 96)
    (x : (cPiece (F := Ideal) arg3 harg3 arg6 (down (zPiece arg1 harg1 x0) 48) x2 (inv x1) n).1.shape.Idx) :
    (cPiece (F := Ideal) arg3 harg3 arg6 (down (zPiece arg1 harg1 x0) 48) x2 (inv x1) n).2 x
      = cG x0 x1 x2 ((cPiece (F := Ideal) arg3 harg3 arg6 (down (zPiece arg1 harg1 x0) 48) x2 (inv x1) n).1.emb x) := by
  have hx0 : (x 0).val < 32 := (x 0).isLt
  have hx1 : (x 1).val < 128 := (x 1).isLt
  have ex : x = ix2 (⟨(x 0).val, hx0⟩ : Fin 32) (⟨(x 1).val, hx1⟩ : Fin 128) := by funext a; fin_cases a <;> rfl
  have e := ytile_apply arg1 harg1 arg3 harg3 arg6 x0 x2 n hn ⟨(x 0).val, hx0⟩ ⟨(x 1).val, hx1⟩
  rw [← ex] at e
  show code (ytile (F := Ideal) arg3 harg3 arg6 (down (zPiece arg1 harg1 x0) 48) x2 n x) (inv (F := Ideal) x1) = _
  unfold cG
  refine congrArg (fun y : EReal => code y (inv (F := Ideal) x1)) ?_
  refine e.trans (yval_congr x0 x2 ?_ ?_ ?_)
  · show (x 0).val = 0 + 1 * (x 0).val; omega
  · show n % 12 = (1024 * (n % 12) + 128 * (n / 12 % 8) + 1 * (x 1).val) / 1024; omega
  · show 128 * (n / 12) + (x 1).val = (1024 * (n % 12) + 128 * (n / 12 % 8) + 1 * (x 1).val) % 1024; omega

/-! ## The maxima -/

/-- The magnitude. -/
abbrev ab (y : EReal) : EReal := max y (-y)

theorem slice_apply (off : ℕ) (y : FVec Ideal S32x128 .f32) (h : S32x128.Slices ![off, 0] S8x128) (s : Fin 8) (l : Fin 128) (ho : off + 8 ≤ 32) :
    extractStridedSlice S8x128 ![off, 0] y h (ix2 s l) = y (ix2 ⟨off + s.val, by have := s.isLt; omega⟩ l) := by
  refine extractStridedSlice_apply ![off, 0] y h (ix2 s l) _ fun a => ?_
  fin_cases a
  · rfl
  · show l.val = 0 + l.val; omega

theorem amaxStep_le (acc : FVec Ideal S8x128 .f32) (y : FVec Ideal S32x128 .f32) (s : Fin 8) (l : Fin 128) (z : EReal) :
    (show EReal from amaxStep (F := Ideal) acc y (ix2 s l)) ≤ z ↔ (acc (ix2 s l) : EReal) ≤ z
      ∧ ∀ g : Fin 4, ab (y (ix2 ⟨8 * g.val + s.val, by have := s.isLt; have := g.isLt; omega⟩ l)) ≤ z := by
  have e : (show EReal from amaxStep (F := Ideal) acc y (ix2 s l))
      = max (max (max (max (acc (ix2 s l) : EReal) (ab (extractStridedSlice S8x128 ![0, 0] y slices_S32x128_o0_0_S8x128 (ix2 s l))))
          (ab (extractStridedSlice S8x128 ![8, 0] y slices_S32x128_o8_0_S8x128 (ix2 s l))))
          (ab (extractStridedSlice S8x128 ![16, 0] y slices_S32x128_o16_0_S8x128 (ix2 s l))))
          (ab (extractStridedSlice S8x128 ![24, 0] y slices_S32x128_o24_0_S8x128 (ix2 s l))) := rfl
  rw [e, slice_apply 0 _ _ _ _ (by norm_num), slice_apply 8 _ _ _ _ (by norm_num), slice_apply 16 _ _ _ _ (by norm_num), slice_apply 24 _ _ _ _ (by norm_num)]
  rw [max_le_iff, max_le_iff, max_le_iff, max_le_iff]
  constructor
  · rintro ⟨⟨⟨⟨h, h0⟩, h1⟩, h2⟩, h3⟩
    refine ⟨h, fun g => ?_⟩
    fin_cases g
    · exact h0
    · exact h1
    · exact h2
    · exact h3
  · rintro ⟨h, hg⟩
    exact ⟨⟨⟨⟨h, hg 0⟩, hg 1⟩, hg 2⟩, hg 3⟩

theorem amax_le (y : ℕ → FVec Ideal S32x128 .f32) (s : Fin 8) (l : Fin 128) (z : EReal) : ∀ n,
    (show EReal from amax (F := Ideal) y n (ix2 s l)) ≤ z ↔ (0 : EReal) ≤ z
      ∧ ∀ i, i < n → ∀ g : Fin 4, ab (y i (ix2 ⟨8 * g.val + s.val, by have := s.isLt; have := g.isLt; omega⟩ l)) ≤ z
  | 0 => by
    show Ideal.ofBits .f32 0x00000000#32 ≤ z ↔ _
    rw [RotVal.zero_word]
    exact ⟨fun h => ⟨h, fun i hi => absurd hi (Nat.not_lt_zero _)⟩, fun h => h.1⟩
  | n + 1 => by
    refine (amaxStep_le (amax y n) (y n) s l z).trans ?_
    rw [amax_le y s l z n]
    constructor
    · rintro ⟨⟨h0, h⟩, hn⟩
      refine ⟨h0, fun i hi g => ?_⟩
      rcases Nat.lt_succ_iff_lt_or_eq.mp hi with h' | rfl
      · exact h i h' g
      · exact hn g
    · rintro ⟨h0, h⟩
      exact ⟨⟨h0, fun i hi g => h i (Nat.lt_succ_of_lt hi) g⟩, fun g => h n (Nat.lt_succ_self n) g⟩

/-- The entries of the rotated block at row `s` modulo 8 and column `l` modulo 128 are at most `z` in magnitude. -/
def Below (s : Fin 8) (l : Fin 128) (z : EReal) : Prop :=
  ∀ (g : Fin 4) (a : Fin 12) (j : Fin 8), ab (yval x0 x2 ⟨8 * g.val + s.val, by have := s.isLt; have := g.isLt; omega⟩ a (128 * j.val + l.val)) ≤ z

theorem block_le (s : Fin 8) (l : Fin 128) (z : EReal) :
    (show EReal from amax (F := Ideal) (ytile arg3 harg3 arg6 (down (zPiece arg1 harg1 x0) 48) x2) 96 (ix2 s l)) ≤ z
      ↔ (0 : EReal) ≤ z ∧ Below x0 x2 s l z := by
  rw [amax_le]
  refine and_congr_right fun _ => ?_
  constructor
  · intro h g a j
    have ha := a.isLt
    have hj := j.isLt
    have e := h (12 * j.val + a.val) (by omega) g
    rw [ytile_apply arg1 harg1 arg3 harg3 arg6 x0 x2 _ (by omega)] at e
    rw [yval_congr x0 x2 rfl (a' := a) (q' := 128 * j.val + l.val) (by show (12 * j.val + a.val) % 12 = a.val; omega)
      (by rw [show (12 * j.val + a.val) / 12 = j.val by omega])] at e
    exact e
  · intro h i hi g
    rw [ytile_apply arg1 harg1 arg3 harg3 arg6 x0 x2 _ hi]
    exact h g ⟨i % 12, by omega⟩ ⟨i / 12, by omega⟩

end Body

/-! ## The two outputs of a point -/

section Out
variable (c : Dev nD) (i : grid0.Coords) (arg1 : Memref sig .tc .vmem S32x12288 .bf16) (harg1 : arg1.IsWhole)
  (arg2 : Memref sig .tc .smem S16 .f32) (harg2 : arg2.IsWhole) (arg3 : Memref sig .tc .smem S12x12 .f32) (harg3 : arg3.IsWhole)
  (arg4 : Memref sig .tc .vmem S32x12288 .fp8e4m3) (harg4 : arg4.IsWhole) (arg5 : Memref sig .tc .vmem S8x128 .f32)
  (harg5 : arg5.IsWhole) (arg6 : Memref sig .tc .vmem S12x32x1024 .f32) (harg6 : arg6.IsWhole)
  (x0 : Vec Ideal S32x12288 .bf16) (x1 : Vec Ideal S16 .f32) (x2 : Vec Ideal S12x12 .f32)

theorem out_A_3 (hc0 : cond0_0 i) (hc1 : ¬cond0_1 i) :
    out0_A_3 (F := Ideal) c i arg1 harg1 arg2 harg2 arg3 harg3 arg4 harg4 arg5 harg5 arg6 harg6 hc0 hc1 x0 x1 x2 = cG x0 x1 x2 := by
  funext y
  unfold out0_A_3
  refine View.read_writes_apply_of_pieces _ _ (cG x0 x1 x2) _ (fun p hp x => ?_) y
    (cover0_A_3 c i arg1 harg1 arg2 harg2 arg3 harg3 arg4 harg4 arg5 harg5 arg6 harg6 hc0 hc1 x0 x1 x2 y)
  rw [cPieces_A, zPieces_A, inv_A] at hp
  obtain ⟨n, hn, rfl⟩ := (mem_down _ _ _).mp hp
  exact cPiece_apply arg1 harg1 arg3 harg3 arg6 x0 x1 x2 n hn x

theorem out_B_3 (hc0 : ¬cond0_0 i) (hc1 : cond0_1 i) (xo4 : Vec Ideal S8x128 .f32) :
    out0_B_3 (F := Ideal) c i arg1 harg1 arg2 harg2 arg3 harg3 arg4 harg4 arg5 harg5 arg6 harg6 hc0 hc1 x0 x1 x2 xo4 = cG x0 x1 x2 := by
  funext y
  unfold out0_B_3
  refine View.read_writes_apply_of_pieces _ _ (cG x0 x1 x2) _ (fun p hp x => ?_) y
    (cover0_B_3 c i arg1 harg1 arg2 harg2 arg3 harg3 arg4 harg4 arg5 harg5 arg6 harg6 hc0 hc1 x0 x1 x2 xo4 y)
  rw [cPieces_B, zPieces_B, inv_B] at hp
  obtain ⟨n, hn, rfl⟩ := (mem_down _ _ _).mp hp
  exact cPiece_apply arg1 harg1 arg3 harg3 arg6 x0 x1 x2 n hn x

theorem out_A_4 (hc0 : cond0_0 i) (hc1 : ¬cond0_1 i) (s : Fin 8) (l : Fin 128) (z : EReal) :
    (show EReal from out0_A_4 (F := Ideal) c i arg1 harg1 arg2 harg2 arg3 harg3 arg4 harg4 arg5 harg5 arg6 harg6 hc0 hc1 x0 x1 x2 (ix2 s l)) ≤ z
      ↔ (0 : EReal) ≤ z ∧ Below x0 x2 s l z := by
  unfold out0_A_4
  rw [View.read_writes_eq_canon _ _ _ (cover0_A_4 c i arg1 harg1 arg2 harg2 arg3 harg3 arg4 harg4 arg5 harg5 arg6 harg6 hc0 hc1 x0 x1 x2)]
  rw [mPieces_A, zPieces_A, View.canon_unit_zero (S := S8x128) hz2]
  exact block_le arg1 harg1 arg3 harg3 arg6 x0 x2 s l z

theorem out_B_4 (hc0 : ¬cond0_0 i) (hc1 : cond0_1 i) (xo4 : Vec Ideal S8x128 .f32) (s : Fin 8) (l : Fin 128) (z : EReal) :
    (show EReal from out0_B_4 (F := Ideal) c i arg1 harg1 arg2 harg2 arg3 harg3 arg4 harg4 arg5 harg5 arg6 harg6 hc0 hc1 x0 x1 x2 xo4 (ix2 s l)) ≤ z
      ↔ (xo4 (ix2 s l) : EReal) ≤ z ∧ (0 : EReal) ≤ z ∧ Below x0 x2 s l z := by
  unfold out0_B_4
  rw [View.read_writes_eq_canon _ _ _ (cover0_B_4 c i arg1 harg1 arg2 harg2 arg3 harg3 arg4 harg4 arg5 harg5 arg6 harg6 hc0 hc1 x0 x1 x2 xo4)]
  rw [mPieces_B, zPieces_B, View.canon_unit_zero (S := S8x128) hz2]
  unfold k0_pay1
  simp only [View.readAt_eq_ld, harg5.read_unread, View.ld_unit_zero (S := S8x128) hz2, shapeCast_self]
  show max (xo4 (ix2 s l) : EReal) _ ≤ z ↔ _
  rw [max_le_iff]
  exact and_congr_right fun _ => block_le arg1 harg1 arg3 harg3 arg6 x0 x2 s l z

end Out

end Cert.RotOut

end
-- ==== Proof.RotRun.lean ====
/- What the rotation's run leaves in its two results, over the extended reals. -/
module

public import proofs.«01_k».proof.Proof.RotOut
public import Idealize.ShloMosaic.Lib.Tactic
public import Idealize.ShloMosaic.Lib.StableHlo.RunRead

@[expose] public section

set_option maxRecDepth 16384

noncomputable section

namespace Cert.RotRun

open Idealize.ShloMosaic hiding ix2 ix1
open Idealize.ShloMosaic.TcCoe Idealize.ShloMosaic.ValueIdx
open Idealize.SL.Sem
open Idealize.ShloMosaic.Pipeline (Dat)
open Cert.KernelIdeal Cert.KernelIdeal.Gen Cert.RotVal Cert.RotOut

/-- Row `R` of the rows of `x`, by column number. -/
def bigRow (X : Vec Ideal S256x12288 .bf16) (R : Fin 256) (n : ℕ) : EReal := X (ix2 R ⟨n % 12288, Nat.mod_lt _ (by norm_num)⟩)

/-- Entry `(R, 1024 a + q)` of the rotated rows, as the kernel computes it. -/
def big (X : Vec Ideal S256x12288 .bf16) (H : Vec Ideal S12x12 .f32) (R : Fin 256) (a : Fin 12) (q : ℕ) : EReal :=
  (∑ k : Fin 12, Had.kcomb (fun n => bigRow X R (1024 * k.val + n)) (q % 256) (q / 256) * (H (ix2 a k) : EReal)) * Ideal.ofBits .f32 0x3C13CD3A#32

/-- The codes of all rows. -/
def codesOf (X : Vec Ideal S256x12288 .bf16) (h : Vec Ideal S16 .f32) (H : Vec Ideal S12x12 .f32) : Vec Ideal S256x12288 .fp8e4m3 := fun i =>
  code (big X H (i 0) ⟨(i 1).val / 1024, by have : (i 1).val < 12288 := (i 1).isLt; omega⟩ ((i 1).val % 1024)) (inv (F := Ideal) h)

-- what the buffers hold when the call is entered
variable (V : (c : Dev nD) → (b : Ref sig .tc) → Buf (Elt Ideal) ((c : Thread nD τ).loc b))

theorem flushed3 (c : Dev nD) (t : Fin cfg0.N) :
    (dat0 V c).flushed 3 t = (cfg0.win 3).cut (grid0.coords t) ((outsAt0 V c t.val t.isLt).1) := by
  show (cfg0.win 3).cut (grid0.coords t) ((dat0 V c).after 3 t) = _
  rw [after0_3]
theorem flushed4 (c : Dev nD) (t : Fin cfg0.N) :
    (dat0 V c).flushed 4 t = (cfg0.win 4).cut (grid0.coords t) ((outsAt0 V c t.val t.isLt).2) := by
  show (cfg0.win 4).cut (grid0.coords t) ((dat0 V c).after 4 t) = _
  rw [after0_4]

theorem N8 : cfg0.N = 8 := N_0

theorem idx_x : ∀ t : Fin cfg0.N, win0_0.index t 0 = t.val ∧ win0_0.index t 1 = 0 :=
  (by decide +kernel : ∀ t : Fin grid0.N, win0_0.index t 0 = t.val ∧ win0_0.index t 1 = 0)
theorem idx_c : ∀ t : Fin cfg0.N, win0_3.index t 0 = t.val ∧ win0_3.index t 1 = 0 :=
  (by decide +kernel : ∀ t : Fin grid0.N, win0_3.index t 0 = t.val ∧ win0_3.index t 1 = 0)

theorem whole_hist (c : Dev nD) (t : Fin cfg0.N) : (iblk0 V c 1 t : Vec Ideal S16 .f32) = V c main_arg1 := by
  have hz : (fun a => win0_1.index t a * main_arg1.ty.shape.size a) = fun _ => 0 := by funext a; revert t a; decide +kernel
  exact Memref.read_access_unit_zero (Elt Ideal) main_arg1 hz (fun a => by rw [congrFun hz a]; simp) (V c main_arg1)
theorem whole_had (c : Dev nD) (t : Fin cfg0.N) : (iblk0 V c 2 t : Vec Ideal S12x12 .f32) = V c main_arg2 := by
  have hz : (fun a => win0_2.index t a * main_arg2.ty.shape.size a) = fun _ => 0 := by funext a; revert t a; decide +kernel
  exact Memref.read_access_unit_zero (Elt Ideal) main_arg2 hz (fun a => by rw [congrFun hz a]; simp) (V c main_arg2)

/-- The rows that the pipeline reads. -/
abbrev rows (c : Dev nD) : Vec Ideal S256x12288 .bf16 := V c main_v0

theorem block_x (c : Dev nD) (t : Fin cfg0.N) (r : Fin 32) (n : Fin 12288) (h : 32 * t.val + r.val < 256) :
    (iblk0 V c 0 t : Vec Ideal S32x12288 .bf16) (ix2 r n) = rows V c (ix2 ⟨32 * t.val + r.val, h⟩ n) := by
  obtain ⟨h0, h1⟩ := idx_x t
  unfold iblk0
  rw [View.read_apply]
  show V c main_v0 _ = V c main_v0 _
  congr 1
  funext a
  apply Fin.ext
  match a with
  | ⟨0, _⟩ => show win0_0.index t 0 * 32 + 1 * r.val = 32 * t.val + r.val; rw [h0]; omega
  | ⟨1, _⟩ => show win0_0.index t 1 * 12288 + 1 * n.val = n.val; rw [h1]; omega

theorem yval_eq (c : Dev nD) (t : Fin cfg0.N) (H : Vec Ideal S12x12 .f32) (r : Fin 32) (R : Fin 256) (hR : R.val = 32 * t.val + r.val) (a : Fin 12) (q : ℕ) :
    yval (iblk0 V c 0 t) H r a q = big (rows V c) H R a q := by
  unfold yval big zval
  have e : ∀ n, row (iblk0 V c 0 t) r n = bigRow (rows V c) R n := by
    intro n
    unfold row bigRow
    rw [block_x V c t r _ (by have := R.isLt; omega)]
    exact congrArg (fun R : Fin 256 => rows V c (ix2 R _)) (Fin.ext hR.symm)
  simp only [e]

/-! ## The codes -/

theorem outs_1 (c : Dev nD) (t : Fin cfg0.N) : (outsAt0 V c t.val t.isLt).1 = cG (iblk0 V c 0 t) (iblk0 V c 1 t) (iblk0 V c 2 t) := by
  have hN := N8
  have ht := t.isLt
  by_cases h : 1 ≤ t.val
  · rw [outsAt0_B V c t (by omega) h]
    dsimp only
    exact out_B_3 ..
  · rw [outsAt0_A V c t (by omega) h]
    dsimp only
    exact out_A_3 ..

theorem final_3 (c : Dev nD) : (dat0 V c).arrAt 3 cfg0.N = codesOf (rows V c) (V c main_arg1) (V c main_arg2) := by
  have hN := N8
  refine (dat0 V c).arrAt_eq_of_cover 3 _ (fun t hf => ?_) fun i => ?_
  · obtain ⟨h0, h1⟩ := idx_c t
    have ht := t.isLt
    rw [flushed3, outs_1, whole_hist, whole_had]
    funext y
    have hy0 : (y 0).val < 32 := (y 0).isLt
    have hy1 : (y 1).val < 12288 := (y 1).isLt
    rw [View.read_apply]
    have e0 : ((((cfg0.win 3).blk t).view.emb y : S256x12288.Idx) 0).val = 32 * t.val + (y 0).val := by
      show win0_3.index t 0 * 32 + 1 * (y 0).val = _; rw [h0]; omega
    have e1 : ((((cfg0.win 3).blk t).view.emb y : S256x12288.Idx) 1).val = (y 1).val := by
      show win0_3.index t 1 * 12288 + 1 * (y 1).val = _; rw [h1]; omega
    show cG (iblk0 V c 0 t) _ _ (fun a => ⟨(y a).val, _⟩) = codesOf _ _ _ (((cfg0.win 3).blk t).view.emb y : S256x12288.Idx)
    unfold cG codesOf
    refine congrArg (fun v : EReal => code v _) ?_
    refine (yval_eq V c t _ _ _ e0 _ _).trans ?_
    simp only [e1]
  · have hi0 : (i 0).val < 256 := (i 0).isLt
    have hi1 : (i 1).val < 12288 := (i 1).isLt
    have ht : (i 0).val / 32 < cfg0.N := by omega
    refine ⟨⟨(i 0).val / 32, ht⟩, flush0_3 _, ?_⟩
    show i ∈ ((View.whole main_v1_0).slice (win0_3.rect ⟨(i 0).val / 32, ht⟩)).set
    rw [View.set_slice_whole, Rect.mem_set_unit]
    obtain ⟨h0, h1⟩ := idx_c ⟨(i 0).val / 32, ht⟩
    intro a
    match a with
    | ⟨0, _⟩ =>
      show win0_3.index ⟨(i 0).val / 32, ht⟩ 0 * 32 ≤ (i 0).val ∧ (i 0).val < win0_3.index ⟨(i 0).val / 32, ht⟩ 0 * 32 + 32
      rw [h0]; dsimp only; omega
    | ⟨1, _⟩ =>
      show win0_3.index ⟨(i 0).val / 32, ht⟩ 1 * 12288 ≤ (i 1).val ∧ (i 1).val < win0_3.index ⟨(i 0).val / 32, ht⟩ 1 * 12288 + 12288
      rw [h1]; omega

/-! ## The maxima -/

theorem outs_2 (c : Dev nD) (s : Fin 8) (l : Fin 128) (z : EReal) : ∀ (n : ℕ) (h : n < cfg0.N),
    (show EReal from (outsAt0 V c n h).2 (ix2 s l)) ≤ z ↔ (0 : EReal) ≤ z ∧ ∀ (t : Fin cfg0.N), t.val ≤ n → Below (iblk0 V c 0 t) (iblk0 V c 2 t) s l z
  | 0, h => by
    have e := congrArg (fun p => p.2) (outsAt0_A V c ⟨0, h⟩ rfl (by norm_num))
    dsimp only at e
    rw [e]
    refine (out_A_4 ..).trans (and_congr_right fun _ => ?_)
    constructor
    · intro hb t ht
      obtain rfl : t = ⟨0, h⟩ := Fin.ext (Nat.le_zero.mp ht)
      exact hb
    · intro hb
      exact hb ⟨0, h⟩ le_rfl
  | n + 1, h => by
    have hN := N8
    have e := congrArg (fun p => p.2) (outsAt0_B V c ⟨n + 1, h⟩ (by dsimp only; omega) (by dsimp only; omega))
    dsimp only at e
    rw [e]
    refine (out_B_4 ..).trans ?_
    have ih := outs_2 c s l z n (by omega)
    constructor
    · rintro ⟨h1, h0, hb⟩
      refine ⟨h0, fun t ht => ?_⟩
      rcases Nat.lt_or_eq_of_le ht with h' | h'
      · exact (ih.mp h1).2 t (by omega)
      · obtain rfl : t = ⟨n + 1, h⟩ := Fin.ext h'
        exact hb
    · rintro ⟨h0, hb⟩
      exact ⟨ih.mpr ⟨h0, fun t ht => hb t (by omega)⟩, h0, hb ⟨n + 1, h⟩ le_rfl⟩

abbrev last : Fin cfg0.N := ⟨7, by rw [N8]; norm_num⟩

theorem off4 (t : Fin cfg0.N) : (fun a => win0_4.index t a * main_v1_1.ty.shape.size a) = fun _ => 0 := by
  funext a; revert t a; decide +kernel

theorem final_4 (c : Dev nD) : (dat0 V c).arrAt 4 cfg0.N = (outsAt0 V c 7 last.isLt).2 := by
  have hN := N8
  refine (dat0 V c).arrAt_eq_of_cover 4 _ (fun t hf => ?_) fun i => ⟨last, (flush0_4 last).mpr rfl, ?_⟩
  · have := (flush0_4 t).mp hf
    have := t.isLt
    obtain rfl : t = last := Fin.ext (by show t.val = 7; omega)
    rw [flushed4]
    exact (Memref.read_access_unit_zero (Elt Ideal) main_v1_1 (off4 last) (fun a => by rw [congrFun (off4 last) a]; simp) _).symm
  · show i ∈ ((View.whole main_v1_1).slice (win0_4.rect last)).set
    rw [View.set_slice_whole, Rect.mem_set_unit]
    intro a
    have h0 := congrFun (off4 last) a
    have h1 := (i a).isLt
    refine ⟨?_, ?_⟩
    · exact le_trans (le_of_eq h0) (Nat.zero_le _)
    · exact lt_of_lt_of_eq (lt_of_lt_of_eq h1 (Nat.zero_add _).symm) (congrArg (· + main_v1_1.ty.shape.size a) h0.symm)

/-- Entry `(s, l)` of the tile of maxima is the greatest magnitude over the rows `s` modulo 8 and the columns `l` modulo 128. -/
theorem tile_le (c : Dev nD) (s : Fin 8) (l : Fin 128) (z : EReal) :
    (show EReal from (outsAt0 V c 7 last.isLt).2 (ix2 s l)) ≤ z ↔
      ∀ (g : Fin 32) (a : Fin 12) (j : Fin 8), ab (big (rows V c) (V c main_arg2) ⟨8 * g.val + s.val, by have := s.isLt; have := g.isLt; omega⟩ a (128 * j.val + l.val)) ≤ z := by
  have hN := N8
  rw [outs_2]
  constructor
  · rintro ⟨-, h⟩ g a j
    have hg := g.isLt
    have hs := s.isLt
    have e := h ⟨g.val / 4, by omega⟩ (by dsimp only; omega) ⟨g.val % 4, by omega⟩ a j
    rw [whole_had] at e
    rw [yval_eq V c ⟨g.val / 4, by omega⟩ _ _ ⟨8 * g.val + s.val, by omega⟩ (by dsimp only; omega)] at e
    exact e
  · intro h
    refine ⟨?_, fun t ht g a j => ?_⟩
    · refine le_trans ?_ (h 0 0 0)
      rcases le_total (0 : EReal) (big (rows V c) (V c main_arg2) ⟨8 * (0 : Fin 32).val + s.val, by have := s.isLt; omega⟩ 0 (128 * (0 : Fin 8).val + l.val)) with h' | h'
      · exact le_trans h' (le_max_left _ _)
      · exact le_trans (EReal.neg_nonneg.mpr h') (le_max_right _ _)
    · have hg := g.isLt
      have hs := s.isLt
      have ht' := t.isLt
      rw [whole_had]
      rw [yval_eq V c t _ _ ⟨8 * (4 * t.val + g.val) + s.val, by omega⟩ (by dsimp only; omega)]
      exact h ⟨4 * t.val + g.val, by omega⟩ a j

end Cert.RotRun

end
-- ==== Proof.WholeRun.lean ====
/- The kernel's run: its two calls and the host operations before each, from the launch to the return. -/
module

public import proofs.«01_k».proof.Proof.Region0
public import proofs.«01_k».proof.Proof.Region1

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each call's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- The first call over the thread state: entered from every unscoped buffer at `W1`, left at `W2`
    (what the next segment is entered from). Its arrays split out of the unscoped buffers
    (`arrays_of_unscopedBufs`) and put back at the exit contents (`unscopedBufs_of_arrays`); the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The second call over the thread state: entered from every unscoped buffer at `W3`, left at `W4`
    (what the launch reads at the end). Its arrays split out of the unscoped buffers
    (`arrays_of_unscopedBufs`) and put back at the exit contents (`unscopedBufs_of_arrays`); the generator register into the
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec1 c ⊢ (pdats m ρ 1 c).Φ 0 from hin (V3 m ρ) c)
    unfold Pipeline.ΦA
    isplitl [Hr]; · iexact Hr
    iexact Hp
  hout c := by
    rw [Pipeline.ownSems0_none]
    iintro H
    ihave HH := (show (pdats m ρ 1 c).Φ (Fin.last _) ⊢ Pipeline.ΦA spec1 c from hout (V3 m ρ) c) $$ H
    unfold Pipeline.ΦA
    icases HH with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the whole program: every execution ends, and every final state has each unscoped buffer at `W4` and every semaphore
    counter at zero. -/
theorem run_whole : θ_run defs (onTc (τ := τ) (main (F := F))) ⟨m, fun _ => 0, ρ⟩ (fun r => (∀ c : Dev nD, ∀ b ∈ Pipeline.ucRefs τ sig,
      r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: every argument ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (run_whole m ρ)

end Cert.KernelIdeal.Gen

end
-- ==== Proof.WholeVal.lean ====
/- What the whole program leaves in its four results, in terms of what its two pallas_calls leave. -/
module

public import proofs.«01_k».proof.Proof.WholeRun
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

variable {F : FTy → Type} [FloatOps F]
variable (m : (ℓ : Loc nD τ sig) → Buf (Elt F) ℓ) (ρ : Dev nD → PrngReg)

/-! ## What the first call reads and leaves -/

theorem rows_in (c : Dev nD) : V1 m ρ c main_v0 = shapeCast S256x12288 (m ((c : Thread nD τ).loc main_arg0)) shapeCasts_S2x128x12288_S256x12288 := by
  show StableHlo.after hostOps0 (W0 m ρ c) (Proc.devRef .tc main_v0) = _
  after_reads_simp
  rfl
theorem hist_in (c : Dev nD) : V1 m ρ c main_arg1 = m ((c : Thread nD τ).loc main_arg1) := W1_args m ρ c main_arg1 (by decide)
theorem had_in (c : Dev nD) : V1 m ρ c main_arg2 = m ((c : Thread nD τ).loc main_arg2) := W1_args m ρ c main_arg2 (by decide)

theorem codes_mid (c : Dev nD) : V3 m ρ c main_v1_0 = (dat0 (V1 m ρ) c).arrAt 3 cfg0.N :=
  (W3_of m ρ c main_v1_0 (by decide)).trans (W2_arr m ρ c 3)
theorem amax_mid (c : Dev nD) : V3 m ρ c main_v1_1 = (dat0 (V1 m ρ) c).arrAt 4 cfg0.N :=
  (W3_of m ρ c main_v1_1 (by decide)).trans (W2_arr m ρ c 4)

/-! ## What the second call reads besides -/

theorem ws_in (c : Dev nD) : V3 m ρ c main_v2 = shapeCast S1x2880 (m ((c : Thread nD τ).loc main_arg4)) shapeCasts_S2880_S1x2880 := by
  have e := W2_args m ρ c main_arg4 (by decide)
  show StableHlo.after hostOps1 (W2 m ρ c) (Proc.devRef .tc main_v2) = _
  after_reads_simp
  rw [e]
  rfl
theorem hist_mid (c : Dev nD) : V3 m ρ c main_arg1 = m ((c : Thread nD τ).loc main_arg1) := W3_args m ρ c main_arg1 (by decide)
theorem w_mid (c : Dev nD) : V3 m ρ c main_arg3 = m ((c : Thread nD τ).loc main_arg3) := W3_args m ρ c main_arg3 (by decide)

/-! ## The results -/

theorem isIn_codes : ∀ w : Fin cfg1.W, Pipeline.arrRef spec1 w = main_v1_0 → (cfg1.win w).isOut = false := by decide +kernel

theorem codes_end (c : Dev nD) : W4 m ρ c (Proc.devRef .tc main_v1_0) = (dat0 (V1 m ρ) c).arrAt 3 cfg0.N :=
  (W4_of m ρ c main_v1_0 isIn_codes).trans (codes_mid m ρ c)

/-- The run of the whole program: each result as the call that stores it leaves it, the arguments kept. -/
theorem run : θ_run defs (onTc (τ := τ) (main (F := F))) ⟨m, fun _ => 0, ρ⟩ fun r => ∀ c : Dev nD,
      r.2.mem ((c.tc : Thread nD τ).loc main_v3_0) = (dat1 (V3 m ρ) c).arrAt 5 cfg1.N
      ∧ r.2.mem ((c.tc : Thread nD τ).loc main_v1_0) = (dat0 (V1 m ρ) c).arrAt 3 cfg0.N
      ∧ r.2.mem ((c.tc : Thread nD τ).loc main_v3_1) = (dat1 (V3 m ρ) c).arrAt 6 cfg1.N
      ∧ r.2.mem ((c.tc : Thread nD τ).loc main_v3_2) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h.1 c _ (mem_uc main_v3_0 (by decide))).trans (W4_arr m ρ c 5),
       (h.1 c _ (mem_uc main_v1_0 (by decide))).trans (codes_end m ρ c),
       (h.1 c _ (mem_uc main_v3_1 (by decide))).trans (W4_arr m ρ c 6),
       (h.1 c _ (mem_uc main_v3_2 (by decide))).trans (W4_arr m ρ c 7),
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩) (run_whole m ρ)

end Cert.KernelIdeal.Whole

end
-- ==== Proof.Same.lean ====
/- The printed program and the program over the extended reals are one text. -/
module

public import proofs.«01_k».proof.Proof.Gen.Kernel
public import proofs.«01_k».proof.Proof.Gen.KernelIdeal

@[expose] public section

set_option maxRecDepth 65536

noncomputable section

open Idealize.ShloMosaic Idealize.ShloMosaic.TcCoe Idealize.SL.Sem

namespace Cert.Same

theorem sig_eq : Cert.Kernel.sig = Cert.KernelIdeal.sig := rfl

variable {F : FTy → Type} [FloatOps F]

theorem main_eq : Cert.Kernel.main (F := F) = Cert.KernelIdeal.main (F := F) := by
  rfl
theorem defs_eq : Cert.Kernel.defs (F := F) = Cert.KernelIdeal.defs (F := F) := by
  refine congrArg (Pipeline.defs (Cert.KernelIdeal.pcfgs (F := F))) ?_
  refine congrArg Defs.onTc ?_
  funext l a
  match l, a with
  | 0, (t, s) => rfl
  | 1, (t, s) => rfl
  | ⟨n + 2, h⟩, _ => exact absurd h (Nat.not_lt.2 (Nat.le_add_left _ _))

end Cert.Same

end
-- ==== Proof.Claims.lean ====
/- The claims, one theorem each. -/
module

public import proofs.«01_k».proof.Defs
public import proofs.«01_k».proof.Proof.Gen.Pre_finite
public import proofs.«01_k».proof.Proof.Algebra
public import proofs.«01_k».proof.Proof.RotRun
public import proofs.«01_k».proof.Proof.RotRef
public import proofs.«01_k».proof.Proof.WholeVal
public import proofs.«01_k».proof.Proof.Same
public import Idealize.ShloMosaic.Adequacy
public import Idealize.ShloMosaic.Init

@[expose] public section

set_option maxRecDepth 16384

noncomputable section

namespace Cert.Claims

open Idealize.ShloMosaic hiding ix2 ix1 ix0 eq_ix2
open Idealize.ShloMosaic.TcCoe Idealize.SL.Sem Idealize.ShloMosaic.ValueIdx
open Cert.KernelIdeal Cert.KernelIdeal.Gen Cert.RotOut Cert.RotRun

/-- The printed kernel runs, ends with its arguments unchanged and its semaphores at zero. -/
theorem frame_kernel : Cert.quiescent_Kernel := fun m ρ _ => by
  have h := Cert.KernelIdeal.Gen.frame (F := Bits) m ρ
  rw [← Same.defs_eq, ← Same.main_eq] at h
  exact h
/-- So does the kernel over the extended reals. -/
theorem frame_ideal : Cert.quiescent_KernelIdeal := fun m ρ _ => Cert.KernelIdeal.Gen.frame m ρ
/-- The same, from memories that meet the precondition. -/
theorem frame_ideal_pre : Cert.quiescent_KernelIdeal_pre_finite := fun m ρ _ => Cert.KernelIdeal.Gen.frame m ρ
/-- The reference runs, ends with its arguments unchanged and its semaphores at zero. -/
theorem frame_reference : Cert.quiescent_ReferenceIdeal := fun m ρ _ => Cert.ReferenceIdeal.Gen.frame m ρ
/-- The same, from memories that meet the precondition. -/
theorem frame_reference_pre : Cert.quiescent_ReferenceIdeal_pre_finite := fun m ρ _ => Cert.ReferenceIdeal.Gen.frame m ρ

/-- The idealization rewrites nothing. -/
theorem preserves : Cert.preserves_Kernel_KernelIdeal := trivial

/-! ## The precondition -/

/-- The precondition says of each entry of `x` that its magnitude is at most the greatest float. -/
theorem x_bound (x : FVec Ideal Cert.Pre_finite.S2x128x12288 .bf16) (h : FVec Ideal Cert.Pre_finite.S16 .f32) (w : FVec Ideal Cert.Pre_finite.S12x12 .f32)
    (p : FVec Ideal Cert.Pre_finite.S12288x2880 .fp8e4m3) (q : FVec Ideal Cert.Pre_finite.S2880 .f32)
    (e : (Cert.Pre_finite.fn (F := Ideal) x h w p q).1 = fun _ => 1#1) (i : Cert.Pre_finite.S2x128x12288.Idx) :
    (max (x i : EReal) (-(x i : EReal))) ≤ Ideal.ofBits .f32 0x7F7FFFFF#32 := by
  have e' : Ideal.cmp .ole (max (x i : EReal) (-(x i : EReal))) (Ideal.ofBits .f32 0x7F7FFFFF#32) = 1#1 := congrFun e i
  by_contra hc
  simp [Ideal.cmp, hc] at e'

/-- And the same of each history entry. -/
theorem history_bound (x : FVec Ideal Cert.Pre_finite.S2x128x12288 .bf16) (h : FVec Ideal Cert.Pre_finite.S16 .f32) (w : FVec Ideal Cert.Pre_finite.S12x12 .f32)
    (p : FVec Ideal Cert.Pre_finite.S12288x2880 .fp8e4m3) (q : FVec Ideal Cert.Pre_finite.S2880 .f32)
    (e : (Cert.Pre_finite.fn (F := Ideal) x h w p q).2 = fun _ => 1#1) (k : Fin 16) :
    (max (h (ix1 k) : EReal) (-(h (ix1 k) : EReal))) ≤ Ideal.ofBits .f32 0x7F7FFFFF#32 := by
  have e' : Ideal.cmp .ole (max (h (ix1 k) : EReal) (-(h (ix1 k) : EReal))) (Ideal.ofBits .f32 0x7F7FFFFF#32) = 1#1 := congrFun e (ix1 k)
  by_contra hc
  simp [Ideal.cmp, hc] at e'

/-- A value of bounded magnitude is a real number. -/
theorem real_of_bound (v : EReal) (h : max v (-v) ≤ Ideal.ofBits .f32 0x7F7FFFFF#32) : v = (v.toReal : EReal) := by
  have hf : Ideal.ofBits .f32 0x7F7FFFFF#32 = ((16777215 * (2 : ℝ) ^ (104 : ℤ) : ℝ) : EReal) := by
    rw [Scale.ofBits_normal _ 254 8388607 (by decide) (by decide) (by decide) (by norm_num) (by norm_num)]
    norm_num
  rw [hf] at h
  obtain ⟨h1, h2⟩ := max_le_iff.mp h
  refine (EReal.coe_toReal ?_ ?_).symm
  · rintro rfl
    exact absurd h1 (not_le.mpr (EReal.coe_lt_top _))
  · rintro rfl
    rw [EReal.neg_bot] at h2
    exact absurd h2 (not_le.mpr (EReal.coe_lt_top _))

/-! ## The rotated rows and their codes -/

/-- For a finite argument the reference's rotated rows are the kernel's. -/
theorem rot_eq (x : Vec Ideal S2x128x12288 .bf16) (had : Vec Ideal S12x12 .f32) (h : S2x128x12288.ShapeCasts S256x12288)
    (hx : ∀ i, (x i : EReal) = (((x i : EReal).toReal : ℝ) : EReal)) (R : Fin 256) (n : Fin 12288) (a : Fin 12) (q : ℕ) (hq : q < 1024) (hn : n.val = 1024 * a.val + q) :
    (RotRef.rot (F := Ideal) x had (ix2 R n) : EReal) = big (shapeCast S256x12288 x h) had R a q := by
  let xr : Fin 256 → ℕ → ℝ := fun R n => (bigRow (shapeCast S256x12288 x h) R n).toReal
  have hr : ∀ (R : Fin 256) (n : ℕ), bigRow (shapeCast S256x12288 x h) R n = (xr R n : EReal) := fun R n => hx _
  rw [RotRef.rot_apply x had xr h (fun t n => ?_) R n a q hq hn]
  · unfold big
    refine congrArg (fun v : EReal => v * Ideal.ofBits .f32 0x3C13CD3A#32) (Finset.sum_congr rfl fun k _ => ?_)
    rw [show (fun n => bigRow (shapeCast S256x12288 x h) R (1024 * k.val + n)) = fun n => (xr R (1024 * k.val + n) : EReal) from funext fun n => hr R _,
      Had.kcomb_eq (fun n => xr R (1024 * k.val + n)) (q / 256) (q % 256) (by omega) (by omega), show 256 * (q / 256) + q % 256 = q by omega]
    exact mul_comm _ _
  · rw [← hr]
    unfold bigRow
    have e : (⟨n.val % 12288, Nat.mod_lt _ (by norm_num)⟩ : Fin 12288) = n := Fin.ext (Nat.mod_eq_of_lt n.isLt)
    exact congrArg (fun p : Fin 12288 => (shapeCast S256x12288 x h (ix2 t p) : EReal)) e.symm

/-- The reference's reciprocal of the scale is the kernel's. -/
theorem inv_eq (h : FVec Ideal Cert.ReferenceIdeal.S16 .f32) (hb : ∀ k : Fin 16, (max (h (ix1 k) : EReal) (-(h (ix1 k) : EReal))) ≤ Ideal.ofBits .f32 0x7F7FFFFF#32) :
    Ideal.div (Ideal.ofBits .f32 0x3F800000#32) (Cert.ReferenceIdeal.Value.rscale (F := Ideal) (Cert.ReferenceIdeal.Value.rbelow (Cert.ReferenceIdeal.Value.rmag h)) ix0 : EReal)
      = (RotOut.inv (F := Ideal) h : EReal) := by
  unfold RotOut.inv
  rw [Scale.inv_scale_eq, Algebra.scale_eq _ _ (Algebra.below_eq _), Algebra.mag_eq, Algebra.f32_one]
  · rfl
  · refine Scale.mag_lt _ ((MaxLaws.hmax_le _ _).mpr fun k => (max_le_iff.mp (hb k)).1) ?_
    refine le_trans ?_ ((MaxLaws.hmax_le (fun k => h (ix1 k)) _).mp le_rfl 0)
    exact EReal.neg_le.mp (max_le_iff.mp (hb 0)).2

/-- For finite arguments the reference's codes are those of the kernel's first call. -/
theorem codes_eq (x : Vec Ideal S2x128x12288 .bf16) (h : Vec Ideal S16 .f32) (had : Vec Ideal S12x12 .f32)
    (hx : ∀ i, (x i : EReal) = (((x i : EReal).toReal : ℝ) : EReal)) (hb : ∀ k : Fin 16, (max (h (ix1 k) : EReal) (-(h (ix1 k) : EReal))) ≤ Ideal.ofBits .f32 0x7F7FFFFF#32) :
    Cert.ReferenceIdeal.Value.rcodes (F := Ideal) (RotRef.rot x had) (Cert.ReferenceIdeal.Value.rscale (Cert.ReferenceIdeal.Value.rbelow (Cert.ReferenceIdeal.Value.rmag h)))
      = codesOf (shapeCast S256x12288 x shapeCasts_S2x128x12288_S256x12288) h had := by
  funext i
  obtain ⟨R, n, rfl⟩ : ∃ R n, i = ix2 R n := ⟨i 0, i 1, eq_ix2 i⟩
  have hn : n.val < 12288 := n.isLt
  have e := rot_eq x had shapeCasts_S2x128x12288_S256x12288 hx R n ⟨n.val / 1024, by omega⟩ (n.val % 1024) (by omega) (by simp only; omega)
  refine Eq.trans (b := code (RotRef.rot (F := Ideal) x had (ix2 R n)) (Ideal.div (Ideal.ofBits .f32 0x3F800000#32) (Cert.ReferenceIdeal.Value.rscale (F := Ideal) (Cert.ReferenceIdeal.Value.rbelow (Cert.ReferenceIdeal.Value.rmag h)) ix0))) ?_ ?_
  · have e0 : ∀ i : Cert.ReferenceIdeal.S_.Idx, i = ix0 := fun i => funext fun a => a.elim0
    unfold Cert.ReferenceIdeal.Value.rcodes code
    refine congrArg (fun s : EReal => min (Ideal.ofBits .f32 0x43E00000#32) (max (Ideal.ofBits .f32 0xC3E00000#32) ((RotRef.rot (F := Ideal) x had (ix2 R n) : EReal) * Ideal.div (Ideal.ofBits .f32 0x3F800000#32) s))) ?_
    exact congrArg (Cert.ReferenceIdeal.Value.rscale (F := Ideal) _) (e0 _)
  · rw [inv_eq h hb, e]
    rfl

/-- For a finite argument the greatest magnitude the kernel stores is the reference's. -/
theorem amax_eq (V : (c : Dev nD) → (b : Ref sig .tc) → Buf (Elt Ideal) ((c : Thread nD τ).loc b)) (c : Dev nD) (x : Vec Ideal S2x128x12288 .bf16)
    (hr : rows V c = shapeCast S256x12288 x shapeCasts_S2x128x12288_S256x12288)
    (hx : ∀ i, (x i : EReal) = (((x i : EReal).toReal : ℝ) : EReal)) :
    Cert.KernelIdeal.Gen.k1_pay3 (F := Ideal) ((outsAt0 V c 7 last.isLt).2)
      = Host.reduce FloatOps.maximumf (Host.absf (RotRef.rot (F := Ideal) x (V c main_arg2))) (constant (F := Ideal) Cert.ReferenceIdeal.S_ .f32 0xFF800000#32)
          Cert.ReferenceIdeal.Gen.reducesTo_S256x12288_S_d0_1 Cert.ReferenceIdeal.Gen.h_S_ ix0 := by
  refine MaxLaws.eq_of_le fun z => (Algebra.pay3_le _ z).trans (Iff.trans ?_ (RotRef.max_le (RotRef.rot (F := Ideal) x (V c main_arg2)) z).symm)
  have e := fun (R : Fin 256) (n : Fin 12288) (a : Fin 12) (q : ℕ) => rot_eq x (V c main_arg2) shapeCasts_S2x128x12288_S256x12288 hx R n a q
  have ht : ∀ (s : Fin 8) (l : Fin 128), _ ↔ _ := fun s l => tile_le V c s l z
  rw [hr] at ht
  constructor
  · intro hh R n
    have hR := R.isLt
    have hn := n.isLt
    have hd := (ht ⟨R.val % 8, by omega⟩ ⟨n.val % 128, by omega⟩).mp (hh (ix2 ⟨R.val % 8, by omega⟩ ⟨n.val % 128, by omega⟩)) ⟨R.val / 8, by omega⟩ ⟨n.val / 1024, by omega⟩ ⟨n.val % 1024 / 128, by omega⟩
    rw [e R n ⟨n.val / 1024, by omega⟩ (128 * (n.val % 1024 / 128) + n.val % 128) (by omega) (by simp only; omega)]
    have eR : (⟨8 * (R.val / 8) + R.val % 8, by omega⟩ : Fin 256) = R := Fin.ext (by simp only; omega)
    simp only [eR] at hd
    exact hd
  · intro hh i
    rw [eq_ix2 i]
    refine (ht (i 0) (i 1)).mpr fun g a j => ?_
    have hg := g.isLt
    have ha := a.isLt
    have hj := j.isLt
    have h0 : (i 0).val < 8 := (i 0).isLt
    have h1 : (i 1).val < 128 := (i 1).isLt
    have hd := hh ⟨8 * g.val + (i 0).val, by omega⟩ ⟨1024 * a.val + (128 * j.val + (i 1).val), by omega⟩
    rw [e _ _ a (128 * j.val + (i 1).val) (by omega) rfl] at hd
    exact hd

/-! ## The value claim -/

/-- Over the extended reals the kernel's four results are the reference's. -/
theorem algebraic : Cert.algebraic_KernelIdeal_ReferenceIdeal_pre_finite := by
  intro m ρ m' ρ' hpre hagree
  refine ⟨_, _, _, _, Cert.KernelIdeal.Whole.run (F := Ideal) m ρ, ?_⟩
  refine (θ_run Cert.ReferenceIdeal.defs _ _).mono (fun r h c => ?_) (Cert.ReferenceIdeal.Value.run (F := Ideal) m' ρ')
  obtain ⟨h0, h1, h2, h3, hk⟩ := h c
  obtain ⟨a0, a1, a2, a3, a4⟩ := hagree c
  obtain ⟨p0, p1⟩ := hpre c
  have hx := fun i => real_of_bound _ (x_bound _ _ _ _ _ p0 i)
  have hb := history_bound _ _ _ _ _ p1
  have hs := Algebra.ref_scale _ hb
  have hr : rows (V1 m ρ) c = _ := Whole.rows_in m ρ c
  have hc : (dat0 (V1 m ρ) c).arrAt 3 cfg0.N = Cert.ReferenceIdeal.Gen.V m' c Cert.ReferenceIdeal.main_v52 := by
    rw [Cert.ReferenceIdeal.Value.V_v52, a0, a1, a2, codes_eq _ _ _ hx hb, final_3, hr, Whole.hist_in, Whole.had_in]
  refine ⟨h0.trans ?_, h1.trans hc.symm, h2.trans ?_, h3.trans ?_, hk⟩
  · rw [← hc, Cert.ReferenceIdeal.Value.V_v58, Cert.ReferenceIdeal.Value.V_v59, a1, a3, a4, Value.final_5, Value.whole_ws, Whole.ws_in, ← Whole.codes_mid, ← Whole.w_mid m ρ c]
    refine (Algebra.out_eq (V3 m ρ) c _ _ _ ?_).symm
    unfold Value.bitsAt Value.histAt
    rw [Value.whole_hist, Whole.hist_mid]
    refine Eq.trans ?_ hs
    exact congrArg (Cert.ReferenceIdeal.Value.rscale (F := Ideal) _) (funext fun a => a.elim0)
  · rw [Cert.ReferenceIdeal.Value.V_v47, a1, Value.final_6]
    unfold Value.bitsAt Value.histAt
    rw [Value.whole_hist, Whole.hist_mid]
    funext i
    refine Eq.trans ?_ hs
    exact congrArg (Cert.ReferenceIdeal.Value.rscale (F := Ideal) _) (funext fun a => a.elim0)
  · rw [Cert.ReferenceIdeal.Value.V_v57, a0, a1, a2, Value.final_7, Value.whole_amax, Whole.amax_mid, final_4]
    unfold Value.histAt
    rw [Value.whole_hist, Whole.hist_mid, amax_eq (V1 m ρ) c _ hr hx, Whole.had_in]
    exact (Algebra.shift_eq _ _).symm

end Cert.Claims

end
-- ==== Proof.ProjValAlone.lean ====
/- What one grid point of the projection leaves in its buffers, as values. -/
module

public import proofs.«01_k».proof.Proof.Gen.ProjectIdeal.Frame
public import Idealize.ShloMosaic.Lib.Pipeline.Value
public import Idealize.ShloMosaic.Lib.Tactic
public import Idealize.ShloMosaic.Lib.ValueIdxCore
public import Idealize.ShloMosaic.Lib.Pipeline.ValueKit.Tiles
public import proofs.«01_k».proof.Proof.Scale

@[expose] public section

set_option maxRecDepth 16384

noncomputable section

open Idealize.ShloMosaic Idealize.ShloMosaic.TcCoe Idealize.SL.Sem
open Idealize.ShloMosaic.Pipeline (Dat)

namespace Cert.ProjectIdeal.Value

open Cert.ProjectIdeal Cert.ProjectIdeal.Gen Idealize.ShloMosaic.ValueIdx

variable {F : FTy → Type} [FloatOps F]

theorem hz2 : (![0, 0] : Fin 2 → Nat) = fun _ => 0 := funext fun a => by fin_cases a <;> rfl

theorem sout_A (c : Dev nD) (i : grid0.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : cond0_0 i) (hc1 : ¬cond0_1 i)
    (x0 : Vec F S256x1024 .fp8e4m3) (x1 : Vec F S1024x2880 .fp8e4m3) (x2 : Vec F S16 .f32) (x3 : Vec F S1x2880 .f32) (x4 : Vec F S8x128 .f32) :
    sout0_A_0 c i arg1 harg1 arg2 harg2 arg3 harg3 arg4 harg4 arg5 harg5 arg6 harg6 arg7 harg7 arg8 harg8 arg9 harg9 hc0 hc1 x0 x1 x2 x3 x4
      = k0_pay2 k0_pay1 x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x2880) hz2, View.readCov_unit_zero (S := S256x2880) _ hz2]
  simp only [View.readAt_eq_ld, harg1.read_unread, harg2.read_unread, View.ld_unit_zero (S := S256x1024) hz2, View.ld_unit_zero (S := S1024x2880) hz2]

theorem sout_B (c : Dev nD) (i : grid0.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond0_0 i) (hc1 : ¬cond0_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    sout0_B_0 c i arg1 harg1 arg2 harg2 arg3 harg3 arg4 harg4 arg5 harg5 arg6 harg6 arg7 harg7 arg8 harg8 arg9 harg9 hc0 hc1 x0 x1 x2 x3 x4 xs0
      = k0_pay2 xs0 x0 x1 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S256x2880) hz2]
  simp only [View.readAt_eq_ld, harg1.read_unread, harg2.read_unread, harg9.read_unread, View.ld_unit_zero (S := S256x1024) hz2, View.ld_unit_zero (S := S1024x2880) hz2, View.ld_unit_zero (S := S256x2880) hz2]

theorem hz1 : (![0] : Fin 1 → Nat) = fun _ => 0 := funext fun a => by fin_cases a <;> rfl

/-- One entry of the history as the body reads it. -/
theorem read_hist (arg3 : Memref sig .tc .smem S16 .f32) (harg3 : arg3.IsWhole) (x2 : Vec F S16 .f32) (k : Nat) (hk : k < 16)
    (sz : Fin S16.rank → Nat) (inb) (h) :
    View.readAt (Elt F) arg3.view (Rect.unit ![k] sz inb).toLoadRect (harg3.unread x2) (Shape.Idx.first h) = x2 (ix1 ⟨k, hk⟩) := by
  rw [View.readAt_eq_ld, harg3.read_unread]
  refine View.ld_unit_apply_of x2 _ _ inb _ _ fun a => ?_
  fin_cases a
  rfl

/-- The history as a family of sixteen entries. -/
abbrev hist (x2 : Vec F S16 .f32) : Fin 16 → F .f32 := fun k => x2 (ix1 k)

/-- The shifted history: entries one later, the last one `b`. -/
def shift (x2 : Vec F S16 .f32) (b : F .f32) : Vec F S16 .f32 := fun p =>
  if h : (p 0).val + 1 < 16 then x2 (ix1 ⟨(p 0).val + 1, h⟩) else b

/-- The piece at `j` of the shifted history holds the entry after it. -/
theorem shift_at (x2 : Vec F S16 .f32) (b : F .f32) (y : S16.Idx) (j : Nat) (inb) (h : j + 1 < 16) :
    View.RectAt (Val := Elt F) (e := .f32) y (Rect.unit (s := S16) ![j] ![1] inb) (fun _ => x2 (ix1 ⟨j + 1, h⟩)) (shift x2 b y) := by
  rintro x rfl
  have h0 := (Rect.idx_unit_val (s := S16) ![j] ![1] inb x 0).symm
  have h1 : (x 0).val < 1 := (x 0).isLt
  simp only [Matrix.cons_val_zero] at h0
  have h2 : ((Rect.unit (s := S16) ![j] ![1] inb).emb x 0).val = j := by
    rw [show ((Rect.unit (s := S16) ![j] ![1] inb).emb x 0).val = j + (x 0).val from h0.symm]; omega
  unfold shift
  simp only [h2]
  rw [dif_pos h]

theorem shift_last (x2 : Vec F S16 .f32) (b : F .f32) (y : S16.Idx) (inb) :
    View.RectAt (Val := Elt F) (e := .f32) y (Rect.unit (s := S16) ![15] ![1] inb) (fun _ => b) (shift x2 b y) := by
  rintro x rfl
  have h0 := (Rect.idx_unit_val (s := S16) ![15] ![1] inb x 0).symm
  simp only [Matrix.cons_val_zero] at h0
  have h2 : ((Rect.unit (s := S16) ![15] ![1] inb).emb x 0).val = 15 + (x 0).val := h0.symm
  unfold shift
  rw [dif_neg (by omega)]

theorem out_C_6 (c : Dev nD) (i : grid0.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond0_0 i) (hc1 : cond0_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    out0_C_6 c i arg1 harg1 arg2 harg2 arg3 harg3 arg4 harg4 arg5 harg5 arg6 harg6 arg7 harg7 arg8 harg8 arg9 harg9 hc0 hc1 x0 x1 x2 x3 x4 xs0
      = fun _ => Scale.pow2 (Scale.expBits (Scale.hmax (hist x2))) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1) hz1]
  simp only [read_hist arg3 harg3 x2 0 (by norm_num), read_hist arg3 harg3 x2 1 (by norm_num), read_hist arg3 harg3 x2 2 (by norm_num), read_hist arg3 harg3 x2 3 (by norm_num), read_hist arg3 harg3 x2 4 (by norm_num), read_hist arg3 harg3 x2 5 (by norm_num), read_hist arg3 harg3 x2 6 (by norm_num), read_hist arg3 harg3 x2 7 (by norm_num), read_hist arg3 harg3 x2 8 (by norm_num), read_hist arg3 harg3 x2 9 (by norm_num), read_hist arg3 harg3 x2 10 (by norm_num), read_hist arg3 harg3 x2 11 (by norm_num), read_hist arg3 harg3 x2 12 (by norm_num), read_hist arg3 harg3 x2 13 (by norm_num), read_hist arg3 harg3 x2 14 (by norm_num), read_hist arg3 harg3 x2 15 (by norm_num)]
  rfl

theorem out_C_7 (c : Dev nD) (i : grid0.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond0_0 i) (hc1 : cond0_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    out0_C_7 c i arg1 harg1 arg2 harg2 arg3 harg3 arg4 harg4 arg5 harg5 arg6 harg6 arg7 harg7 arg8 harg8 arg9 harg9 hc0 hc1 x0 x1 x2 x3 x4 xs0
      = shift x2 (k0_pay3 x4) := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  simp only [read_hist arg3 harg3 x2 0 (by norm_num), read_hist arg3 harg3 x2 1 (by norm_num), read_hist arg3 harg3 x2 2 (by norm_num), read_hist arg3 harg3 x2 3 (by norm_num), read_hist arg3 harg3 x2 4 (by norm_num), read_hist arg3 harg3 x2 5 (by norm_num), read_hist arg3 harg3 x2 6 (by norm_num), read_hist arg3 harg3 x2 7 (by norm_num), read_hist arg3 harg3 x2 8 (by norm_num), read_hist arg3 harg3 x2 9 (by norm_num), read_hist arg3 harg3 x2 10 (by norm_num), read_hist arg3 harg3 x2 11 (by norm_num), read_hist arg3 harg3 x2 12 (by norm_num), read_hist arg3 harg3 x2 13 (by norm_num), read_hist arg3 harg3 x2 14 (by norm_num), read_hist arg3 harg3 x2 15 (by norm_num)]
  simp only [View.readAt_eq_ld, harg5.read_unread, View.ld_unit_zero (S := S8x128) hz2]
  funext y
  refine View.canon_eq_of_allAt _ y _ (View.cover_of_tiled_head _ _ _ (by rfl) y) ?_
  exact View.allAt_cons _ _ _ (shift_last x2 _ y _) <|
    View.allAt_cons _ _ _ (shift_at x2 _ y 14 _ (by norm_num)) <|
    View.allAt_cons _ _ _ (shift_at x2 _ y 13 _ (by norm_num)) <|
    View.allAt_cons _ _ _ (shift_at x2 _ y 12 _ (by norm_num)) <|
    View.allAt_cons _ _ _ (shift_at x2 _ y 11 _ (by norm_num)) <|
    View.allAt_cons _ _ _ (shift_at x2 _ y 10 _ (by norm_num)) <|
    View.allAt_cons _ _ _ (shift_at x2 _ y 9 _ (by norm_num)) <|
    View.allAt_cons _ _ _ (shift_at x2 _ y 8 _ (by norm_num)) <|
    View.allAt_cons _ _ _ (shift_at x2 _ y 7 _ (by norm_num)) <|
    View.allAt_cons _ _ _ (shift_at x2 _ y 6 _ (by norm_num)) <|
    View.allAt_cons _ _ _ (shift_at x2 _ y 5 _ (by norm_num)) <|
    View.allAt_cons _ _ _ (shift_at x2 _ y 4 _ (by norm_num)) <|
    View.allAt_cons _ _ _ (shift_at x2 _ y 3 _ (by norm_num)) <|
    View.allAt_cons _ _ _ (shift_at x2 _ y 2 _ (by norm_num)) <|
    View.allAt_cons _ _ _ (shift_at x2 _ y 1 _ (by norm_num)) <|
    View.allAt_cons _ _ _ (shift_at x2 _ y 0 _ (by norm_num)) <|
    View.allAt_nil _ _

theorem out_C_5 (c : Dev nD) (i : grid0.Coords) (arg1 : Memref sig .tc .vmem S256x1024 .fp8e4m3) (harg1 : arg1.IsWhole) (arg2 : Memref sig .tc .vmem S1024x2880 .fp8e4m3) (harg2 : arg2.IsWhole) (arg3 : Memref sig .tc .smem S16 .f32) (harg3 : arg3.IsWhole) (arg4 : Memref sig .tc .vmem S1x2880 .f32) (harg4 : arg4.IsWhole) (arg5 : Memref sig .tc .vmem S8x128 .f32) (harg5 : arg5.IsWhole) (arg6 : Memref sig .tc .vmem S256x2880 .bf16) (harg6 : arg6.IsWhole) (arg7 : Memref sig .tc .smem S1 .f32) (harg7 : arg7.IsWhole) (arg8 : Memref sig .tc .smem S16 .f32) (harg8 : arg8.IsWhole) (arg9 : Memref sig .tc .vmem S256x2880 .f32) (harg9 : arg9.IsWhole) (hc0 : ¬cond0_0 i) (hc1 : cond0_1 i)
    (x0 : Vec F S256x1024 .fp8e4m3) (x1 : Vec F S1024x2880 .fp8e4m3) (x2 : Vec F S16 .f32) (x3 : Vec F S1x2880 .f32) (x4 : Vec F S8x128 .f32) (xs0 : Vec F S256x2880 .f32) :
    out0_C_5 c i arg1 harg1 arg2 harg2 arg3 harg3 arg4 harg4 arg5 harg5 arg6 harg6 arg7 harg7 arg8 harg8 arg9 harg9 hc0 hc1 x0 x1 x2 x3 x4 xs0
      = k0_pay15 (Scale.expBits (Scale.hmax (hist x2))) (k0_pay2 xs0 x0 x1) x3 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S256x2880) hz2, View.readCov_unit_zero (S := S256x2880) _ hz2]
  simp only [read_hist arg3 harg3 x2 0 (by norm_num), read_hist arg3 harg3 x2 1 (by norm_num), read_hist arg3 harg3 x2 2 (by norm_num), read_hist arg3 harg3 x2 3 (by norm_num), read_hist arg3 harg3 x2 4 (by norm_num), read_hist arg3 harg3 x2 5 (by norm_num), read_hist arg3 harg3 x2 6 (by norm_num), read_hist arg3 harg3 x2 7 (by norm_num), read_hist arg3 harg3 x2 8 (by norm_num), read_hist arg3 harg3 x2 9 (by norm_num), read_hist arg3 harg3 x2 10 (by norm_num), read_hist arg3 harg3 x2 11 (by norm_num), read_hist arg3 harg3 x2 12 (by norm_num), read_hist arg3 harg3 x2 13 (by norm_num), read_hist arg3 harg3 x2 14 (by norm_num), read_hist arg3 harg3 x2 15 (by norm_num)]
  simp only [View.readAt_eq_ld, harg1.read_unread, harg2.read_unread, harg4.read_unread, harg9.read_unread, View.ld_unit_zero (S := S256x1024) hz2, View.ld_unit_zero (S := S1024x2880) hz2, View.ld_unit_zero (S := S256x2880) hz2, View.ld_unit_zero (S := S1x2880) hz2]

  rfl

end Cert.ProjectIdeal.Value
-- ==== Proof.ProjAccAlone.lean ====
/- The projection's arrays after its run: the output is the scaled sum of the twelve partial products. -/
module

public import proofs.«01_k».proof.Proof.ProjValAlone
public import proofs.«01_k».proof.Proof.Gen.ProjectIdeal.Value
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ProjectIdeal.Value

open Cert.ProjectIdeal Cert.ProjectIdeal.Gen Idealize.ShloMosaic.ValueIdx

variable {F : FTy → Type} [FloatOps F]
variable (m : (ℓ : Loc nD τ sig) → Buf (Elt F) ℓ)

/-- The accumulator after point `n`: the products of the blocks up to `n`, added in order from zero. -/
def chain (c : Dev nD) : (n : ℕ) → n < cfg0.N → Vec F S256x2880 .f32
  | 0, h => k0_pay2 k0_pay1 (iblk m c 0 ⟨0, h⟩) (iblk m c 1 ⟨0, h⟩)
  | n + 1, h => k0_pay2 (chain c n (Nat.lt_of_succ_lt h)) (iblk m c 0 ⟨n + 1, h⟩) (iblk m c 1 ⟨n + 1, h⟩)

/-- The scratch holds the accumulator before the last point. -/
theorem acc_eq (c : Dev nD) : ∀ (n : ℕ) (h : n < cfg0.N), n < 11 → (outsAt0 m c n h).2.2.2 = chain m c n h
  | 0, h, _ => by
    have e := congrArg (fun p => p.2.2.2) (outsAt0_A m c ⟨0, h⟩ rfl (by norm_num))
    dsimp only at e
    rw [sout_A] at e
    exact e
  | n + 1, h, hn => by
    have e := congrArg (fun p => p.2.2.2) (outsAt0_B m c ⟨n + 1, h⟩ (by dsimp only; omega) (by dsimp only; omega))
    dsimp only at e
    rw [sout_B] at e
    refine e.trans ?_
    show k0_pay2 (outsAt0 m c n _).2.2.2 _ _ = k0_pay2 (chain m c n _) _ _
    rw [acc_eq c n _ (by omega)]

theorem last_lt : 11 < cfg0.N := by rw [show cfg0.N = 12 from N_0]; norm_num

/-- The last point. -/
abbrev last : Fin cfg0.N := ⟨11, last_lt⟩

/-- The history as the last point reads it. -/
abbrev histAt (c : Dev nD) : Vec F S16 .f32 := iblk m c 2 last

abbrev bitsAt (c : Dev nD) : BitVec 32 := Scale.expBits (Scale.hmax (hist (histAt m c)))

/-- The output block of the last point. -/
theorem last_5 (c : Dev nD) : (outsAt0 m c 11 last_lt).1 = k0_pay15 (bitsAt m c) (chain m c 11 last_lt) (iblk m c 3 last) := by
  have e := congrArg (fun p => p.1) (outsAt0_C m c last (by norm_num) rfl)
  dsimp only at e
  rw [out_C_5] at e
  refine e.trans ?_
  show k0_pay15 _ (k0_pay2 (outsAt0 m c 10 _).2.2.2 _ _) _ = k0_pay15 _ (k0_pay2 (chain m c 10 _) _ _) _
  rw [acc_eq m c 10 _ (by norm_num)]

theorem last_6 (c : Dev nD) : (outsAt0 m c 11 last_lt).2.1 = fun _ => Scale.pow2 (bitsAt m c) := by
  have e := congrArg (fun p => p.2.1) (outsAt0_C m c last (by norm_num) rfl)
  dsimp only at e
  rw [out_C_6] at e
  exact e

theorem last_7 (c : Dev nD) : (outsAt0 m c 11 last_lt).2.2.1 = shift (histAt m c) (k0_pay3 (iblk m c 4 last)) := by
  have e := congrArg (fun p => p.2.2.1) (outsAt0_C m c last (by norm_num) rfl)
  dsimp only at e
  rw [out_C_7] at e
  exact e

theorem off5 (t : Fin cfg0.N) : (fun a => win0_5.index t a * main_v1_0.ty.shape.size a) = fun _ => 0 := by
  funext a; revert t a; decide +kernel
theorem off6 (t : Fin cfg0.N) : (fun a => win0_6.index t a * main_v1_1.ty.shape.size a) = fun _ => 0 := by
  funext a; revert t a; decide +kernel
theorem off7 (t : Fin cfg0.N) : (fun a => win0_7.index t a * main_v1_2.ty.shape.size a) = fun _ => 0 := by
  funext a; revert t a; decide +kernel

theorem point_of_flush5 (t : Fin cfg0.N) (hf : (cfg0.win 5).flush t = true) : t = last := by
  have hN : cfg0.N = 12 := N_0
  have := (flush0_5 t).mp hf; have := t.isLt
  exact Fin.ext (by show t.val = 11; omega)
theorem point_of_flush6 (t : Fin cfg0.N) (hf : (cfg0.win 6).flush t = true) : t = last := by
  have hN : cfg0.N = 12 := N_0
  have := (flush0_6 t).mp hf; have := t.isLt
  exact Fin.ext (by show t.val = 11; omega)
theorem point_of_flush7 (t : Fin cfg0.N) (hf : (cfg0.win 7).flush t = true) : t = last := by
  have hN : cfg0.N = 12 := N_0
  have := (flush0_7 t).mp hf; have := t.isLt
  exact Fin.ext (by show t.val = 11; omega)

theorem final_5 (c : Dev nD) : (dats m 0 c).arrAt 5 cfg0.N = k0_pay15 (bitsAt m c) (chain m c 11 last_lt) (iblk m c 3 last) := by
  refine (dats m 0 c).arrAt_eq_of_cover 5 _ (fun t hf => ?_) fun i => ⟨last, (flush0_5 last).mpr rfl, ?_⟩
  · obtain rfl := point_of_flush5 t hf
    rw [flushed5, ← last_5 m c]
    exact (Memref.read_access_unit_zero (Elt F) main_v1_0 (off5 last) (fun a => by rw [congrFun (off5 last) a]; simp) _).symm
  · show i ∈ ((View.whole main_v1_0).slice (win0_5.rect last)).set
    rw [View.set_slice_whole, Rect.mem_set_unit]
    intro a
    have h0 := congrFun (off5 last) a
    have h1 := (i a).isLt
    refine ⟨?_, ?_⟩
    · exact le_trans (le_of_eq h0) (Nat.zero_le _)
    · exact lt_of_lt_of_eq (lt_of_lt_of_eq h1 (Nat.zero_add _).symm) (congrArg (· + main_v1_0.ty.shape.size a) h0.symm)

theorem final_6 (c : Dev nD) : (dats m 0 c).arrAt 6 cfg0.N = fun _ => Scale.pow2 (bitsAt m c) := by
  refine (dats m 0 c).arrAt_eq_of_cover 6 _ (fun t hf => ?_) fun i => ⟨last, (flush0_6 last).mpr rfl, ?_⟩
  · obtain rfl := point_of_flush6 t hf
    rw [flushed6, show (outsAt0 m c last.val last.isLt).2.1 = _ from last_6 m c]
    exact (Memref.read_access_unit_zero (Elt F) main_v1_1 (off6 last) (fun a => by rw [congrFun (off6 last) a]; simp) _).symm
  · show i ∈ ((View.whole main_v1_1).slice (win0_6.rect last)).set
    rw [View.set_slice_whole, Rect.mem_set_unit]
    intro a
    have h0 := congrFun (off6 last) a
    have h1 := (i a).isLt
    refine ⟨?_, ?_⟩
    · exact le_trans (le_of_eq h0) (Nat.zero_le _)
    · exact lt_of_lt_of_eq (lt_of_lt_of_eq h1 (Nat.zero_add _).symm) (congrArg (· + main_v1_1.ty.shape.size a) h0.symm)

theorem final_7 (c : Dev nD) : (dats m 0 c).arrAt 7 cfg0.N = shift (histAt m c) (k0_pay3 (iblk m c 4 last)) := by
  refine (dats m 0 c).arrAt_eq_of_cover 7 _ (fun t hf => ?_) fun i => ⟨last, (flush0_7 last).mpr rfl, ?_⟩
  · obtain rfl := point_of_flush7 t hf
    rw [flushed7, ← last_7 m c]
    exact (Memref.read_access_unit_zero (Elt F) main_v1_2 (off7 last) (fun a => by rw [congrFun (off7 last) a]; simp) _).symm
  · show i ∈ ((View.whole main_v1_2).slice (win0_7.rect last)).set
    rw [View.set_slice_whole, Rect.mem_set_unit]
    intro a
    have h0 := congrFun (off7 last) a
    have h1 := (i a).isLt
    refine ⟨?_, ?_⟩
    · exact le_trans (le_of_eq h0) (Nat.zero_le _)
    · exact lt_of_lt_of_eq (lt_of_lt_of_eq h1 (Nat.zero_add _).symm) (congrArg (· + main_v1_2.ty.shape.size a) h0.symm)

/-! ## The blocks the body reads -/

theorem whole_hist (c : Dev nD) : (iblk m c 2 last : Vec F S16 .f32) = m ((c : Thread nD τ).loc main_arg1) := by
  have hz : (fun a => win0_2.index last a * main_arg1.ty.shape.size a) = fun _ => 0 := by funext a; revert a; decide +kernel
  exact (Memref.read_access_unit_zero (Elt F) main_arg1 hz (fun a => by rw [congrFun hz a]; simp) (V m c main_arg1)).trans (V_main_arg1 m c)
theorem whole_ws (c : Dev nD) : (iblk m c 3 last : Vec F S1x2880 .f32) = V m c main_v0 := by
  have hz : (fun a => win0_3.index last a * main_v0.ty.shape.size a) = fun _ => 0 := by funext a; revert a; decide +kernel
  exact Memref.read_access_unit_zero (Elt F) main_v0 hz (fun a => by rw [congrFun hz a]; simp) (V m c main_v0)
theorem whole_amax (c : Dev nD) : (iblk m c 4 last : Vec F S8x128 .f32) = m ((c : Thread nD τ).loc main_arg2) := by
  have hz : (fun a => win0_4.index last a * main_arg2.ty.shape.size a) = fun _ => 0 := by funext a; revert a; decide +kernel
  exact (Memref.read_access_unit_zero (Elt F) main_arg2 hz (fun a => by rw [congrFun hz a]; simp) (V m c main_arg2)).trans (V_main_arg2 m c)
theorem V_v0 (c : Dev nD) : V m c main_v0 = shapeCast S1x2880 (m ((c : Thread nD τ).loc main_arg4)) shapeCasts_S2880_S1x2880 := by
  after_reads_simp
  rfl

theorem idx_codes : ∀ t : Fin cfg0.N, win0_0.index t 0 = 0 ∧ win0_0.index t 1 = t.val :=
  (by decide +kernel : ∀ t : Fin grid0.N, win0_0.index t 0 = 0 ∧ win0_0.index t 1 = t.val)
theorem idx_w : ∀ t : Fin cfg0.N, win0_1.index t 0 = t.val ∧ win0_1.index t 1 = 0 :=
  (by decide +kernel : ∀ t : Fin grid0.N, win0_1.index t 0 = t.val ∧ win0_1.index t 1 = 0)

/-- The codes' block of point `t`: columns from `1024 t`. -/
theorem block_codes (c : Dev nD) (t : Fin cfg0.N) (r : Fin 256) (k : Fin 1024) (h : 1024 * t.val + k.val < 12288) :
    (iblk m c 0 t : Vec F S256x1024 .fp8e4m3) (ix2 r k) = (m ((c : Thread nD τ).loc main_arg0) : Vec F S256x12288 .fp8e4m3) (ix2 r ⟨1024 * t.val + k.val, h⟩) := by
  obtain ⟨h0, h1⟩ := idx_codes t
  rw [← V_main_arg0 m c]
  unfold iblk
  rw [View.read_apply]
  show V m c main_arg0 _ = V m c main_arg0 _
  congr 1
  funext a
  apply Fin.ext
  match a with
  | ⟨0, _⟩ => show win0_0.index t 0 * 256 + 1 * r.val = r.val; rw [h0]; omega
  | ⟨1, _⟩ => show win0_0.index t 1 * 1024 + 1 * k.val = 1024 * t.val + k.val; rw [h1]; omega

/-- The weights' block of point `t`: rows from `1024 t`. -/
theorem block_w (c : Dev nD) (t : Fin cfg0.N) (k : Fin 1024) (q : Fin 2880) (h : 1024 * t.val + k.val < 12288) :
    (iblk m c 1 t : Vec F S1024x2880 .fp8e4m3) (ix2 k q) = (m ((c : Thread nD τ).loc main_arg3) : Vec F S12288x2880 .fp8e4m3) (ix2 ⟨1024 * t.val + k.val, h⟩ q) := by
  obtain ⟨h0, h1⟩ := idx_w t
  rw [← V_main_arg3 m c]
  unfold iblk
  rw [View.read_apply]
  show V m c main_arg3 _ = V m c main_arg3 _
  congr 1
  funext a
  apply Fin.ext
  match a with
  | ⟨0, _⟩ => show win0_1.index t 0 * 1024 + 1 * k.val = 1024 * t.val + k.val; rw [h0]; omega
  | ⟨1, _⟩ => show win0_1.index t 1 * 2880 + 1 * q.val = q.val; rw [h1]; omega

/-- The run, read: each result in terms of the arguments' blocks, the arguments kept. -/
theorem run (ρ : Dev nD → PrngReg) : θ_run defs (onTc (τ := τ) (main (F := F))) ⟨m, fun _ => 0, ρ⟩ fun r => ∀ c : Dev nD,
      r.2.mem ((c : Thread nD τ).loc main_v1_0)
        = k0_pay15 (Scale.expBits (Scale.hmax (hist (m ((c : Thread nD τ).loc main_arg1))))) (chain m c 11 last_lt)
            (shapeCast S1x2880 (m ((c : Thread nD τ).loc main_arg4)) shapeCasts_S2880_S1x2880)
      ∧ r.2.mem ((c : Thread nD τ).loc main_v1_1) = (fun _ => Scale.pow2 (Scale.expBits (Scale.hmax (hist (m ((c : Thread nD τ).loc main_arg1))))))
      ∧ r.2.mem ((c : Thread nD τ).loc main_v1_2) = shift (m ((c : Thread nD τ).loc main_arg1)) (k0_pay3 (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_blocks m ρ)
  obtain ⟨h5, h6, h7, hk⟩ := h c
  refine ⟨h5.trans ?_, h6.trans ?_, h7.trans ?_, hk⟩
  · rw [final_5, whole_ws, V_v0]; unfold bitsAt histAt; rw [whole_hist]
  · rw [final_6]; unfold bitsAt histAt; rw [whole_hist]
  · rw [final_7]; unfold histAt; rw [whole_hist, whole_amax]

end Cert.ProjectIdeal.Value

end
-- ==== Proof.RefValAlone.lean ====
/- The reference's values: the scale, the history and the output that its host operations and its call leave. -/
module

public import proofs.«01_k».proof.Proof.Scale
public import proofs.«01_k».proof.Proof.Gen.ProjectReferenceIdeal.Value
public import Idealize.ShloMosaic.Lib.StableHlo.RunRead
public import Idealize.ShloMosaic.Lib.ValueIdxCore
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ProjectReferenceIdeal.Value

open Cert.ProjectReferenceIdeal Cert.ProjectReferenceIdeal.Gen Idealize.ShloMosaic.ValueIdx Cert.ProjectReferenceIdeal.Facts

variable {F : FTy → Type} [FloatOps F]
variable (m : (ℓ : Loc nD τ sig) → Buf (Elt F) ℓ)

/-- The magnitude of the greatest history entry over 448. -/
def rmag (h : FVec F S16 .f32) : FVec F S_ .f32 :=
  Host.absf (mulf (Host.reduce FloatOps.maximumf h (constant S_ .f32 0xFF800000#32) reducesTo_S16_S_d0 h_S_) (constant S_ .f32 0x3B124925#32))
/-- The powers of two from 2^-126 to 2^127. -/
def rpow : FVec F S254 .f32 :=
  Host.powf (broadcastInDim S254 ![] bcast_S_S254 (constant S_ .f32 0x40000000#32))
    (subf (sitofp .f32 (iotaInDim S254 32 0)) (broadcastInDim S254 ![] bcast_S_S254 (constant S_ .f32 0x42FC0000#32)))
/-- The greatest of those powers at most `v`, or 0. -/
def rbelow (v : FVec F S_ .f32) : FVec F S_ .f32 :=
  Host.reduce FloatOps.maximumf (select (cmpf .ole (rpow (F := F)) (broadcastInDim S254 ![] bcast_S_S254 v)) rpow
    (broadcastInDim S254 ![] bcast_S_S254 (constant S_ .f32 0x00000000#32))) (constant S_ .f32 0xFF800000#32) reducesTo_S254_S_d0 h_S_
/-- The scale from that power. -/
def rscale (b : FVec F S_ .f32) : FVec F S_ .f32 :=
  select (cmpf .oeq b (constant S_ .f32 0x00000000#32)) (constant S_ .f32 0x3F800000#32) (mulf (constant S_ .f32 0x40000000#32) b)

theorem V_v2 (c : Dev nD) : V m c main_v2 = rmag (m ((c : Thread nD τ).loc main_arg1)) := by
  after_reads_simp
  rfl
theorem V_v11 (c : Dev nD) : V m c main_v11 = rbelow (rmag (m ((c : Thread nD τ).loc main_arg1))) := by
  after_reads_simp
  rfl
theorem V_v14 (c : Dev nD) : V m c main_v14 = rscale (rbelow (rmag (m ((c : Thread nD τ).loc main_arg1)))) := by
  after_reads_simp
  rfl
theorem V_v15 (c : Dev nD) : V m c main_v15 = shapeCast S1 (rscale (rbelow (rmag (m ((c : Thread nD τ).loc main_arg1))))) shapeCasts_S_S1 := by
  after_reads_simp
  rfl
theorem V_v20 (c : Dev nD) : V m c main_v20 = shapeCast S1x1 (rscale (rbelow (rmag (m ((c : Thread nD τ).loc main_arg1))))) shapeCasts_S_S1x1 := by
  after_reads_simp
  rfl
theorem V_v21 (c : Dev nD) : V m c main_v21 = shapeCast S1x2880 (m ((c : Thread nD τ).loc main_arg4)) shapeCasts_S2880_S1x2880 := by
  after_reads_simp
  rfl
theorem V_v19 (c : Dev nD) : V m c main_v19 = concatenate S16 0 [⟨S15, extractStridedSlice S15 ![1] (m ((c : Thread nD τ).loc main_arg1)) slices_S16_S15_1⟩,
    ⟨S1, broadcastInDim S1 ![] bcast_S_S1 (Host.reduce FloatOps.maximumf (m ((c : Thread nD τ).loc main_arg2)) (constant S_ .f32 0xFF800000#32) reducesTo_S8x128_S_d0_1 h_S_)⟩]
    concatenates_S15_S1_S16_d0 := by
  after_reads_simp
  have h16 : StableHlo.upto (List.flatten [hostOps0, hostOps0_1, hostOps0_2, hostOps0_3, hostOps0_4]) (fun b => m (c, b)) 32 (Proc.tc.devRef main_v16)
      = extractStridedSlice S15 ![1] (m ((c : Thread nD τ).loc main_arg1)) slices_S16_S15_1 := by
    after_reads_simp
  have h18 : StableHlo.upto (List.flatten [hostOps0, hostOps0_1, hostOps0_2, hostOps0_3, hostOps0_4]) (fun b => m (c, b)) 32 (Proc.tc.devRef main_v18)
      = broadcastInDim S1 ![] bcast_S_S1 (Host.reduce FloatOps.maximumf (m ((c : Thread nD τ).loc main_arg2)) (constant S_ .f32 0xFF800000#32) reducesTo_S8x128_S_d0_1 h_S_) := by
    after_reads_simp
  rw [h16, h18]

/-- The output block of the one point. -/
theorem out_4 (x0 : Vec F S256x12288 .fp8e4m3) (x1 : Vec F S12288x2880 .fp8e4m3) (x2 : Vec F S1x1 .f32) (x3 : Vec F S1x2880 .f32) :
    out0_4 x0 x1 x2 x3 = k0_pay1 x0 x1 x2 x3 := by
  have hz2 : (![0, 0] : Fin 2 → Nat) = fun _ => 0 := funext fun a => by fin_cases a <;> rfl
  unfold out0_4
  rw [View.canon_unit_zero (S := S256x2880) hz2]
  simp only [View.ld_unit_zero (S := S256x12288) hz2, View.ld_unit_zero (S := S12288x2880) hz2, View.ld_unit_zero (S := S1x1) hz2, View.ld_unit_zero (S := S1x2880) hz2]

/-- The only point. -/
abbrev pt : Fin cfg0.N := ⟨0, by rw [show cfg0.N = 1 from N_0]; norm_num⟩

theorem iblk_0 (c : Dev nD) : (iblk m c 0 pt : Vec F S256x12288 .fp8e4m3) = m ((c : Thread nD τ).loc main_arg0) := by
  have hz : (fun a => win0_0.index pt a * main_arg0.ty.shape.size a) = fun _ => 0 := by funext a; revert a; decide +kernel
  exact (Memref.read_access_unit_zero (Elt F) main_arg0 hz (fun a => by rw [congrFun hz a]; simp) (V m c main_arg0)).trans (V_main_arg0 m c)
theorem iblk_1 (c : Dev nD) : (iblk m c 1 pt : Vec F S12288x2880 .fp8e4m3) = m ((c : Thread nD τ).loc main_arg3) := by
  have hz : (fun a => win0_1.index pt a * main_arg3.ty.shape.size a) = fun _ => 0 := by funext a; revert a; decide +kernel
  exact (Memref.read_access_unit_zero (Elt F) main_arg3 hz (fun a => by rw [congrFun hz a]; simp) (V m c main_arg3)).trans (V_main_arg3 m c)
theorem iblk_2 (c : Dev nD) : (iblk m c 2 pt : Vec F S1x1 .f32) = V m c main_v20 := by
  have hz : (fun a => win0_2.index pt a * main_v20.ty.shape.size a) = fun _ => 0 := by funext a; revert a; decide +kernel
  exact Memref.read_access_unit_zero (Elt F) main_v20 hz (fun a => by rw [congrFun hz a]; simp) (V m c main_v20)
theorem iblk_3 (c : Dev nD) : (iblk m c 3 pt : Vec F S1x2880 .f32) = V m c main_v21 := by
  have hz : (fun a => win0_3.index pt a * main_v21.ty.shape.size a) = fun _ => 0 := by funext a; revert a; decide +kernel
  exact Memref.read_access_unit_zero (Elt F) main_v21 hz (fun a => by rw [congrFun hz a]; simp) (V m c main_v21)

theorem final_4 (c : Dev nD) : (dats m 0 c).arrAt 4 cfg0.N
    = k0_pay1 (m ((c : Thread nD τ).loc main_arg0)) (m ((c : Thread nD τ).loc main_arg3)) (V m c main_v20) (V m c main_v21) := by
  have hz : (fun a => win0_4.index pt a * main_v22.ty.shape.size a) = fun _ => 0 := by funext a; revert a; decide +kernel
  refine (dats m 0 c).arrAt_eq_of_cover 4 _ (fun t hf => ?_) fun i => ⟨pt, by decide +kernel, ?_⟩
  · obtain rfl : t = pt := Fin.ext (Nat.lt_one_iff.mp (lt_of_lt_of_eq t.isLt N_0))
    rw [flushed4, out_4, iblk_0, iblk_1, iblk_2, iblk_3]
    exact (Memref.read_access_unit_zero (Elt F) main_v22 hz (fun a => by rw [congrFun hz a]; simp) _).symm
  · show i ∈ ((View.whole main_v22).slice (win0_4.rect pt)).set
    rw [View.set_slice_whole, Rect.mem_set_unit]
    intro a
    have h0 := congrFun hz a
    have h1 := (i a).isLt
    refine ⟨?_, ?_⟩
    · exact le_trans (le_of_eq h0) (Nat.zero_le _)
    · exact lt_of_lt_of_eq (lt_of_lt_of_eq h1 (Nat.zero_add _).symm) (congrArg (· + main_v22.ty.shape.size a) h0.symm)

/-- The reference's run, read: the output and the host's results, the arguments kept. -/
theorem run (ρ : Dev nD → PrngReg) : θ_run defs (onTc (τ := τ) (main (F := F))) ⟨m, fun _ => 0, ρ⟩ fun r => ∀ c : Dev nD,
      r.2.mem ((c : Thread nD τ).loc main_v22)
        = k0_pay1 (m ((c : Thread nD τ).loc main_arg0)) (m ((c : Thread nD τ).loc main_arg3)) (V m c main_v20) (V m c main_v21)
      ∧ r.2.mem ((c : Thread nD τ).loc main_v15) = V m c main_v15
      ∧ r.2.mem ((c : Thread nD τ).loc main_v19) = V m c main_v19
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post4 m r h c).trans (final_4 m c),
      (h c).2 main_v15 (Pipeline.mem_restRefs_of main_v15 (by decide) (by decide)),
      (h c).2 main_v19 (Pipeline.mem_restRefs_of main_v19 (by decide) (by decide)),
      kept_main_arg0 m r h c,
      kept_main_arg1 m r h c,
      kept_main_arg2 m r h c,
      kept_main_arg3 m r h c,
      kept_main_arg4 m r h c⟩)
    (run_main m ρ)

end Cert.ProjectReferenceIdeal.Value

end
-- ==== Proof.AlgebraAlone.lean ====
/- `project` alone: over the extended reals its results are the reference's. -/
module

public import proofs.«01_k».proof.Proof.ProjAccAlone
public import proofs.«01_k».proof.Proof.RefValAlone
public import proofs.«01_k».proof.Proof.MaxLaws
public import Idealize.ShloMosaic.Lib.MatmulPlain
public import Idealize.ShloMosaic.Lib.ValueLayout
public import Mathlib.Algebra.BigOperators.Fin
public import Mathlib.Algebra.BigOperators.Intervals

@[expose] public section

set_option maxRecDepth 16384

noncomputable section

open Idealize.ShloMosaic Idealize.ShloMosaic.TcCoe Idealize.SL.Sem Idealize.ShloMosaic.ValueIdx

namespace Cert.AlgebraAlone

abbrev K := Cert.ProjectIdeal.S256x2880

/-! ## The product -/

theorem zero_word : Ideal.ofBits .f32 0x00000000#32 = 0 := by
  have := Scale.ofBits_shl 0 (by norm_num)
  simpa [Scale.tau] using this

/-- One term of the product, `0` past the contraction's end. -/
def term (A : Vec Ideal Cert.ProjectIdeal.S256x12288 .fp8e4m3) (W : Vec Ideal Cert.ProjectIdeal.S12288x2880 .fp8e4m3) (r : Fin 256) (q : Fin 2880) (k : ℕ) : EReal :=
  if h : k < 12288 then (A (ix2 r ⟨k, h⟩) : EReal) * W (ix2 ⟨k, h⟩ q) else 0

section Project
open Cert.ProjectIdeal Cert.ProjectIdeal.Gen Cert.ProjectIdeal.Value

theorem pay2_apply (a : Vec Ideal S256x2880 .f32) (x : Vec Ideal S256x1024 .fp8e4m3) (w : Vec Ideal S1024x2880 .fp8e4m3) (r : Fin 256) (q : Fin 2880) :
    (k0_pay2 (F := Ideal) a x w (ix2 r q) : EReal) = (a (ix2 r q) : EReal) + ∑ k : Fin 1024, (x (ix2 r k) : EReal) * w (ix2 k q) := by
  unfold k0_pay2
  rw [shapeCast_self]
  show (a (ix2 r q) : EReal) + FloatOps.matmul (F := Ideal) (DotDims.plain 256 1024 2880) none x w (constant (F := Ideal) _ .f32 0x00000000#32) (ix2 r q) = _
  rw [Ideal.matmul_plain_apply]
  congr 1
  show Ideal.ofBits .f32 0x00000000#32 + _ = _
  rw [zero_word, zero_add]

theorem pay1_apply (i : S256x2880.Idx) : (k0_pay1 (F := Ideal) i : EReal) = 0 := by
  unfold k0_pay1
  rw [shapeCast_self]
  exact zero_word

variable (m : (ℓ : Loc nD τ sig) → Buf (Elt Ideal) ℓ)

theorem block_sum (c : Dev nD) (n : ℕ) (h : n < cfg0.N) (r : Fin 256) (q : Fin 2880) :
    (∑ k : Fin 1024, (show EReal from (iblk m c 0 ⟨n, h⟩ : Vec Ideal S256x1024 .fp8e4m3) (ix2 r k)) * (show EReal from (iblk m c 1 ⟨n, h⟩ : Vec Ideal S1024x2880 .fp8e4m3) (ix2 k q)))
      = ∑ k ∈ Finset.range 1024, term (m ((c : Thread nD τ).loc main_arg0)) (m ((c : Thread nD τ).loc main_arg3)) r q (1024 * n + k) := by
  have hn : n < 12 := lt_of_lt_of_eq h N_0
  rw [Finset.sum_range]
  refine Finset.sum_congr rfl fun k _ => ?_
  have hk : 1024 * n + k.val < 12288 := by have := k.isLt; omega
  rw [block_codes m c ⟨n, h⟩ r k hk, block_w m c ⟨n, h⟩ k q hk]
  unfold term
  rw [dif_pos hk]

/-- The accumulator after point `n` is the sum of the first `1024 (n + 1)` terms. -/
theorem chain_apply (c : Dev nD) (r : Fin 256) (q : Fin 2880) : ∀ (n : ℕ) (h : n < cfg0.N), (chain m c n h (ix2 r q) : EReal)
      = ∑ k ∈ Finset.range (1024 * (n + 1)), term (m ((c : Thread nD τ).loc main_arg0)) (m ((c : Thread nD τ).loc main_arg3)) r q k
  | 0, h => by
    unfold chain
    rw [pay2_apply, pay1_apply, zero_add, block_sum]
    simp only [Nat.mul_zero, Nat.zero_add, Nat.mul_one]
  | n + 1, h => by
    unfold chain
    rw [pay2_apply, chain_apply c r q n, block_sum, show 1024 * (n + 1 + 1) = 1024 * (n + 1) + 1024 by ring, Finset.sum_range_add]

end Project

/-- The whole product's terms. -/
theorem range_sum (A W) (r : Fin 256) (q : Fin 2880) :
    (∑ k ∈ Finset.range 12288, term A W r q k) = ∑ k : Fin 12288, (A (ix2 r k) : EReal) * W (ix2 k q) := by
  rw [Finset.sum_range]
  refine Finset.sum_congr rfl fun k _ => ?_
  unfold term
  rw [dif_pos k.isLt]

/-! ## The output, given the scale -/

theorem out_eq (mk : (ℓ : Loc Cert.ProjectIdeal.nD Cert.ProjectIdeal.τ Cert.ProjectIdeal.sig) → Buf (Elt Ideal) ℓ) (c : Dev Cert.ProjectIdeal.nD) (e : BitVec 32)
    (s : Vec Ideal Cert.ProjectReferenceIdeal.S1x1 .f32) (ws : Vec Ideal Cert.ProjectIdeal.S1x2880 .f32)
    (hs : (s (ix2 0 0) : EReal) = Scale.pow2 (F := Ideal) e) :
    Cert.ProjectIdeal.Gen.k0_pay15 (F := Ideal) e (Cert.ProjectIdeal.Value.chain mk c 11 Cert.ProjectIdeal.Value.last_lt) ws
      = Cert.ProjectReferenceIdeal.Gen.k0_pay1 (F := Ideal) (mk ((c : Thread Cert.ProjectIdeal.nD Cert.ProjectIdeal.τ).loc Cert.ProjectIdeal.main_arg0)) (mk ((c : Thread Cert.ProjectIdeal.nD Cert.ProjectIdeal.τ).loc Cert.ProjectIdeal.main_arg3)) s ws := by
  funext i
  obtain ⟨r, q, rfl⟩ : ∃ r q, i = ix2 r q := ⟨i 0, i 1, eq_ix2 i⟩
  unfold Cert.ProjectIdeal.Gen.k0_pay15 Cert.ProjectReferenceIdeal.Gen.k0_pay1
  simp only [shapeCast_self]
  show ((_ : EReal) * _) * _ = (_ * _) * _
  congr 1
  congr 1
  · rw [chain_apply]
    rw [range_sum]
    symm
    show FloatOps.matmul (F := Ideal) (DotDims.plain 256 12288 2880) none _ _ (constant (F := Ideal) _ .f32 0x00000000#32) (ix2 r q) = _
    rw [Ideal.matmul_plain_apply]
    show Ideal.ofBits .f32 0x00000000#32 + _ = _
    rw [zero_word, zero_add]
  · show Scale.pow2 (F := Ideal) e = _
    rw [← hs]
    symm
    refine broadcastTo_apply s _ (ix2 r q) (ix2 0 0) fun a => ?_
    fin_cases a <;> rfl

/-! ## The scale -/

theorem mag_eq (h : FVec Ideal Cert.ProjectReferenceIdeal.S16 .f32) :
    (Cert.ProjectReferenceIdeal.Value.rmag (F := Ideal) h ix0 : EReal) = Scale.mag (F := Ideal) (Scale.hmax (fun k => h (ix1 k))) := by
  unfold Cert.ProjectReferenceIdeal.Value.rmag Scale.mag
  have e : (Host.reduce FloatOps.maximumf h (constant Cert.ProjectReferenceIdeal.S_ .f32 0xFF800000#32) Cert.ProjectReferenceIdeal.Gen.reducesTo_S16_S_d0 Cert.ProjectReferenceIdeal.Gen.h_S_ ix0 : Ideal .f32)
      = Scale.hmax (fun k => h (ix1 k)) := by
    refine MaxLaws.eq_of_le fun z => (MaxLaws.host_le h _ _ ix0 z).trans ?_
    rw [MaxLaws.hmax_le]
    constructor
    · intro hh k; exact hh _ (funext fun a => a.elim0)
    · intro hh i _
      rw [eq_ix1 i]; exact hh _
  rw [← e]
  have e0 : (Ideal.ofBits .f32 991054117#32) = FloatOps.ofBits (F := Ideal) FTy.f32 991054117#32 := rfl
  rfl

theorem f32_two : Ideal.ofBits .f32 0x40000000#32 = ((2 : ℝ) : EReal) := by
  rw [Scale.ofBits_normal _ 128 0 (by decide) (by decide) (by decide) (by norm_num) (by norm_num)]
  norm_num
theorem f32_one : Ideal.ofBits .f32 0x3F800000#32 = ((1 : ℝ) : EReal) := by
  rw [Scale.ofBits_normal _ 127 0 (by decide) (by decide) (by decide) (by norm_num) (by norm_num)]
  norm_num
theorem f32_126 : Ideal.ofBits .f32 0x42FC0000#32 = ((126 : ℝ) : EReal) := by
  rw [Scale.ofBits_normal _ 133 8126464 (by decide) (by decide) (by decide) (by norm_num) (by norm_num)]
  norm_num

theorem pow_eq (k : Fin 254) : (Cert.ProjectReferenceIdeal.Value.rpow (F := Ideal) (ix1 k) : EReal) = Scale.pw k.val := by
  unfold Cert.ProjectReferenceIdeal.Value.rpow Scale.pw
  show Ideal.pow (Ideal.ofBits .f32 0x40000000#32) ((((BitVec.ofNat 32 k.val).toInt : ℝ) : EReal) - Ideal.ofBits .f32 0x42FC0000#32) = _
  rw [f32_two, f32_126, ← EReal.coe_sub, Ideal.pow_coe_coe]
  have hk : (BitVec.ofNat 32 k.val).toInt = (k.val : ℤ) := by
    have := k.isLt
    rw [BitVec.toInt_ofNat']
    rw [Int.bmod_eq_of_le] <;> omega
  rw [hk]
  congr 1
  show (2 : ℝ) ^ (((k.val : ℤ) : ℝ) - 126) = _
  rw [← Real.rpow_intCast]
  push_cast
  rfl

theorem below_eq (v : FVec Ideal Cert.ProjectReferenceIdeal.S_ .f32) :
    (Cert.ProjectReferenceIdeal.Value.rbelow (F := Ideal) v ix0 : EReal) = Scale.below (v ix0) := by
  refine MaxLaws.eq_of_le fun z => (MaxLaws.host_le _ _ _ ix0 z).trans ?_
  unfold Scale.below
  rw [Finset.sup_le_iff]
  have key : ∀ k : Fin 254, (select (cmpf .ole (Cert.ProjectReferenceIdeal.Value.rpow (F := Ideal)) (broadcastInDim Cert.ProjectReferenceIdeal.S254 ![] Cert.ProjectReferenceIdeal.Gen.bcast_S_S254 v)) (Cert.ProjectReferenceIdeal.Value.rpow (F := Ideal))
      (broadcastInDim Cert.ProjectReferenceIdeal.S254 ![] Cert.ProjectReferenceIdeal.Gen.bcast_S_S254 (constant (F := Ideal) Cert.ProjectReferenceIdeal.S_ .f32 0x00000000#32)) (ix1 k) : Ideal .f32)
      = if Scale.pw k.val ≤ v ix0 then Scale.pw k.val else 0 := by
    intro k
    show Scalar.select (Ideal.cmp .ole (Cert.ProjectReferenceIdeal.Value.rpow (F := Ideal) (ix1 k)) (v _)) (Cert.ProjectReferenceIdeal.Value.rpow (F := Ideal) (ix1 k)) (Ideal.ofBits .f32 0x00000000#32) = _
    rw [pow_eq, zero_word]
    rw [show ∀ i : Cert.ProjectReferenceIdeal.S_.Idx, v i = v ix0 from fun i => congrArg v (funext fun a => a.elim0)]
    by_cases hc : Scale.pw k.val ≤ v ix0
    · rw [if_pos hc, show Ideal.cmp .ole (Scale.pw k.val) (v ix0) = 1#1 by simp [Ideal.cmp, hc]]; rfl
    · rw [if_neg hc, show Ideal.cmp .ole (Scale.pw k.val) (v ix0) = 0#1 by simp [Ideal.cmp, hc]]; rfl
  constructor
  · intro hh k _
    rw [← key k]
    exact hh _ (funext fun a => a.elim0)
  · intro hh i _
    rw [eq_ix1 i]
    refine le_of_eq_of_le (key (i 0)) (hh _ (Finset.mem_univ _))

theorem scale_eq (b : FVec Ideal Cert.ProjectReferenceIdeal.S_ .f32) (v : EReal) (hb : (b ix0 : EReal) = Scale.below v) :
    (Cert.ProjectReferenceIdeal.Value.rscale (F := Ideal) b ix0 : EReal) = Scale.refScale v := by
  unfold Cert.ProjectReferenceIdeal.Value.rscale Scale.refScale
  show Scalar.select (Ideal.cmp .oeq (b ix0) (Ideal.ofBits .f32 0x00000000#32)) (Ideal.ofBits .f32 0x3F800000#32) (Ideal.ofBits .f32 0x40000000#32 * b ix0 : EReal) = _
  rw [zero_word, f32_one, f32_two, hb]
  by_cases hc : Scale.below v = 0
  · rw [if_pos hc, show Ideal.cmp .oeq (Scale.below v) 0 = 1#1 by simp [Ideal.cmp, hc]]; rfl
  · rw [if_neg hc, show Ideal.cmp .oeq (Scale.below v) 0 = 0#1 by simp [Ideal.cmp, hc]]; rfl

/-- The reference's scale is the kernel's, for a history bounded by the greatest float. -/
theorem ref_scale (h : FVec Ideal Cert.ProjectReferenceIdeal.S16 .f32) (hb : ∀ k : Fin 16, (max (h (ix1 k) : EReal) (-(h (ix1 k) : EReal))) ≤ Ideal.ofBits .f32 0x7F7FFFFF#32) :
    (Cert.ProjectReferenceIdeal.Value.rscale (F := Ideal) (Cert.ProjectReferenceIdeal.Value.rbelow (Cert.ProjectReferenceIdeal.Value.rmag h)) ix0 : EReal)
      = Scale.pow2 (F := Ideal) (Scale.expBits (F := Ideal) (Scale.hmax (fun k => h (ix1 k)))) := by
  rw [scale_eq _ _ (below_eq _), mag_eq, Scale.scale_eq]
  refine Scale.mag_lt _ ((MaxLaws.hmax_le _ _).mpr fun k => (max_le_iff.mp (hb k)).1) ?_
  refine le_trans ?_ ((MaxLaws.hmax_le (fun k => h (ix1 k)) _).mp le_rfl 0)
  exact EReal.neg_le.mp (max_le_iff.mp (hb 0)).2

/-! ## The history -/

theorem pay3_eq (x : Vec Ideal Cert.ProjectIdeal.S8x128 .f32) :
    Cert.ProjectIdeal.Gen.k0_pay3 (F := Ideal) x
      = Host.reduce FloatOps.maximumf x (constant (F := Ideal) Cert.ProjectReferenceIdeal.S_ .f32 0xFF800000#32) Cert.ProjectReferenceIdeal.Gen.reducesTo_S8x128_S_d0_1 Cert.ProjectReferenceIdeal.Gen.h_S_ ix0 := by
  refine MaxLaws.eq_of_le fun z => ?_
  rw [show ∀ a b : EReal, (a ≤ b ↔ a ≤ b) from fun _ _ => Iff.rfl]
  refine Iff.trans ?_ (MaxLaws.host_le x _ _ ix0 z).symm
  unfold Cert.ProjectIdeal.Gen.k0_pay3 extractAt
  dsimp only
  unfold shapeCast
  refine (MaxLaws.kernel_le _ _ _ _ _ z).trans ?_
  constructor
  · intro hh i _
    exact (MaxLaws.cast_forall x Cert.ProjectIdeal.Gen.shapeCasts_S8x128_S1x8x128 (fun e => (e : EReal) ≤ z)).mp
      (fun j => hh j (funext fun a => by fin_cases a; exact @Subsingleton.elim (Fin 1) _ _ _)) i
  · intro hh j _
    exact (MaxLaws.cast_forall x Cert.ProjectIdeal.Gen.shapeCasts_S8x128_S1x8x128 (fun e => (e : EReal) ≤ z)).mpr (fun i => hh i (funext fun a => a.elim0)) j

theorem shift_eq (h : Vec Ideal Cert.ProjectIdeal.S16 .f32) (b : FVec Ideal Cert.ProjectReferenceIdeal.S_ .f32) :
    Cert.ProjectIdeal.Value.shift h (b ix0) = concatenate Cert.ProjectReferenceIdeal.S16 0 [⟨Cert.ProjectReferenceIdeal.S15, extractStridedSlice Cert.ProjectReferenceIdeal.S15 ![1] h Cert.ProjectReferenceIdeal.Gen.slices_S16_S15_1⟩,
      ⟨Cert.ProjectReferenceIdeal.S1, broadcastInDim Cert.ProjectReferenceIdeal.S1 ![] Cert.ProjectReferenceIdeal.Gen.bcast_S_S1 b⟩] Cert.ProjectReferenceIdeal.Gen.concatenates_S15_S1_S16_d0 := by
  funext p
  unfold Cert.ProjectIdeal.Value.shift
  by_cases hp : (p 0).val + 1 < 16
  · rw [dif_pos hp]
    have hp' : (p 0).val < 15 := by omega
    rw [concatenate_pair_apply_left (s₁ := Cert.ProjectReferenceIdeal.S15) (s₂ := Cert.ProjectReferenceIdeal.S1) 0 _ _ _ p rfl (ix1 ⟨(p 0).val, hp'⟩) (fun b => by fin_cases b; rfl)]
    refine congrArg h (funext fun a => ?_)
    fin_cases a
    exact Fin.ext (Nat.add_comm (p 0).val 1)
  · rw [dif_neg hp]
    have hl : (p 0).val < 16 := (p 0).isLt
    rw [concatenate_pair_apply_right (s₁ := Cert.ProjectReferenceIdeal.S15) (s₂ := Cert.ProjectReferenceIdeal.S1) 0 _ _ _ p rfl rfl (ix1 0) (fun b hb => by fin_cases b; exact absurd rfl hb)
      (by show 0 + 15 = (p 0).val; omega)]
    exact congrArg b (funext fun a => a.elim0)

end Cert.AlgebraAlone

end
-- ==== Proof.RotPiecesAlone.lean ====
/- What `rotate`'s body stores, at one grid point: the generated run names every intermediate value on its own; here the
   same pieces are given by their number, so that a fact about one of them is proved once. -/
module

public import proofs.«01_k».proof.Proof.Gen.RotateIdeal.Frame.RunB

@[expose] public section

set_option maxRecDepth 16384

noncomputable section

namespace Cert.RotPiecesAlone

open Idealize.ShloMosaic Idealize.ShloMosaic.TcCoe Idealize.ShloMosaic.Tactic
open Idealize.SL Idealize.SL.Sem
open Cert.RotateIdeal Cert.RotateIdeal.Gen

variable {F : FTy → Type} [FloatOps F]

/-- The values `f (n - 1), …, f 0`: the order in which the run lists the stores, the last one first. -/
def down {α : Type*} (f : ℕ → α) : ℕ → List α
  | 0 => []
  | n + 1 => f n :: down f n

theorem mem_down {α : Type*} (f : ℕ → α) (p : α) : ∀ n, p ∈ down f n ↔ ∃ i, i < n ∧ p = f i
  | 0 => by simp [down]
  | n + 1 => by
    rw [down, List.mem_cons, mem_down f p n]
    constructor
    · rintro (h | ⟨i, hi, h⟩)
      · exact ⟨n, Nat.lt_succ_self n, h⟩
      · exact ⟨i, by omega, h⟩
    · rintro ⟨i, hi, h⟩
      rcases Nat.lt_succ_iff_lt_or_eq.mp hi with h' | rfl
      · exact Or.inr ⟨i, h', h⟩
      · exact Or.inl h

/-- The columns `256 c … 256 c + 255` of group `k` of the rows of `x` lie inside the block. -/
theorem inbX (k c : ℕ) : ∀ a, (![0, 1024 * (k % 12) + 256 * (c % 4)] : Fin 2 → ℕ) a + S32x256.size a ≤ S32x12288.size a := by
  intro a
  fin_cases a
  · show 0 + 32 ≤ 32; omega
  · show 1024 * (k % 12) + 256 * (c % 4) + 256 ≤ 12288; omega

/-- Quarter `c` of group `k` lies inside the scratch. -/
theorem inbZ (k c : ℕ) : ∀ a, (![k % 12, 0, 256 * (c % 4)] : Fin 3 → ℕ) a + S1x32x256.size a ≤ S12x32x1024.size a := by
  intro a
  fin_cases a
  · show k % 12 + 1 ≤ 12; omega
  · show 0 + 32 ≤ 32; omega
  · show 256 * (c % 4) + 256 ≤ 1024; omega

/-- Eighth `j` of group `k` lies inside the scratch. -/
theorem inbL (k j : ℕ) : ∀ a, (![k % 12, 0, 128 * (j % 8)] : Fin 3 → ℕ) a + S1x32x128.size a ≤ S12x32x1024.size a := by
  intro a
  fin_cases a
  · show k % 12 + 1 ≤ 12; omega
  · show 0 + 32 ≤ 32; omega
  · show 128 * (j % 8) + 128 ≤ 1024; omega

/-- Entry `(a, k)` lies inside the small Hadamard matrix. -/
theorem inbH (a k : ℕ) : ∀ b, (![a % 12, k % 12] : Fin 2 → ℕ) b + S1x1.size b ≤ S12x12.size b := by
  intro b
  fin_cases b
  · show a % 12 + 1 ≤ 12; omega
  · show k % 12 + 1 ≤ 12; omega

/-- Eighth `j` of group `a` lies inside the block of the codes. -/
theorem inbY (a j : ℕ) : ∀ b, (![0, 1024 * (a % 12) + 128 * (j % 8)] : Fin 2 → ℕ) b + S32x128.size b ≤ S32x12288.size b := by
  intro b
  fin_cases b
  · show 0 + 32 ≤ 32; omega
  · show 1024 * (a % 12) + 128 * (j % 8) + 128 ≤ 12288; omega

/-- Quarter `c` of group `k` of the rows, multiplied by the 256 × 256 Hadamard matrix. -/
def zdot (arg1 : Memref sig .tc .vmem S32x12288 .bf16) (harg1 : arg1.IsWhole) (x0 : Vec F S32x12288 .bf16) (k c : ℕ) :
    FVec F S32x256 .f32 :=
  matmul dot_S32x256_S256x256_S32x256_1_0_0_1_n_n none
    (shapeCast S32x256
      (View.readAt (Elt F) arg1.view (Rect.unit (s := S32x12288) ![0, 1024 * (k % 12) + 256 * (c % 4)] S32x256.size (inbX k c)).toLoadRect
        (harg1.unread x0) : Vec F S32x256 .bf16) shapeCasts_S32x256_S32x256)
    k0_pay2 (constant S32x256 .f32 0x00000000#32)

/-- Quarter `c` of the 1024-point transform, from the four quarters' transforms `z 0 … z 3`. -/
def comb (z : ℕ → FVec F S32x256 .f32) : ℕ → FVec F S32x256 .f32
  | 0 => addf (addf (z 0) (z 1)) (addf (z 2) (z 3))
  | 1 => addf (subf (z 0) (z 1)) (subf (z 2) (z 3))
  | 2 => subf (addf (z 0) (z 1)) (addf (z 2) (z 3))
  | _ => subf (subf (z 0) (z 1)) (subf (z 2) (z 3))

/-- Store number `n = 4 k + c` into the scratch. -/
def zPiece (arg1 : Memref sig .tc .vmem S32x12288 .bf16) (harg1 : arg1.IsWhole) (x0 : Vec F S32x12288 .bf16) (n : ℕ) :
    View.Piece (Elt F) S12x32x1024 .f32 :=
  ⟨Rect.unit (s := S12x32x1024) ![n / 4 % 12, 0, 256 * (n % 4)] S1x32x256.size (inbZ (n / 4) n),
    shapeCast S1x32x256 (comb (zdot arg1 harg1 x0 (n / 4)) (n % 4)) shapeCasts_S32x256_S1x32x256⟩

/-- Eighth `j` of group `k` of the transformed rows, as the second half of the body loads it. -/
def zload (arg6 : Memref sig .tc .vmem S12x32x1024 .f32) (L : List (View.Piece (Elt F) S12x32x1024 .f32)) (k j : ℕ) :
    Vec F S1x32x128 .f32 :=
  arg6.view.readCov L (Rect.unit (s := S12x32x1024) ![k % 12, 0, 128 * (j % 8)] S1x32x128.size (inbL k j)).toLoadRect

/-- Entry `(a, k)` of the small Hadamard matrix. -/
def hload (arg3 : Memref sig .tc .smem S12x12 .f32) (harg3 : arg3.IsWhole) (x2 : Vec F S12x12 .f32) (a k : ℕ) : Elt F .f32 :=
  View.readAt (Elt F) arg3.view (Rect.unit (s := S12x12) ![a % 12, k % 12] S1x1.size (inbH a k)).toLoadRect (harg3.unread x2)
    (Shape.Idx.first (show 0 < S1x1.numel by decide))

/-- One term of the sum over the groups. -/
def yterm (arg3 : Memref sig .tc .smem S12x12 .f32) (harg3 : arg3.IsWhole) (arg6 : Memref sig .tc .vmem S12x32x1024 .f32)
    (L : List (View.Piece (Elt F) S12x32x1024 .f32)) (x2 : Vec F S12x12 .f32) (a j k : ℕ) : FVec F S32x128 .f32 :=
  mulf (shapeCast S32x128 (zload arg6 L k j) shapeCasts_S1x32x128_S32x128) (broadcast S32x128 (hload arg3 harg3 x2 a k))

/-- The sum of the terms `0 … n`, taken from the left. -/
def ysum (arg3 : Memref sig .tc .smem S12x12 .f32) (harg3 : arg3.IsWhole) (arg6 : Memref sig .tc .vmem S12x32x1024 .f32)
    (L : List (View.Piece (Elt F) S12x32x1024 .f32)) (x2 : Vec F S12x12 .f32) (a j : ℕ) : ℕ → FVec F S32x128 .f32
  | 0 => yterm arg3 harg3 arg6 L x2 a j 0
  | n + 1 => addf (ysum arg3 harg3 arg6 L x2 a j n) (yterm arg3 harg3 arg6 L x2 a j (n + 1))

/-- Tile number `n = 12 j + a` of the rotated rows. -/
def ytile (arg3 : Memref sig .tc .smem S12x12 .f32) (harg3 : arg3.IsWhole) (arg6 : Memref sig .tc .vmem S12x32x1024 .f32)
    (L : List (View.Piece (Elt F) S12x32x1024 .f32)) (x2 : Vec F S12x12 .f32) (n : ℕ) : FVec F S32x128 .f32 :=
  mulf (ysum arg3 harg3 arg6 L x2 (n % 12) (n / 12) 11) (broadcast S32x128 (Scalar.ofBits .f32 0x3C13CD3A#32))

/-- The codes of a tile. -/
def codes (inv : F .f32) (y : FVec F S32x128 .f32) : FVec F S32x128 .fp8e4m3 :=
  truncf .fp8e4m3
    (minimumf (broadcast S32x128 (Scalar.ofBits .f32 0x43E00000#32))
      (maximumf (broadcast S32x128 (Scalar.ofBits .f32 0xC3E00000#32)) (mulf y (broadcast S32x128 inv))))
    bitsLt_fp8e4m3_f32

/-- Store number `n` into the block of the codes. -/
def cPiece (arg3 : Memref sig .tc .smem S12x12 .f32) (harg3 : arg3.IsWhole) (arg6 : Memref sig .tc .vmem S12x32x1024 .f32)
    (L : List (View.Piece (Elt F) S12x32x1024 .f32)) (x2 : Vec F S12x12 .f32) (inv : F .f32) (n : ℕ) :
    View.Piece (Elt F) S32x12288 .fp8e4m3 :=
  ⟨Rect.unit (s := S32x12288) ![0, 1024 * (n % 12) + 128 * (n / 12 % 8)] S32x128.size (inbY n (n / 12)),
    codes inv (ytile arg3 harg3 arg6 L x2 n)⟩

/-- The running maxima after a further tile: its four blocks of eight rows, one after another. -/
def amaxStep (acc : FVec F S8x128 .f32) (y : FVec F S32x128 .f32) : FVec F S8x128 .f32 :=
  maximumf
    (maximumf
      (maximumf (maximumf acc (absf (extractStridedSlice S8x128 ![0, 0] y slices_S32x128_o0_0_S8x128)))
        (absf (extractStridedSlice S8x128 ![8, 0] y slices_S32x128_o8_0_S8x128)))
      (absf (extractStridedSlice S8x128 ![16, 0] y slices_S32x128_o16_0_S8x128)))
    (absf (extractStridedSlice S8x128 ![24, 0] y slices_S32x128_o24_0_S8x128))

/-- The running maxima after the first `n` of the tiles `y`. -/
def amax (y : ℕ → FVec F S32x128 .f32) : ℕ → FVec F S8x128 .f32
  | 0 => broadcast S8x128 (Scalar.ofBits .f32 0x00000000#32)
  | n + 1 => amaxStep (amax y n) (y n)

section A
variable (c : Dev nD) (i : grid0.Coords) (arg1 : Memref sig .tc .vmem S32x12288 .bf16) (harg1 : arg1.IsWhole)
  (arg2 : Memref sig .tc .smem S16 .f32) (harg2 : arg2.IsWhole) (arg3 : Memref sig .tc .smem S12x12 .f32) (harg3 : arg3.IsWhole)
  (arg4 : Memref sig .tc .vmem S32x12288 .fp8e4m3) (harg4 : arg4.IsWhole) (arg5 : Memref sig .tc .vmem S8x128 .f32)
  (harg5 : arg5.IsWhole) (arg6 : Memref sig .tc .vmem S12x32x1024 .f32) (harg6 : arg6.IsWhole)
  (x0 : Vec F S32x12288 .bf16) (x1 : Vec F S16 .f32) (x2 : Vec F S12x12 .f32)

/-- The scratch, in case A. -/
theorem zPieces_A : kernelRun0_A.sl.HS0_48 c arg1 harg1 x0 = down (zPiece arg1 harg1 x0) 48 := by sl_kernel_rfl

/-- The same in case B. -/
theorem zPieces_B : kernelRun0_B.sl.HS0_48 c arg1 harg1 x0 = down (zPiece arg1 harg1 x0) 48 := by sl_kernel_rfl

/-- The codes, in case A. -/
theorem cPieces_A (hc0 : cond0_0 i) (hc1 : ¬cond0_1 i) :
    (kernelRun0_A c i arg1 harg1 arg2 harg2 arg3 harg3 arg4 harg4 arg5 harg5 arg6 harg6 hc0 hc1 x0 x1 x2).1
      = down (cPiece arg3 harg3 arg6 (kernelRun0_A.sl.HS0_48 c arg1 harg1 x0) x2 (kernelRun0_A.sl.r_20 c arg2 harg2 x1)) 96 := by
  sl_kernel_rfl

/-- The same in case B. -/
theorem cPieces_B (hc0 : ¬cond0_0 i) (hc1 : cond0_1 i) (xo4 : Vec F S8x128 .f32) :
    (kernelRun0_B c i arg1 harg1 arg2 harg2 arg3 harg3 arg4 harg4 arg5 harg5 arg6 harg6 hc0 hc1 x0 x1 x2 xo4).1
      = down (cPiece arg3 harg3 arg6 (kernelRun0_B.sl.HS0_48 c arg1 harg1 x0) x2 (kernelRun0_B.sl.r_20 c arg2 harg2 x1)) 96 := by
  sl_kernel_rfl

/-- The maxima, in case A. -/
theorem mPieces_A (hc0 : cond0_0 i) (hc1 : ¬cond0_1 i) :
    (kernelRun0_A c i arg1 harg1 arg2 harg2 arg3 harg3 arg4 harg4 arg5 harg5 arg6 harg6 hc0 hc1 x0 x1 x2).2.1
      = [⟨Rect.unit (s := S8x128) ![0, 0] S8x128.size inb_S8x128_S8x128_0_0,
          amax (ytile arg3 harg3 arg6 (kernelRun0_A.sl.HS0_48 c arg1 harg1 x0) x2) 96⟩] := by
  sl_kernel_rfl

/-- The maxima, in case B: with those of the points before. -/
theorem mPieces_B (hc0 : ¬cond0_0 i) (hc1 : cond0_1 i) (xo4 : Vec F S8x128 .f32) :
    (kernelRun0_B c i arg1 harg1 arg2 harg2 arg3 harg3 arg4 harg4 arg5 harg5 arg6 harg6 hc0 hc1 x0 x1 x2 xo4).2.1
      = [⟨Rect.unit (s := S8x128) ![0, 0] S8x128.size inb_S8x128_S8x128_0_0,
          k0_pay1 (amax (ytile arg3 harg3 arg6 (kernelRun0_B.sl.HS0_48 c arg1 harg1 x0) x2) 96)
            (View.readAt (Elt F) arg5.view
              (Rect.unit (s := S8x128) ![0, 0] S8x128.size inb_S8x128_S8x128_0_0).toLoadRect (harg5.unread xo4))⟩] := by
  sl_kernel_rfl

end A

end Cert.RotPiecesAlone
-- ==== Proof.RotValAlone.lean ====
/- What one grid point of the rotation computes, over the extended reals. -/
module

public import proofs.«01_k».proof.Proof.RotPiecesAlone
public import proofs.«01_k».proof.Proof.Had
public import proofs.«01_k».proof.Proof.Scale
public import Idealize.ShloMosaic.Lib.Pipeline.Value
public import Idealize.ShloMosaic.Lib.Pipeline.ValueKit.Tiles
public import Idealize.ShloMosaic.Lib.ValueIdxCore
public import Idealize.ShloMosaic.Lib.MatmulPlain
public import Idealize.ShloMosaic.Lib.ValueLayout
public import Idealize.ShloMosaic.Lib.Pointwise.ShapeOpsCore
public import Idealize.ShloMosaic.Lib.WholeRead

@[expose] public section

set_option maxRecDepth 16384

noncomputable section

namespace Cert.RotValAlone

open Idealize.ShloMosaic hiding ix2
open Idealize.ShloMosaic.TcCoe Idealize.ShloMosaic.Tactic Idealize.ShloMosaic.ValueIdx
open Idealize.SL Idealize.SL.Sem
open Cert.RotateIdeal Cert.RotateIdeal.Gen Cert.RotPiecesAlone

/-! ## The matrix of order 256 -/

/-- The word of an entry, from the conjunction of its row and column: one minus twice the parity. -/
def word (v : BitVec 32) : BitVec 32 :=
  let s (k : BitVec 32) := IntOp.shrsi .vector v k
  IntOp.subi 1#32 (IntOp.muli 2#32 (IntOp.andi (IntOp.xori (IntOp.xori (IntOp.xori (IntOp.xori (IntOp.xori (IntOp.xori (IntOp.xori (IntOp.xori 0#32
    (s 0#32)) (s 1#32)) (s 2#32)) (s 3#32)) (s 4#32)) (s 5#32)) (s 6#32)) (s 7#32)) 1#32))

theorem word_eq : ∀ v : Fin 256, (word (BitVec.ofNat 32 v.val)).toInt = Had.sg 8 v.val := by decide +kernel

theorem had256 (p q : Fin 256) : (k0_pay2 (F := Ideal) (ix2 p q) : EReal) = Had.se 8 (p.val &&& q.val) := by
  have h0 : iota .tc S256x256 32 [0] iota_S256x256_d0_w32 (ix2 p q) = BitVec.ofNat 32 p.val := by
    rw [iota_apply]; simp
  have h1 : iota .tc S256x256 32 [1] iota_S256x256_d1_w32 (ix2 p q) = BitVec.ofNat 32 q.val := by
    rw [iota_apply]; simp
  have e : (k0_pay2 (F := Ideal) (ix2 p q) : EReal)
      = ((((word (IntOp.andi (iota .tc S256x256 32 [0] iota_S256x256_d0_w32 (ix2 p q)) (iota .tc S256x256 32 [1] iota_S256x256_d1_w32 (ix2 p q)))).toInt : ℤ) : ℝ) : EReal) := rfl
  rw [e, h0, h1]
  have hb : IntOp.andi (BitVec.ofNat 32 p.val) (BitVec.ofNat 32 q.val) = BitVec.ofNat 32 (p.val &&& q.val) := by
    unfold IntOp.andi
    exact (BitVec.ofNat_and ..).symm
  have hlt : p.val &&& q.val < 256 := lt_of_le_of_lt Nat.and_le_left p.isLt
  rw [hb]
  have := word_eq ⟨p.val &&& q.val, hlt⟩
  dsimp only at this
  rw [this]
  rfl

/-! ## The transform inside a group -/

/-- Row `r` of a block of `x`, by column number. -/
def row (x0 : Vec Ideal S32x12288 .bf16) (r : Fin 32) (n : ℕ) : EReal := x0 (ix2 r ⟨n % 12288, Nat.mod_lt _ (by norm_num)⟩)

section Body
variable (arg1 : Memref sig .tc .vmem S32x12288 .bf16) (harg1 : arg1.IsWhole) (arg3 : Memref sig .tc .smem S12x12 .f32) (harg3 : arg3.IsWhole)
  (arg6 : Memref sig .tc .vmem S12x32x1024 .f32) (x0 : Vec Ideal S32x12288 .bf16) (x2 : Vec Ideal S12x12 .f32)

theorem zero_word : Ideal.ofBits .f32 0x00000000#32 = 0 := by
  have := Scale.ofBits_shl 0 (by norm_num)
  simpa [Scale.tau] using this

theorem zdot_apply (k c : ℕ) (hk : k < 12) (hc : c < 4) (r : Fin 32) (q : Fin 256) :
    (zdot (F := Ideal) arg1 harg1 x0 k c (ix2 r q) : EReal) = Had.kz (fun n => row x0 r (1024 * k + n)) c q.val := by
  unfold zdot
  show FloatOps.matmul (F := Ideal) (DotDims.plain 32 256 256) none _ _ (constant (F := Ideal) _ .f32 0x00000000#32) (ix2 r q) = _
  rw [Ideal.matmul_plain_apply]
  show Ideal.ofBits .f32 0x00000000#32 + _ = _
  rw [zero_word, zero_add]
  unfold Had.kz
  refine Finset.sum_congr rfl fun p _ => ?_
  rw [had256]
  congr 1
  refine (congrFun (shapeCast_self _ _) _).trans ((harg1.readAt_unread x0 _ _).trans ?_)
  unfold row
  refine congrArg x0 (funext fun a => Fin.ext ?_)
  have hp := p.isLt
  fin_cases a
  · show 0 + 1 * r.val = r.val; omega
  · show 1024 * (k % 12) + 256 * (c % 4) + 1 * p.val = (1024 * k + (256 * c + p.val)) % 12288
    rw [Nat.mod_eq_of_lt hk, Nat.mod_eq_of_lt hc]; omega

/-- The scratch after the first half: group, row, column. -/
def zval (k : ℕ) (r : Fin 32) (q : ℕ) : EReal := Had.kcomb (fun n => row x0 r (1024 * k + n)) (q % 256) (q / 256)

theorem comb_apply (k c : ℕ) (hk : k < 12) (hc : c < 4) (r : Fin 32) (q : Fin 256) :
    (comb (zdot (F := Ideal) arg1 harg1 x0 k) c (ix2 r q) : EReal) = Had.kcomb (fun n => row x0 r (1024 * k + n)) q.val c := by
  have h := fun c hc => zdot_apply arg1 harg1 x0 k c hk hc r q
  have h0 := h 0 (by norm_num)
  have h1 := h 1 (by norm_num)
  have h2 := h 2 (by norm_num)
  have h3 := h 3 (by norm_num)
  match c, hc with
  | 0, _ => show ((_ : EReal) + _) + (_ + _) = _; rw [h0, h1, h2, h3]; rfl
  | 1, _ => show ((_ : EReal) - _) + (_ - _) = _; rw [h0, h1, h2, h3]; rfl
  | 2, _ => show ((_ : EReal) + _) - (_ + _) = _; rw [h0, h1, h2, h3]; rfl
  | 3, _ => show ((_ : EReal) - _) - (_ - _) = _; rw [h0, h1, h2, h3]; rfl

/-- The scratch as one function of its index. -/
def zG (i : S12x32x1024.Idx) : Elt Ideal .f32 := zval x0 (i 0).val (i 1) (i 2).val

theorem zPiece_apply (n : ℕ) (hn : n < 48) (x : (zPiece (F := Ideal) arg1 harg1 x0 n).1.shape.Idx) :
    (zPiece (F := Ideal) arg1 harg1 x0 n).2 x = zG x0 ((zPiece (F := Ideal) arg1 harg1 x0 n).1.emb x) := by
  have hk : n / 4 < 12 := by omega
  have hc : n % 4 < 4 := by omega
  have hx0 : (x 0).val = 0 := by have : (x 0).val < 1 := (x 0).isLt; omega
  have hx2 : (x 2).val < 256 := (x 2).isLt
  have hx1 : (x 1).val < 32 := (x 1).isLt
  have e : (zPiece (F := Ideal) arg1 harg1 x0 n).2 x = comb (zdot (F := Ideal) arg1 harg1 x0 (n / 4)) (n % 4) (ix2 ⟨(x 1).val, hx1⟩ ⟨(x 2).val, hx2⟩) := by
    refine (shapeCast_addUnit_apply ![32, 256] _ shapeCasts_S32x256_S1x32x256 x).trans ?_
    refine congrArg (comb (zdot (F := Ideal) arg1 harg1 x0 (n / 4)) (n % 4)) (funext fun a => ?_)
    fin_cases a <;> rfl
  rw [e]
  refine (comb_apply arg1 harg1 x0 _ _ hk hc _ _).trans ?_
  have e0 : (((zPiece (F := Ideal) arg1 harg1 x0 n).1.emb x) 0).val = n / 4 := by
    show n / 4 % 12 + 1 * (x 0).val = _
    rw [hx0]; omega
  have e1 : ((zPiece (F := Ideal) arg1 harg1 x0 n).1.emb x) 1 = (⟨(x 1).val, hx1⟩ : Fin 32) := by
    refine Fin.ext ?_
    show 0 + 1 * (x 1).val = (x 1).val
    omega
  have e2 : (((zPiece (F := Ideal) arg1 harg1 x0 n).1.emb x) 2).val = 256 * (n % 4) + (x 2).val := by
    show 256 * (n % 4) + 1 * (x 2).val = _
    omega
  unfold zG zval
  rw [e0, e2, show (256 * (n % 4) + (x 2).val) % 256 = (x 2).val by omega, show (256 * (n % 4) + (x 2).val) / 256 = n % 4 by omega]
  exact congrArg (fun r : Fin 32 => Had.kcomb (fun m => row x0 r (1024 * (n / 4) + m)) (x 2).val (n % 4)) e1.symm

theorem zcanon (y : S12x32x1024.Idx) : View.canon (Val := Elt Ideal) (down (zPiece (F := Ideal) arg1 harg1 x0) 48) y = zG x0 y := by
  have h0 : (y 0).val < 12 := (y 0).isLt
  have h1 : (y 1).val < 32 := (y 1).isLt
  have h2 : (y 2).val < 1024 := (y 2).isLt
  refine View.canon_apply_of_pieces (zG x0) _ (fun p hp x => ?_) y ⟨zPiece arg1 harg1 x0 (4 * (y 0).val + (y 2).val / 256), (mem_down _ _ _).mpr ⟨_, by omega, rfl⟩, ?_⟩
  · obtain ⟨n, hn, rfl⟩ := (mem_down _ _ _).mp hp
    exact zPiece_apply arg1 harg1 x0 n hn x
  · unfold zPiece
    dsimp only
    rw [Rect.mem_set_unit]
    intro a
    fin_cases a
    · show (4 * (y 0).val + (y 2).val / 256) / 4 % 12 ≤ (y 0).val ∧ (y 0).val < (4 * (y 0).val + (y 2).val / 256) / 4 % 12 + 1
      omega
    · show 0 ≤ (y 1).val ∧ (y 1).val < 0 + 32
      omega
    · show 256 * ((4 * (y 0).val + (y 2).val / 256) % 4) ≤ (y 2).val ∧ (y 2).val < 256 * ((4 * (y 0).val + (y 2).val / 256) % 4) + 256
      omega

/-! ## The sum over the groups -/

/-- Entry `(r, 1024 a + q)` of the rotated block. -/
def yval (r : Fin 32) (a : Fin 12) (q : ℕ) : EReal :=
  (∑ k : Fin 12, zval x0 k.val r q * (x2 (ix2 a k) : EReal)) * Ideal.ofBits .f32 0x3C13CD3A#32

theorem hload_apply (a k : Fin 12) : (hload (F := Ideal) arg3 harg3 x2 a.val k.val) = x2 (ix2 a k) := by
  unfold hload
  refine (harg3.readAt_unread x2 _ _).trans ?_
  refine congrArg x2 (funext fun b => Fin.ext ?_)
  have ha := a.isLt
  have hk := k.isLt
  fin_cases b
  · show a.val % 12 + 1 * 0 = a.val; omega
  · show k.val % 12 + 1 * 0 = k.val; omega

theorem yterm_apply (a k : Fin 12) (j : ℕ) (hj : j < 8) (r : Fin 32) (l : Fin 128) :
    (yterm (F := Ideal) arg3 harg3 arg6 (down (zPiece (F := Ideal) arg1 harg1 x0) 48) x2 a.val j k.val (ix2 r l) : EReal)
      = zval x0 k.val r (128 * j + l.val) * (x2 (ix2 a k) : EReal) := by
  unfold yterm
  show (_ : EReal) * hload (F := Ideal) arg3 harg3 x2 a.val k.val = _
  rw [hload_apply]
  refine congrArg (fun z : EReal => z * (x2 (ix2 a k) : EReal)) ?_
  refine (shapeCast_dropUnit_apply ![32, 128] _ shapeCasts_S1x32x128_S32x128 (ix2 r l)).trans ?_
  unfold zload
  refine (congrFun (View.readCov_eq_canon' _ _ _) _).trans ((zcanon arg1 harg1 x0 _).trans ?_)
  have hk := k.isLt
  have e0 : k.val % 12 + 1 * 0 = k.val := by omega
  have e1 : 0 + 1 * r.val = r.val := by omega
  have e2 : 128 * (j % 8) + 1 * l.val = 128 * j + l.val := by omega
  show zval x0 (k.val % 12 + 1 * 0) ⟨0 + 1 * r.val, _⟩ (128 * (j % 8) + 1 * l.val) = _
  simp only [e0, e1, e2]

theorem ysum_apply (a : Fin 12) (j : ℕ) (hj : j < 8) (r : Fin 32) (l : Fin 128) : ∀ (n : ℕ) (hn : n < 12),
    (ysum (F := Ideal) arg3 harg3 arg6 (down (zPiece (F := Ideal) arg1 harg1 x0) 48) x2 a.val j n (ix2 r l) : EReal)
      = ∑ k : Fin (n + 1), zval x0 k.val r (128 * j + l.val) * (x2 (ix2 a ⟨k.val, by have := k.isLt; omega⟩) : EReal)
  | 0, hn => by
    rw [Fin.sum_univ_one]
    exact yterm_apply arg1 harg1 arg3 harg3 arg6 x0 x2 a 0 j hj r l
  | n + 1, hn => by
    rw [Fin.sum_univ_castSucc]
    show (ysum (F := Ideal) arg3 harg3 arg6 (down (zPiece (F := Ideal) arg1 harg1 x0) 48) x2 a.val j n (ix2 r l) : EReal) + _ = _
    rw [ysum_apply a j hj r l n (by omega)]
    exact congrArg (fun z : EReal => _ + z) (yterm_apply arg1 harg1 arg3 harg3 arg6 x0 x2 a ⟨n + 1, hn⟩ j hj r l)

theorem ytile_apply (n : ℕ) (hn : n < 96) (r : Fin 32) (l : Fin 128) :
    (ytile (F := Ideal) arg3 harg3 arg6 (down (zPiece (F := Ideal) arg1 harg1 x0) 48) x2 n (ix2 r l) : EReal)
      = yval x0 x2 r ⟨n % 12, by omega⟩ (128 * (n / 12) + l.val) := by
  unfold ytile yval
  show (_ : EReal) * Ideal.ofBits .f32 0x3C13CD3A#32 = _
  exact congrArg (fun z : EReal => z * Ideal.ofBits .f32 0x3C13CD3A#32) (ysum_apply arg1 harg1 arg3 harg3 arg6 x0 x2 ⟨n % 12, by omega⟩ (n / 12) (by omega) r l 11 (by norm_num))

end Body

end Cert.RotValAlone

end
-- ==== Proof.RotOutAlone.lean ====
/- What one grid point of the rotation leaves in its two output buffers, over the extended reals. -/
module

public import proofs.«01_k».proof.Proof.RotValAlone
public import proofs.«01_k».proof.Proof.Gen.RotateIdeal.Frame

@[expose] public section

set_option maxRecDepth 16384

noncomputable section

namespace Cert.RotOutAlone

open Idealize.ShloMosaic hiding ix2 ix1
open Idealize.ShloMosaic.TcCoe Idealize.ShloMosaic.Tactic Idealize.ShloMosaic.ValueIdx
open Idealize.SL Idealize.SL.Sem
open Cert.RotateIdeal Cert.RotateIdeal.Gen Cert.RotPiecesAlone Cert.RotValAlone

theorem hz2 : (![0, 0] : Fin 2 → Nat) = fun _ => 0 := funext fun a => by fin_cases a <;> rfl

/-! ## The scale's inverse -/

section Inv
variable {F : FTy → Type} [FloatOps F]
variable (c : Dev nD) (arg2 : Memref sig .tc .smem S16 .f32) (harg2 : arg2.IsWhole) (x1 : Vec F S16 .f32)

theorem inbS (k : Fin 16) : ∀ a, (![k.val] : Fin 1 → ℕ) a + S1.size a ≤ S16.size a := by
  intro a
  fin_cases a
  show k.val + 1 ≤ 16
  omega

/-- Entry `k` of the history, as the body loads it. -/
def hist (k : Fin 16) : F .f32 :=
  View.readAt (Elt F) arg2.view (Rect.unit (s := S16) ![k.val] S1.size (inbS k)).toLoadRect (harg2.unread x1)
    (Shape.Idx.first (show 0 < S1.numel by decide))

theorem hist_eq : hist arg2 harg2 x1 = fun k => x1 (ix1 k) := by
  funext k
  unfold hist
  refine (harg2.readAt_unread x1 _ _).trans ?_
  refine congrArg x1 (funext fun b => Fin.ext ?_)
  fin_cases b
  show k.val + 1 * 0 = k.val
  omega

/-- The inverse of the scale, by the history. -/
def inv : F .f32 := Scale.pow2 (Scalar.subi 0#32 (Scale.expBits (Scale.hmax fun k => x1 (ix1 k))))

theorem inv_A : kernelRun0_A.sl.r_20 c arg2 harg2 x1 = inv x1 := by
  unfold inv
  rw [← hist_eq arg2 harg2 x1]
  sl_kernel_rfl

theorem inv_B : kernelRun0_B.sl.r_20 c arg2 harg2 x1 = inv x1 := by
  unfold inv
  rw [← hist_eq arg2 harg2 x1]
  sl_kernel_rfl

end Inv

/-! ## The codes -/

/-- The code of a value. -/
def code (y inv : EReal) : EReal :=
  min (Ideal.ofBits .f32 0x43E00000#32) (max (Ideal.ofBits .f32 0xC3E00000#32) (y * inv))

section Body
variable (arg1 : Memref sig .tc .vmem S32x12288 .bf16) (harg1 : arg1.IsWhole) (arg3 : Memref sig .tc .smem S12x12 .f32) (harg3 : arg3.IsWhole)
  (arg6 : Memref sig .tc .vmem S12x32x1024 .f32) (x0 : Vec Ideal S32x12288 .bf16) (x1 : Vec Ideal S16 .f32) (x2 : Vec Ideal S12x12 .f32)

/-- The block of the codes as one function of its index. -/
def cG (i : S32x12288.Idx) : Elt Ideal .fp8e4m3 :=
  code (yval x0 x2 (i 0) ⟨(i 1).val / 1024, by have : (i 1).val < 12288 := (i 1).isLt; omega⟩ ((i 1).val % 1024)) (inv (F := Ideal) x1)

theorem yval_congr {r r' : Fin 32} {a a' : Fin 12} {q q' : ℕ} (h : r.val = r'.val) (h' : a.val = a'.val) (h'' : q = q') :
    yval x0 x2 r a q = yval x0 x2 r' a' q' := by
  obtain rfl := Fin.ext h
  obtain rfl := Fin.ext h'
  obtain rfl := h''
  rfl

theorem cPiece_apply (n : ℕ) (hn : n < 96)
    (x : (cPiece (F := Ideal) arg3 harg3 arg6 (down (zPiece arg1 harg1 x0) 48) x2 (inv x1) n).1.shape.Idx) :
    (cPiece (F := Ideal) arg3 harg3 arg6 (down (zPiece arg1 harg1 x0) 48) x2 (inv x1) n).2 x
      = cG x0 x1 x2 ((cPiece (F := Ideal) arg3 harg3 arg6 (down (zPiece arg1 harg1 x0) 48) x2 (inv x1) n).1.emb x) := by
  have hx0 : (x 0).val < 32 := (x 0).isLt
  have hx1 : (x 1).val < 128 := (x 1).isLt
  have ex : x = ix2 (⟨(x 0).val, hx0⟩ : Fin 32) (⟨(x 1).val, hx1⟩ : Fin 128) := by funext a; fin_cases a <;> rfl
  have e := ytile_apply arg1 harg1 arg3 harg3 arg6 x0 x2 n hn ⟨(x 0).val, hx0⟩ ⟨(x 1).val, hx1⟩
  rw [← ex] at e
  show code (ytile (F := Ideal) arg3 harg3 arg6 (down (zPiece arg1 harg1 x0) 48) x2 n x) (inv (F := Ideal) x1) = _
  unfold cG
  refine congrArg (fun y : EReal => code y (inv (F := Ideal) x1)) ?_
  refine e.trans (yval_congr x0 x2 ?_ ?_ ?_)
  · show (x 0).val = 0 + 1 * (x 0).val; omega
  · show n % 12 = (1024 * (n % 12) + 128 * (n / 12 % 8) + 1 * (x 1).val) / 1024; omega
  · show 128 * (n / 12) + (x 1).val = (1024 * (n % 12) + 128 * (n / 12 % 8) + 1 * (x 1).val) % 1024; omega

/-! ## The maxima -/

/-- The magnitude. -/
abbrev ab (y : EReal) : EReal := max y (-y)

theorem slice_apply (off : ℕ) (y : FVec Ideal S32x128 .f32) (h : S32x128.Slices ![off, 0] S8x128) (s : Fin 8) (l : Fin 128) (ho : off + 8 ≤ 32) :
    extractStridedSlice S8x128 ![off, 0] y h (ix2 s l) = y (ix2 ⟨off + s.val, by have := s.isLt; omega⟩ l) := by
  refine extractStridedSlice_apply ![off, 0] y h (ix2 s l) _ fun a => ?_
  fin_cases a
  · rfl
  · show l.val = 0 + l.val; omega

theorem amaxStep_le (acc : FVec Ideal S8x128 .f32) (y : FVec Ideal S32x128 .f32) (s : Fin 8) (l : Fin 128) (z : EReal) :
    (show EReal from amaxStep (F := Ideal) acc y (ix2 s l)) ≤ z ↔ (acc (ix2 s l) : EReal) ≤ z
      ∧ ∀ g : Fin 4, ab (y (ix2 ⟨8 * g.val + s.val, by have := s.isLt; have := g.isLt; omega⟩ l)) ≤ z := by
  have e : (show EReal from amaxStep (F := Ideal) acc y (ix2 s l))
      = max (max (max (max (acc (ix2 s l) : EReal) (ab (extractStridedSlice S8x128 ![0, 0] y slices_S32x128_o0_0_S8x128 (ix2 s l))))
          (ab (extractStridedSlice S8x128 ![8, 0] y slices_S32x128_o8_0_S8x128 (ix2 s l))))
          (ab (extractStridedSlice S8x128 ![16, 0] y slices_S32x128_o16_0_S8x128 (ix2 s l))))
          (ab (extractStridedSlice S8x128 ![24, 0] y slices_S32x128_o24_0_S8x128 (ix2 s l))) := rfl
  rw [e, slice_apply 0 _ _ _ _ (by norm_num), slice_apply 8 _ _ _ _ (by norm_num), slice_apply 16 _ _ _ _ (by norm_num), slice_apply 24 _ _ _ _ (by norm_num)]
  rw [max_le_iff, max_le_iff, max_le_iff, max_le_iff]
  constructor
  · rintro ⟨⟨⟨⟨h, h0⟩, h1⟩, h2⟩, h3⟩
    refine ⟨h, fun g => ?_⟩
    fin_cases g
    · exact h0
    · exact h1
    · exact h2
    · exact h3
  · rintro ⟨h, hg⟩
    exact ⟨⟨⟨⟨h, hg 0⟩, hg 1⟩, hg 2⟩, hg 3⟩

theorem amax_le (y : ℕ → FVec Ideal S32x128 .f32) (s : Fin 8) (l : Fin 128) (z : EReal) : ∀ n,
    (show EReal from amax (F := Ideal) y n (ix2 s l)) ≤ z ↔ (0 : EReal) ≤ z
      ∧ ∀ i, i < n → ∀ g : Fin 4, ab (y i (ix2 ⟨8 * g.val + s.val, by have := s.isLt; have := g.isLt; omega⟩ l)) ≤ z
  | 0 => by
    show Ideal.ofBits .f32 0x00000000#32 ≤ z ↔ _
    rw [RotValAlone.zero_word]
    exact ⟨fun h => ⟨h, fun i hi => absurd hi (Nat.not_lt_zero _)⟩, fun h => h.1⟩
  | n + 1 => by
    refine (amaxStep_le (amax y n) (y n) s l z).trans ?_
    rw [amax_le y s l z n]
    constructor
    · rintro ⟨⟨h0, h⟩, hn⟩
      refine ⟨h0, fun i hi g => ?_⟩
      rcases Nat.lt_succ_iff_lt_or_eq.mp hi with h' | rfl
      · exact h i h' g
      · exact hn g
    · rintro ⟨h0, h⟩
      exact ⟨⟨h0, fun i hi g => h i (Nat.lt_succ_of_lt hi) g⟩, fun g => h n (Nat.lt_succ_self n) g⟩

/-- The entries of the rotated block at row `s` modulo 8 and column `l` modulo 128 are at most `z` in magnitude. -/
def Below (s : Fin 8) (l : Fin 128) (z : EReal) : Prop :=
  ∀ (g : Fin 4) (a : Fin 12) (j : Fin 8), ab (yval x0 x2 ⟨8 * g.val + s.val, by have := s.isLt; have := g.isLt; omega⟩ a (128 * j.val + l.val)) ≤ z

theorem block_le (s : Fin 8) (l : Fin 128) (z : EReal) :
    (show EReal from amax (F := Ideal) (ytile arg3 harg3 arg6 (down (zPiece arg1 harg1 x0) 48) x2) 96 (ix2 s l)) ≤ z
      ↔ (0 : EReal) ≤ z ∧ Below x0 x2 s l z := by
  rw [amax_le]
  refine and_congr_right fun _ => ?_
  constructor
  · intro h g a j
    have ha := a.isLt
    have hj := j.isLt
    have e := h (12 * j.val + a.val) (by omega) g
    rw [ytile_apply arg1 harg1 arg3 harg3 arg6 x0 x2 _ (by omega)] at e
    rw [yval_congr x0 x2 rfl (a' := a) (q' := 128 * j.val + l.val) (by show (12 * j.val + a.val) % 12 = a.val; omega)
      (by rw [show (12 * j.val + a.val) / 12 = j.val by omega])] at e
    exact e
  · intro h i hi g
    rw [ytile_apply arg1 harg1 arg3 harg3 arg6 x0 x2 _ hi]
    exact h g ⟨i % 12, by omega⟩ ⟨i / 12, by omega⟩

end Body

/-! ## The two outputs of a point -/

section Out
variable (c : Dev nD) (i : grid0.Coords) (arg1 : Memref sig .tc .vmem S32x12288 .bf16) (harg1 : arg1.IsWhole)
  (arg2 : Memref sig .tc .smem S16 .f32) (harg2 : arg2.IsWhole) (arg3 : Memref sig .tc .smem S12x12 .f32) (harg3 : arg3.IsWhole)
  (arg4 : Memref sig .tc .vmem S32x12288 .fp8e4m3) (harg4 : arg4.IsWhole) (arg5 : Memref sig .tc .vmem S8x128 .f32)
  (harg5 : arg5.IsWhole) (arg6 : Memref sig .tc .vmem S12x32x1024 .f32) (harg6 : arg6.IsWhole)
  (x0 : Vec Ideal S32x12288 .bf16) (x1 : Vec Ideal S16 .f32) (x2 : Vec Ideal S12x12 .f32)

theorem out_A_3 (hc0 : cond0_0 i) (hc1 : ¬cond0_1 i) :
    out0_A_3 (F := Ideal) c i arg1 harg1 arg2 harg2 arg3 harg3 arg4 harg4 arg5 harg5 arg6 harg6 hc0 hc1 x0 x1 x2 = cG x0 x1 x2 := by
  funext y
  unfold out0_A_3
  refine View.read_writes_apply_of_pieces _ _ (cG x0 x1 x2) _ (fun p hp x => ?_) y
    (cover0_A_3 c i arg1 harg1 arg2 harg2 arg3 harg3 arg4 harg4 arg5 harg5 arg6 harg6 hc0 hc1 x0 x1 x2 y)
  rw [cPieces_A, zPieces_A, inv_A] at hp
  obtain ⟨n, hn, rfl⟩ := (mem_down _ _ _).mp hp
  exact cPiece_apply arg1 harg1 arg3 harg3 arg6 x0 x1 x2 n hn x

theorem out_B_3 (hc0 : ¬cond0_0 i) (hc1 : cond0_1 i) (xo4 : Vec Ideal S8x128 .f32) :
    out0_B_3 (F := Ideal) c i arg1 harg1 arg2 harg2 arg3 harg3 arg4 harg4 arg5 harg5 arg6 harg6 hc0 hc1 x0 x1 x2 xo4 = cG x0 x1 x2 := by
  funext y
  unfold out0_B_3
  refine View.read_writes_apply_of_pieces _ _ (cG x0 x1 x2) _ (fun p hp x => ?_) y
    (cover0_B_3 c i arg1 harg1 arg2 harg2 arg3 harg3 arg4 harg4 arg5 harg5 arg6 harg6 hc0 hc1 x0 x1 x2 xo4 y)
  rw [cPieces_B, zPieces_B, inv_B] at hp
  obtain ⟨n, hn, rfl⟩ := (mem_down _ _ _).mp hp
  exact cPiece_apply arg1 harg1 arg3 harg3 arg6 x0 x1 x2 n hn x

theorem out_A_4 (hc0 : cond0_0 i) (hc1 : ¬cond0_1 i) (s : Fin 8) (l : Fin 128) (z : EReal) :
    (show EReal from out0_A_4 (F := Ideal) c i arg1 harg1 arg2 harg2 arg3 harg3 arg4 harg4 arg5 harg5 arg6 harg6 hc0 hc1 x0 x1 x2 (ix2 s l)) ≤ z
      ↔ (0 : EReal) ≤ z ∧ Below x0 x2 s l z := by
  unfold out0_A_4
  rw [View.read_writes_eq_canon _ _ _ (cover0_A_4 c i arg1 harg1 arg2 harg2 arg3 harg3 arg4 harg4 arg5 harg5 arg6 harg6 hc0 hc1 x0 x1 x2)]
  rw [mPieces_A, zPieces_A, View.canon_unit_zero (S := S8x128) hz2]
  exact block_le arg1 harg1 arg3 harg3 arg6 x0 x2 s l z

theorem out_B_4 (hc0 : ¬cond0_0 i) (hc1 : cond0_1 i) (xo4 : Vec Ideal S8x128 .f32) (s : Fin 8) (l : Fin 128) (z : EReal) :
    (show EReal from out0_B_4 (F := Ideal) c i arg1 harg1 arg2 harg2 arg3 harg3 arg4 harg4 arg5 harg5 arg6 harg6 hc0 hc1 x0 x1 x2 xo4 (ix2 s l)) ≤ z
      ↔ (xo4 (ix2 s l) : EReal) ≤ z ∧ (0 : EReal) ≤ z ∧ Below x0 x2 s l z := by
  unfold out0_B_4
  rw [View.read_writes_eq_canon _ _ _ (cover0_B_4 c i arg1 harg1 arg2 harg2 arg3 harg3 arg4 harg4 arg5 harg5 arg6 harg6 hc0 hc1 x0 x1 x2 xo4)]
  rw [mPieces_B, zPieces_B, View.canon_unit_zero (S := S8x128) hz2]
  unfold k0_pay1
  simp only [View.readAt_eq_ld, harg5.read_unread, View.ld_unit_zero (S := S8x128) hz2, shapeCast_self]
  show max (xo4 (ix2 s l) : EReal) _ ≤ z ↔ _
  rw [max_le_iff]
  exact and_congr_right fun _ => block_le arg1 harg1 arg3 harg3 arg6 x0 x2 s l z

end Out

end Cert.RotOutAlone

end
-- ==== Proof.RotRunAlone.lean ====
/- What the rotation's run leaves in its two results, over the extended reals. -/
module

public import proofs.«01_k».proof.Proof.RotOutAlone
public import proofs.«01_k».proof.Proof.Gen.RotateIdeal.Value
public import Idealize.ShloMosaic.Lib.Tactic
public import Idealize.ShloMosaic.Lib.StableHlo.RunRead

@[expose] public section

set_option maxRecDepth 16384

noncomputable section

namespace Cert.RotRunAlone

open Idealize.ShloMosaic hiding ix2 ix1
open Idealize.ShloMosaic.TcCoe Idealize.ShloMosaic.ValueIdx
open Idealize.SL.Sem
open Idealize.ShloMosaic.Pipeline (Dat)
open Cert.RotateIdeal Cert.RotateIdeal.Gen Cert.RotateIdeal.Value Cert.RotValAlone Cert.RotOutAlone

/-- Row `R` of the rows of `x`, by column number. -/
def bigRow (X : Vec Ideal S256x12288 .bf16) (R : Fin 256) (n : ℕ) : EReal := X (ix2 R ⟨n % 12288, Nat.mod_lt _ (by norm_num)⟩)

/-- Entry `(R, 1024 a + q)` of the rotated rows, as the kernel computes it. -/
def big (X : Vec Ideal S256x12288 .bf16) (H : Vec Ideal S12x12 .f32) (R : Fin 256) (a : Fin 12) (q : ℕ) : EReal :=
  (∑ k : Fin 12, Had.kcomb (fun n => bigRow X R (1024 * k.val + n)) (q % 256) (q / 256) * (H (ix2 a k) : EReal)) * Ideal.ofBits .f32 0x3C13CD3A#32

/-- The codes of all rows. -/
def codesOf (X : Vec Ideal S256x12288 .bf16) (h : Vec Ideal S16 .f32) (H : Vec Ideal S12x12 .f32) : Vec Ideal S256x12288 .fp8e4m3 := fun i =>
  code (big X H (i 0) ⟨(i 1).val / 1024, by have : (i 1).val < 12288 := (i 1).isLt; omega⟩ ((i 1).val % 1024)) (inv (F := Ideal) h)

variable (m : (ℓ : Loc nD τ sig) → Buf (Elt Ideal) ℓ)

theorem N8 : cfg0.N = 8 := N_0

theorem idx_x : ∀ t : Fin cfg0.N, win0_0.index t 0 = t.val ∧ win0_0.index t 1 = 0 :=
  (by decide +kernel : ∀ t : Fin grid0.N, win0_0.index t 0 = t.val ∧ win0_0.index t 1 = 0)
theorem idx_c : ∀ t : Fin cfg0.N, win0_3.index t 0 = t.val ∧ win0_3.index t 1 = 0 :=
  (by decide +kernel : ∀ t : Fin grid0.N, win0_3.index t 0 = t.val ∧ win0_3.index t 1 = 0)

theorem whole_hist (c : Dev nD) (t : Fin cfg0.N) : (iblk m c 1 t : Vec Ideal S16 .f32) = m ((c : Thread nD τ).loc main_arg1) := by
  have hz : (fun a => win0_1.index t a * main_arg1.ty.shape.size a) = fun _ => 0 := by funext a; revert t a; decide +kernel
  exact (Memref.read_access_unit_zero (Elt Ideal) main_arg1 hz (fun a => by rw [congrFun hz a]; simp) (V m c main_arg1)).trans (V_main_arg1 m c)
theorem whole_had (c : Dev nD) (t : Fin cfg0.N) : (iblk m c 2 t : Vec Ideal S12x12 .f32) = m ((c : Thread nD τ).loc main_arg2) := by
  have hz : (fun a => win0_2.index t a * main_arg2.ty.shape.size a) = fun _ => 0 := by funext a; revert t a; decide +kernel
  exact (Memref.read_access_unit_zero (Elt Ideal) main_arg2 hz (fun a => by rw [congrFun hz a]; simp) (V m c main_arg2)).trans (V_main_arg2 m c)

/-- The rows that the pipeline reads: the argument with its first two axes joined. -/
abbrev rows (c : Dev nD) : Vec Ideal S256x12288 .bf16 := V m c main_v0

theorem rows_eq (c : Dev nD) : rows m c = shapeCast S256x12288 (m ((c : Thread nD τ).loc main_arg0)) shapeCasts_S2x128x12288_S256x12288 := by
  show V m c main_v0 = _
  after_reads_simp
  rfl

theorem block_x (c : Dev nD) (t : Fin cfg0.N) (r : Fin 32) (n : Fin 12288) (h : 32 * t.val + r.val < 256) :
    (iblk m c 0 t : Vec Ideal S32x12288 .bf16) (ix2 r n) = rows m c (ix2 ⟨32 * t.val + r.val, h⟩ n) := by
  obtain ⟨h0, h1⟩ := idx_x t
  unfold iblk
  rw [View.read_apply]
  show V m c main_v0 _ = V m c main_v0 _
  congr 1
  funext a
  apply Fin.ext
  match a with
  | ⟨0, _⟩ => show win0_0.index t 0 * 32 + 1 * r.val = 32 * t.val + r.val; rw [h0]; omega
  | ⟨1, _⟩ => show win0_0.index t 1 * 12288 + 1 * n.val = n.val; rw [h1]; omega

theorem yval_eq (c : Dev nD) (t : Fin cfg0.N) (H : Vec Ideal S12x12 .f32) (r : Fin 32) (R : Fin 256) (hR : R.val = 32 * t.val + r.val) (a : Fin 12) (q : ℕ) :
    yval (iblk m c 0 t) H r a q = big (rows m c) H R a q := by
  unfold yval big zval
  have e : ∀ n, row (iblk m c 0 t) r n = bigRow (rows m c) R n := by
    intro n
    unfold row bigRow
    rw [block_x m c t r _ (by have := R.isLt; omega)]
    exact congrArg (fun R : Fin 256 => rows m c (ix2 R _)) (Fin.ext hR.symm)
  simp only [e]

/-! ## The codes -/

theorem outs_1 (c : Dev nD) (t : Fin cfg0.N) : (outsAt0 m c t.val t.isLt).1 = cG (iblk m c 0 t) (iblk m c 1 t) (iblk m c 2 t) := by
  have hN := N8
  have ht := t.isLt
  by_cases h : 1 ≤ t.val
  · rw [outsAt0_B m c t (by omega) h]
    dsimp only
    exact out_B_3 ..
  · rw [outsAt0_A m c t (by omega) h]
    dsimp only
    exact out_A_3 ..

theorem final_3 (c : Dev nD) : (dats m 0 c).arrAt 3 cfg0.N = codesOf (rows m c) (m ((c : Thread nD τ).loc main_arg1)) (m ((c : Thread nD τ).loc main_arg2)) := by
  have hN := N8
  refine (dats m 0 c).arrAt_eq_of_cover 3 _ (fun t hf => ?_) fun i => ?_
  · obtain ⟨h0, h1⟩ := idx_c t
    have ht := t.isLt
    rw [flushed3, outs_1, whole_hist, whole_had]
    funext y
    have hy0 : (y 0).val < 32 := (y 0).isLt
    have hy1 : (y 1).val < 12288 := (y 1).isLt
    rw [View.read_apply]
    have e0 : ((((cfg0.win 3).blk t).view.emb y : S256x12288.Idx) 0).val = 32 * t.val + (y 0).val := by
      show win0_3.index t 0 * 32 + 1 * (y 0).val = _; rw [h0]; omega
    have e1 : ((((cfg0.win 3).blk t).view.emb y : S256x12288.Idx) 1).val = (y 1).val := by
      show win0_3.index t 1 * 12288 + 1 * (y 1).val = _; rw [h1]; omega
    show cG (iblk m c 0 t) _ _ (fun a => ⟨(y a).val, _⟩) = codesOf _ _ _ (((cfg0.win 3).blk t).view.emb y : S256x12288.Idx)
    unfold cG codesOf
    refine congrArg (fun v : EReal => code v _) ?_
    refine (yval_eq m c t _ _ _ e0 _ _).trans ?_
    simp only [e1]
  · have hi0 : (i 0).val < 256 := (i 0).isLt
    have hi1 : (i 1).val < 12288 := (i 1).isLt
    have ht : (i 0).val / 32 < cfg0.N := by omega
    refine ⟨⟨(i 0).val / 32, ht⟩, flush0_3 _, ?_⟩
    show i ∈ ((View.whole main_v1_0).slice (win0_3.rect ⟨(i 0).val / 32, ht⟩)).set
    rw [View.set_slice_whole, Rect.mem_set_unit]
    obtain ⟨h0, h1⟩ := idx_c ⟨(i 0).val / 32, ht⟩
    intro a
    match a with
    | ⟨0, _⟩ =>
      show win0_3.index ⟨(i 0).val / 32, ht⟩ 0 * 32 ≤ (i 0).val ∧ (i 0).val < win0_3.index ⟨(i 0).val / 32, ht⟩ 0 * 32 + 32
      rw [h0]; dsimp only; omega
    | ⟨1, _⟩ =>
      show win0_3.index ⟨(i 0).val / 32, ht⟩ 1 * 12288 ≤ (i 1).val ∧ (i 1).val < win0_3.index ⟨(i 0).val / 32, ht⟩ 1 * 12288 + 12288
      rw [h1]; omega

/-! ## The maxima -/

theorem outs_2 (c : Dev nD) (s : Fin 8) (l : Fin 128) (z : EReal) : ∀ (n : ℕ) (h : n < cfg0.N),
    (show EReal from (outsAt0 m c n h).2 (ix2 s l)) ≤ z ↔ (0 : EReal) ≤ z ∧ ∀ (t : Fin cfg0.N), t.val ≤ n → Below (iblk m c 0 t) (iblk m c 2 t) s l z
  | 0, h => by
    have e := congrArg (fun p => p.2) (outsAt0_A m c ⟨0, h⟩ rfl (by norm_num))
    dsimp only at e
    rw [e]
    refine (out_A_4 ..).trans (and_congr_right fun _ => ?_)
    constructor
    · intro hb t ht
      obtain rfl : t = ⟨0, h⟩ := Fin.ext (Nat.le_zero.mp ht)
      exact hb
    · intro hb
      exact hb ⟨0, h⟩ le_rfl
  | n + 1, h => by
    have hN := N8
    have e := congrArg (fun p => p.2) (outsAt0_B m c ⟨n + 1, h⟩ (by dsimp only; omega) (by dsimp only; omega))
    dsimp only at e
    rw [e]
    refine (out_B_4 ..).trans ?_
    have ih := outs_2 c s l z n (by omega)
    constructor
    · rintro ⟨h1, h0, hb⟩
      refine ⟨h0, fun t ht => ?_⟩
      rcases Nat.lt_or_eq_of_le ht with h' | h'
      · exact (ih.mp h1).2 t (by omega)
      · obtain rfl : t = ⟨n + 1, h⟩ := Fin.ext h'
        exact hb
    · rintro ⟨h0, hb⟩
      exact ⟨ih.mpr ⟨h0, fun t ht => hb t (by omega)⟩, h0, hb ⟨n + 1, h⟩ le_rfl⟩

abbrev last : Fin cfg0.N := ⟨7, by rw [N8]; norm_num⟩

theorem off4 (t : Fin cfg0.N) : (fun a => win0_4.index t a * main_v1_1.ty.shape.size a) = fun _ => 0 := by
  funext a; revert t a; decide +kernel

theorem final_4 (c : Dev nD) : (dats m 0 c).arrAt 4 cfg0.N = (outsAt0 m c 7 last.isLt).2 := by
  have hN := N8
  refine (dats m 0 c).arrAt_eq_of_cover 4 _ (fun t hf => ?_) fun i => ⟨last, (flush0_4 last).mpr rfl, ?_⟩
  · have := (flush0_4 t).mp hf
    have := t.isLt
    obtain rfl : t = last := Fin.ext (by show t.val = 7; omega)
    rw [flushed4]
    exact (Memref.read_access_unit_zero (Elt Ideal) main_v1_1 (off4 last) (fun a => by rw [congrFun (off4 last) a]; simp) _).symm
  · show i ∈ ((View.whole main_v1_1).slice (win0_4.rect last)).set
    rw [View.set_slice_whole, Rect.mem_set_unit]
    intro a
    have h0 := congrFun (off4 last) a
    have h1 := (i a).isLt
    refine ⟨?_, ?_⟩
    · exact le_trans (le_of_eq h0) (Nat.zero_le _)
    · exact lt_of_lt_of_eq (lt_of_lt_of_eq h1 (Nat.zero_add _).symm) (congrArg (· + main_v1_1.ty.shape.size a) h0.symm)

/-- Entry `(s, l)` of the tile of maxima is the greatest magnitude over the rows `s` modulo 8 and the columns `l` modulo 128. -/
theorem tile_le (c : Dev nD) (s : Fin 8) (l : Fin 128) (z : EReal) :
    (show EReal from (outsAt0 m c 7 last.isLt).2 (ix2 s l)) ≤ z ↔
      ∀ (g : Fin 32) (a : Fin 12) (j : Fin 8), ab (big (rows m c) (m ((c : Thread nD τ).loc main_arg2)) ⟨8 * g.val + s.val, by have := s.isLt; have := g.isLt; omega⟩ a (128 * j.val + l.val)) ≤ z := by
  have hN := N8
  rw [outs_2]
  constructor
  · rintro ⟨-, h⟩ g a j
    have hg := g.isLt
    have hs := s.isLt
    have e := h ⟨g.val / 4, by omega⟩ (by dsimp only; omega) ⟨g.val % 4, by omega⟩ a j
    rw [whole_had] at e
    rw [yval_eq m c ⟨g.val / 4, by omega⟩ _ _ ⟨8 * g.val + s.val, by omega⟩ (by dsimp only; omega)] at e
    exact e
  · intro h
    refine ⟨?_, fun t ht g a j => ?_⟩
    · refine le_trans ?_ (h 0 0 0)
      rcases le_total (0 : EReal) (big (rows m c) (m ((c : Thread nD τ).loc main_arg2)) ⟨8 * (0 : Fin 32).val + s.val, by have := s.isLt; omega⟩ 0 (128 * (0 : Fin 8).val + l.val)) with h' | h'
      · exact le_trans h' (le_max_left _ _)
      · exact le_trans (EReal.neg_nonneg.mpr h') (le_max_right _ _)
    · have hg := g.isLt
      have hs := s.isLt
      have ht' := t.isLt
      rw [whole_had]
      rw [yval_eq m c t _ _ ⟨8 * (4 * t.val + g.val) + s.val, by omega⟩ (by dsimp only; omega)]
      exact h ⟨4 * t.val + g.val, by omega⟩ a j

end Cert.RotRunAlone

end
-- ==== Proof.RotRefAlone.lean ====
/- What the rotation's reference computes, entry by entry, over the extended reals. -/
module

public import proofs.«01_k».proof.Proof.Had
public import proofs.«01_k».proof.Proof.MaxLaws
public import proofs.«01_k».proof.Proof.Gen.RotateReferenceIdeal.Run
public import Idealize.ShloMosaic.Lib.ValueIdxCore
public import Idealize.ShloMosaic.Lib.ValueLayout
public import Idealize.ShloMosaic.Lib.StackMember
public import Idealize.ShloMosaic.Lib.Pipeline.Value

@[expose] public section

set_option maxRecDepth 16384

noncomputable section

namespace Cert.RotRefAlone

open Idealize.ShloMosaic
open Idealize.ShloMosaic.TcCoe Idealize.ShloMosaic.ValueIdx
open Cert.RotateReferenceIdeal Cert.RotateReferenceIdeal.Gen

/-! ## The matrix of order 32 -/

section Term
variable {F : FTy → Type} [FloatOps F]

/-- The Hadamard matrix of order 32. -/
def H32 : FVec F S32x32 .f32 :=
  sitofp .f32 (subi (broadcastInDim S32x32 ![] bcast_S_S32x32 (constantI S_ 32 1#32)) (muli (broadcastInDim S32x32 ![] bcast_S_S32x32 (constantI S_ 32 2#32)) (andi (ctpop (andi (iotaInDim S32x32 32 0) (iotaInDim S32x32 32 1))) (broadcastInDim S32x32 ![] bcast_S_S32x32 (constantI S_ 32 1#32)))))

/-- The step along the places of low order. -/
def stepLow (x : FVec F S256x12x32x32 .bf16) : FVec F S256x12x32x32 .f32 :=
  Host.dotGeneral dot_S256x12x32x32_S32x32_S256x12x32x32_3_1_012_0_n_n none x (truncf .bf16 (H32 (F := F)) bitsLt_bf16_f32)
/-- The step along the places of high order. -/
def stepHigh (z : FVec F S256x12x32x32 .f32) : FVec F S256x12x32x32 .f32 :=
  transpose S256x12x32x32 [1, 2, 0, 3] (Host.dotGeneral dot_S32x32_S256x12x32x32_S32x256x12x32_1_2_0_013_n_n (some .fp32) (H32 (F := F)) z) transposes_S32x256x12x32_S256x12x32x32_1_2_0_3
/-- The step over the groups. -/
def stepGroup (had : FVec F S12x12 .f32) (z : FVec F S256x12x32x32 .f32) : FVec F S256x12x32x32 .f32 :=
  transpose S256x12x32x32 [1, 0, 2, 3] (Host.dotGeneral dot_S12x12_S256x12x32x32_S12x256x32x32_1_1_0_023_n_n (some .fp32) had z) transposes_S12x256x32x32_S256x12x32x32_1_0_2_3
/-- The rotated rows. -/
def rot (x : FVec F S2x128x12288 .bf16) (had : FVec F S12x12 .f32) : FVec F S256x12288 .f32 :=
  shapeCast S256x12288 (mulf (stepGroup had (stepHigh (stepLow (shapeCast S256x12x32x32 x shapeCasts_S2x128x12288_S256x12x32x32)))) (broadcastInDim S256x12x32x32 ![] bcast_S_S256x12x32x32 (constant S_ .f32 0x3C13CD3A#32))) shapeCasts_S256x12x32x32_S256x12288

end Term

/-- The word of an entry, from the conjunction of its row and column: one minus twice the parity. -/
def word (v : BitVec 32) : BitVec 32 := IntOp.subi 1#32 (IntOp.muli 2#32 (IntOp.andi (IntOp.ctpop v) 1#32))

theorem word_eq : ∀ v : Fin 32, (word (BitVec.ofNat 32 v.val)).toInt = Had.sg 5 v.val := by decide +kernel

theorem had32 (p q : Fin 32) : (H32 (F := Ideal) (ix2 p q) : EReal) = Had.se 5 (p.val &&& q.val) := by
  have e : (H32 (F := Ideal) (ix2 p q) : EReal)
      = ((((word (IntOp.andi (BitVec.ofNat 32 p.val) (BitVec.ofNat 32 q.val))).toInt : ℤ) : ℝ) : EReal) := rfl
  have hb : IntOp.andi (BitVec.ofNat 32 p.val) (BitVec.ofNat 32 q.val) = BitVec.ofNat 32 (p.val &&& q.val) := by
    unfold IntOp.andi
    exact (BitVec.ofNat_and ..).symm
  have hlt : p.val &&& q.val < 32 := lt_of_le_of_lt Nat.and_le_left p.isLt
  rw [e, hb]
  have := word_eq ⟨p.val &&& q.val, hlt⟩
  dsimp only at this
  rw [this]
  rfl

/-! ## The three steps -/

theorem stepLow_apply (x : FVec Ideal S256x12x32x32 .bf16) (t : Fin 256) (k : Fin 12) (i q : Fin 32) :
    (stepLow x (ix4 t k i q) : EReal) = ∑ j : Fin 32, (x (ix4 t k i j) : EReal) * Had.se 5 (q.val &&& j.val) := by
  unfold stepLow
  simp only [Host.dotGeneral]
  rw [Ideal.dotGeneral_apply, ← Equiv.sum_comp (contrEquiv1 dot_S256x12x32x32_S32x32_S256x12x32x32_3_1_012_0_n_n 32 rfl rfl).symm]
  refine Finset.sum_congr rfl fun j _ => ?_
  have c4 := contrEquiv1_symm_val dot_S256x12x32x32_S32x32_S256x12x32x32_3_1_012_0_n_n 32 rfl rfl j
  have l4 : dot_S256x12x32x32_S32x32_S256x12x32x32_3_1_012_0_n_n.lhsIdx (ix4 t k i q) ((contrEquiv1 _ 32 rfl rfl).symm j) = ix4 t k i j := by
    funext ax; apply Fin.ext
    match ax with
    | ⟨0, _⟩ => rfl
    | ⟨1, _⟩ => rfl
    | ⟨2, _⟩ => rfl
    | ⟨3, _⟩ => exact c4
  have r4 : dot_S256x12x32x32_S32x32_S256x12x32x32_3_1_012_0_n_n.rhsIdx (ix4 t k i q) ((contrEquiv1 _ 32 rfl rfl).symm j) = ix2 q j := by
    funext ax; apply Fin.ext
    match ax with
    | ⟨0, _⟩ => rfl
    | ⟨1, _⟩ => exact c4
  rw [l4, r4, ← had32 q j]
  rfl

theorem stepHigh_apply (z : FVec Ideal S256x12x32x32 .f32) (t : Fin 256) (k : Fin 12) (r q : Fin 32) :
    (stepHigh z (ix4 t k r q) : EReal) = ∑ i : Fin 32, Had.se 5 (r.val &&& i.val) * (z (ix4 t k i q) : EReal) := by
  unfold stepHigh
  rw [transpose_apply [1, 2, 0, 3] _ transposes_S32x256x12x32_S256x12x32x32_1_2_0_3 (ix4 t k r q) (ix4 r t k q) (fun b => by fin_cases b <;> rfl)]
  simp only [Host.dotGeneral]
  rw [Ideal.dotGeneral_apply, ← Equiv.sum_comp (contrEquiv1 dot_S32x32_S256x12x32x32_S32x256x12x32_1_2_0_013_n_n 32 rfl rfl).symm]
  refine Finset.sum_congr rfl fun i _ => ?_
  have c4 := contrEquiv1_symm_val dot_S32x32_S256x12x32x32_S32x256x12x32_1_2_0_013_n_n 32 rfl rfl i
  have l4 : dot_S32x32_S256x12x32x32_S32x256x12x32_1_2_0_013_n_n.lhsIdx (ix4 r t k q) ((contrEquiv1 _ 32 rfl rfl).symm i) = ix2 r i := by
    funext ax; apply Fin.ext
    match ax with
    | ⟨0, _⟩ => rfl
    | ⟨1, _⟩ => exact c4
  have r4 : dot_S32x32_S256x12x32x32_S32x256x12x32_1_2_0_013_n_n.rhsIdx (ix4 r t k q) ((contrEquiv1 _ 32 rfl rfl).symm i) = ix4 t k i q := by
    funext ax; apply Fin.ext
    match ax with
    | ⟨0, _⟩ => rfl
    | ⟨1, _⟩ => rfl
    | ⟨2, _⟩ => exact c4
    | ⟨3, _⟩ => rfl
  rw [l4, r4, had32]

theorem stepGroup_apply (had : FVec Ideal S12x12 .f32) (z : FVec Ideal S256x12x32x32 .f32) (t : Fin 256) (a : Fin 12) (r q : Fin 32) :
    (stepGroup had z (ix4 t a r q) : EReal) = ∑ k : Fin 12, (had (ix2 a k) : EReal) * (z (ix4 t k r q) : EReal) := by
  unfold stepGroup
  rw [transpose_apply [1, 0, 2, 3] _ transposes_S12x256x32x32_S256x12x32x32_1_0_2_3 (ix4 t a r q) (ix4 a t r q) (fun b => by fin_cases b <;> rfl)]
  simp only [Host.dotGeneral]
  rw [Ideal.dotGeneral_apply, ← Equiv.sum_comp (contrEquiv1 dot_S12x12_S256x12x32x32_S12x256x32x32_1_1_0_023_n_n 12 rfl rfl).symm]
  refine Finset.sum_congr rfl fun k _ => ?_
  have c4 := contrEquiv1_symm_val dot_S12x12_S256x12x32x32_S12x256x32x32_1_1_0_023_n_n 12 rfl rfl k
  have l4 : dot_S12x12_S256x12x32x32_S12x256x32x32_1_1_0_023_n_n.lhsIdx (ix4 a t r q) ((contrEquiv1 _ 12 rfl rfl).symm k) = ix2 a k := by
    funext ax; apply Fin.ext
    match ax with
    | ⟨0, _⟩ => rfl
    | ⟨1, _⟩ => exact c4
  have r4 : dot_S12x12_S256x12x32x32_S12x256x32x32_1_1_0_023_n_n.rhsIdx (ix4 a t r q) ((contrEquiv1 _ 12 rfl rfl).symm k) = ix4 t k r q := by
    funext ax; apply Fin.ext
    match ax with
    | ⟨0, _⟩ => rfl
    | ⟨1, _⟩ => exact c4
    | ⟨2, _⟩ => rfl
    | ⟨3, _⟩ => rfl
  rw [l4, r4]

/-! ## The rotated rows -/

/-- The argument as rows. -/
abbrev flat (x : FVec Ideal S2x128x12288 .bf16) (h : S2x128x12288.ShapeCasts S256x12288) : FVec Ideal S256x12288 .bf16 := shapeCast S256x12288 x h

theorem split_apply (x : FVec Ideal S2x128x12288 .bf16) (h : S2x128x12288.ShapeCasts S256x12288) (t : Fin 256) (k : Fin 12) (i j : Fin 32) (n : Fin 12288)
    (hn : n.val = 1024 * k.val + 32 * i.val + j.val) :
    shapeCast S256x12x32x32 x shapeCasts_S2x128x12288_S256x12x32x32 (ix4 t k i j) = flat x h (ix2 t n) := by
  show _ = x (Shape.reshapeEquiv h (ix2 t n))
  refine shapeCast_apply x _ _ _ ?_
  rw [Shape.rowMajor_reshapeEquiv, Shape.rowMajor_val_two, Shape.rowMajor_val_four]
  show t.val * 12288 + n.val = ((t.val * 12 + k.val) * 32 + i.val) * 32 + j.val
  omega

theorem rot_apply (x : FVec Ideal S2x128x12288 .bf16) (had : FVec Ideal S12x12 .f32) (xr : Fin 256 → ℕ → ℝ) (h : S2x128x12288.ShapeCasts S256x12288)
    (hx : ∀ (t : Fin 256) (n : Fin 12288), (flat x h (ix2 t n) : EReal) = (xr t n.val : EReal))
    (t : Fin 256) (n : Fin 12288) (a : Fin 12) (q : ℕ) (hq : q < 1024) (hn : n.val = 1024 * a.val + q) :
    (rot x had (ix2 t n) : EReal)
      = (∑ k : Fin 12, (had (ix2 a k) : EReal) * (Had.T (fun p => xr t (1024 * k.val + p)) q : EReal)) * Ideal.ofBits .f32 0x3C13CD3A#32 := by
  unfold rot
  have hr : q / 32 < 32 := by omega
  have hs : q % 32 < 32 := by omega
  refine (shapeCast_apply _ _ (ix2 t n) (ix4 t a ⟨q / 32, hr⟩ ⟨q % 32, hs⟩) ?_).trans ?_
  · rw [Shape.rowMajor_val_two, Shape.rowMajor_val_four]
    show ((t.val * 12 + a.val) * 32 + q / 32) * 32 + q % 32 = t.val * 12288 + n.val
    omega
  show (_ : EReal) * Ideal.ofBits .f32 0x3C13CD3A#32 = _
  refine congrArg (fun v : EReal => v * Ideal.ofBits .f32 0x3C13CD3A#32) ?_
  refine (stepGroup_apply had _ t a _ _).trans (Finset.sum_congr rfl fun k _ => congrArg (fun v : EReal => (had (ix2 a k) : EReal) * v) ?_)
  rw [stepHigh_apply]
  have e := Had.two_step (fun p => xr t (1024 * k.val + p)) (q / 32) (q % 32) hs
  rw [show 32 * (q / 32) + q % 32 = q by omega] at e
  rw [← e]
  refine Finset.sum_congr rfl fun i _ => congrArg (fun v : EReal => Had.se 5 (q / 32 &&& i.val) * v) ?_
  refine (stepLow_apply _ t k i _).trans (Finset.sum_congr rfl fun j _ => congrArg (fun v : EReal => v * Had.se 5 (q % 32 &&& j.val)) ?_)
  have hb : 1024 * k.val + 32 * i.val + j.val < 12288 := by have := k.isLt; have := i.isLt; have := j.isLt; omega
  rw [split_apply x h t k i j ⟨_, hb⟩ rfl, hx]
  exact congrArg (fun p : ℕ => (xr t p : EReal)) (Nat.add_assoc _ _ _)

/-! ## The tile of maxima -/

theorem tile_le (y : FVec Ideal S256x12288 .f32) (s : Fin 8) (l : Fin 128) (z : EReal) :
    (show EReal from (Host.reduce FloatOps.maximumf (shapeCast S32x8x96x128 (Host.absf y) shapeCasts_S256x12288_S32x8x96x128) (constant (F := Ideal) S_ .f32 0xFF800000#32) reducesTo_S32x8x96x128_S8x128_d0_2 h_S_ (ix2 s l) : Ideal .f32)) ≤ z
      ↔ ∀ (g : Fin 32) (w : Fin 96), (max (y (ix2 ⟨8 * g.val + s.val, by have := s.isLt; have := g.isLt; omega⟩ ⟨128 * w.val + l.val, by have := w.isLt; have := l.isLt; omega⟩) : EReal)
          (-(y (ix2 ⟨8 * g.val + s.val, by have := s.isLt; have := g.isLt; omega⟩ ⟨128 * w.val + l.val, by have := w.isLt; have := l.isLt; omega⟩) : EReal))) ≤ z := by
  refine (MaxLaws.host_le _ _ _ (ix2 s l) z).trans ?_
  have key : ∀ (g : Fin 32) (s : Fin 8) (w : Fin 96) (l : Fin 128),
      (shapeCast S32x8x96x128 (Host.absf y) shapeCasts_S256x12288_S32x8x96x128 (ix4 g s w l) : EReal)
        = max (y (ix2 ⟨8 * g.val + s.val, by have := s.isLt; have := g.isLt; omega⟩ ⟨128 * w.val + l.val, by have := w.isLt; have := l.isLt; omega⟩) : EReal)
          (-(y (ix2 ⟨8 * g.val + s.val, by have := s.isLt; have := g.isLt; omega⟩ ⟨128 * w.val + l.val, by have := w.isLt; have := l.isLt; omega⟩) : EReal)) := by
    intro g s w l
    have hs := s.isLt
    have hg := g.isLt
    have hw := w.isLt
    have hl := l.isLt
    refine (shapeCast_apply (Host.absf y) _ (ix4 g s w l) (ix2 ⟨8 * g.val + s.val, by omega⟩ ⟨128 * w.val + l.val, by omega⟩) ?_).trans rfl
    rw [Shape.rowMajor_val_two, Shape.rowMajor_val_four]
    show (8 * g.val + s.val) * 12288 + (128 * w.val + l.val) = ((g.val * 8 + s.val) * 96 + w.val) * 128 + l.val
    omega
  constructor
  · intro hh g w
    rw [← key]
    refine hh (ix4 g s w l) (funext fun a => Fin.ext ?_)
    rw [Shape.ReducesTo.drop_apply_val]
    fin_cases a <;> rfl
  · intro hh i hi
    rw [eq_ix4 i]
    have h0 : ((Shape.ReducesTo.drop reducesTo_S32x8x96x128_S8x128_d0_2 i) 0 : Nat) = (i 1).val := Shape.ReducesTo.drop_apply_val reducesTo_S32x8x96x128_S8x128_d0_2 i 0
    have h1 : ((Shape.ReducesTo.drop reducesTo_S32x8x96x128_S8x128_d0_2 i) 1 : Nat) = (i 3).val := Shape.ReducesTo.drop_apply_val reducesTo_S32x8x96x128_S8x128_d0_2 i 1
    rw [hi] at h0 h1
    have e0 : i 1 = s := Fin.ext h0.symm
    have e1 : i 3 = l := Fin.ext h1.symm
    rw [e0, e1]
    exact le_of_eq_of_le (key (i 0) s (i 2) l) (hh (i 0) (i 2))

end Cert.RotRefAlone

end
-- ==== Proof.RotClaimsAlone.lean ====
/- The rotation's claims, one theorem each. -/
module

public import proofs.«01_k».proof.Defs
public import proofs.«01_k».proof.Proof.Gen.Rotate
public import proofs.«01_k».proof.Proof.Gen.Rotate.Frame
public import proofs.«01_k».proof.Proof.Gen.Pre_x_finite_history_f32
public import proofs.«01_k».proof.Proof.AlgebraAlone
public import proofs.«01_k».proof.Proof.RotRunAlone
public import proofs.«01_k».proof.Proof.RotRefAlone
public import Idealize.ShloMosaic.Adequacy
public import Idealize.ShloMosaic.Init

@[expose] public section

set_option maxRecDepth 16384

noncomputable section

namespace Cert.RotClaimsAlone

open Idealize.ShloMosaic hiding ix2 ix1 ix0 eq_ix2
open Idealize.ShloMosaic.TcCoe Idealize.SL.Sem Idealize.ShloMosaic.ValueIdx
open Cert.RotateIdeal Cert.RotOutAlone Cert.RotRunAlone

/-- The printed rotation runs, ends with its arguments unchanged and its semaphores at zero. -/
theorem frame_kernel : Cert.quiescent_Rotate := fun m ρ _ => Cert.Rotate.Gen.frame m ρ
/-- So does the rotation over the extended reals. -/
theorem frame_ideal : Cert.quiescent_RotateIdeal := fun m ρ _ => Cert.RotateIdeal.Gen.frame m ρ
/-- The same, from memories that meet the precondition. -/
theorem frame_ideal_pre : Cert.quiescent_RotateIdeal_pre_x_finite_history_f32 := fun m ρ _ => Cert.RotateIdeal.Gen.frame m ρ
/-- The rotation's reference runs and ends with its arguments unchanged; it has no semaphores. -/
theorem frame_reference : Cert.quiescent_RotateReferenceIdeal := fun m ρ _ =>
  (θ_run Cert.RotateReferenceIdeal.defs _ _).mono (fun r h => ⟨fun c => (h c).2.2, sem_eq_zero_of_no_sems (by decide) r.2⟩)
    (Cert.RotateReferenceIdeal.Value.run (F := Ideal) m ρ)
/-- The same, from memories that meet the precondition. -/
theorem frame_reference_pre : Cert.quiescent_RotateReferenceIdeal_pre_x_finite_history_f32 := fun m ρ _ =>
  frame_reference m ρ trivial

/-- The idealization rewrites nothing. -/
theorem preserves : Cert.preserves_Rotate_RotateIdeal := trivial

/-! ## The precondition -/

/-- The precondition says of each entry of `x` that its magnitude is at most the greatest float. -/
theorem x_bound (x : FVec Ideal Cert.Pre_x_finite_history_f32.S2x128x12288 .bf16) (h : FVec Ideal Cert.Pre_x_finite_history_f32.S16 .f32) (w : FVec Ideal Cert.Pre_x_finite_history_f32.S12x12 .f32)
    (e : (Cert.Pre_x_finite_history_f32.fn (F := Ideal) x h w).1 = fun _ => 1#1) (i : Cert.Pre_x_finite_history_f32.S2x128x12288.Idx) :
    (max (x i : EReal) (-(x i : EReal))) ≤ Ideal.ofBits .f32 0x7F7FFFFF#32 := by
  have e' : Ideal.cmp .ole (max (x i : EReal) (-(x i : EReal))) (Ideal.ofBits .f32 0x7F7FFFFF#32) = 1#1 := congrFun e i
  by_contra hc
  simp [Ideal.cmp, hc] at e'

/-- And the same of each history entry. -/
theorem history_bound (x : FVec Ideal Cert.Pre_x_finite_history_f32.S2x128x12288 .bf16) (h : FVec Ideal Cert.Pre_x_finite_history_f32.S16 .f32) (w : FVec Ideal Cert.Pre_x_finite_history_f32.S12x12 .f32)
    (e : (Cert.Pre_x_finite_history_f32.fn (F := Ideal) x h w).2 = fun _ => 1#1) (k : Fin 16) :
    (max (h (ix1 k) : EReal) (-(h (ix1 k) : EReal))) ≤ Ideal.ofBits .f32 0x7F7FFFFF#32 := by
  have e' : Ideal.cmp .ole (max (h (ix1 k) : EReal) (-(h (ix1 k) : EReal))) (Ideal.ofBits .f32 0x7F7FFFFF#32) = 1#1 := congrFun e (ix1 k)
  by_contra hc
  simp [Ideal.cmp, hc] at e'

/-- A value of bounded magnitude is a real number. -/
theorem real_of_bound (v : EReal) (h : max v (-v) ≤ Ideal.ofBits .f32 0x7F7FFFFF#32) : v = (v.toReal : EReal) := by
  have hf : Ideal.ofBits .f32 0x7F7FFFFF#32 = ((16777215 * (2 : ℝ) ^ (104 : ℤ) : ℝ) : EReal) := by
    rw [Scale.ofBits_normal _ 254 8388607 (by decide) (by decide) (by decide) (by norm_num) (by norm_num)]
    norm_num
  rw [hf] at h
  obtain ⟨h1, h2⟩ := max_le_iff.mp h
  refine (EReal.coe_toReal ?_ ?_).symm
  · rintro rfl
    exact absurd h1 (not_le.mpr (EReal.coe_lt_top _))
  · rintro rfl
    rw [EReal.neg_bot] at h2
    exact absurd h2 (not_le.mpr (EReal.coe_lt_top _))

/-! ## The equation -/

/-- For a finite argument the reference's rotated rows are the kernel's. -/
theorem rot_eq (x : Vec Ideal S2x128x12288 .bf16) (had : Vec Ideal S12x12 .f32) (h : S2x128x12288.ShapeCasts S256x12288)
    (hx : ∀ i, (x i : EReal) = (((x i : EReal).toReal : ℝ) : EReal)) (R : Fin 256) (n : Fin 12288) (a : Fin 12) (q : ℕ) (hq : q < 1024) (hn : n.val = 1024 * a.val + q) :
    (RotRefAlone.rot (F := Ideal) x had (ix2 R n) : EReal) = big (shapeCast S256x12288 x h) had R a q := by
  let xr : Fin 256 → ℕ → ℝ := fun R n => (bigRow (shapeCast S256x12288 x h) R n).toReal
  have hr : ∀ (R : Fin 256) (n : ℕ), bigRow (shapeCast S256x12288 x h) R n = (xr R n : EReal) := fun R n => hx _
  rw [RotRefAlone.rot_apply x had xr h (fun t n => ?_) R n a q hq hn]
  · unfold big
    refine congrArg (fun v : EReal => v * Ideal.ofBits .f32 0x3C13CD3A#32) (Finset.sum_congr rfl fun k _ => ?_)
    rw [show (fun n => bigRow (shapeCast S256x12288 x h) R (1024 * k.val + n)) = fun n => (xr R (1024 * k.val + n) : EReal) from funext fun n => hr R _,
      Had.kcomb_eq (fun n => xr R (1024 * k.val + n)) (q / 256) (q % 256) (by omega) (by omega), show 256 * (q / 256) + q % 256 = q by omega]
    exact mul_comm _ _
  · rw [← hr]
    unfold bigRow
    have e : (⟨n.val % 12288, Nat.mod_lt _ (by norm_num)⟩ : Fin 12288) = n := Fin.ext (Nat.mod_eq_of_lt n.isLt)
    exact congrArg (fun p : Fin 12288 => (shapeCast S256x12288 x h (ix2 t p) : EReal)) e.symm

/-- The reference's reciprocal of the scale is the kernel's. -/
theorem inv_eq (h : FVec Ideal Cert.ProjectReferenceIdeal.S16 .f32) (hb : ∀ k : Fin 16, (max (h (ix1 k) : EReal) (-(h (ix1 k) : EReal))) ≤ Ideal.ofBits .f32 0x7F7FFFFF#32) :
    Ideal.div (Ideal.ofBits .f32 0x3F800000#32) (Cert.ProjectReferenceIdeal.Value.rscale (F := Ideal) (Cert.ProjectReferenceIdeal.Value.rbelow (Cert.ProjectReferenceIdeal.Value.rmag h)) ix0 : EReal)
      = (RotOutAlone.inv (F := Ideal) h : EReal) := by
  unfold RotOutAlone.inv
  rw [Scale.inv_scale_eq, AlgebraAlone.scale_eq _ _ (AlgebraAlone.below_eq _), AlgebraAlone.mag_eq, AlgebraAlone.f32_one]
  · rfl
  · refine Scale.mag_lt _ ((MaxLaws.hmax_le _ _).mpr fun k => (max_le_iff.mp (hb k)).1) ?_
    refine le_trans ?_ ((MaxLaws.hmax_le (fun k => h (ix1 k)) _).mp le_rfl 0)
    exact EReal.neg_le.mp (max_le_iff.mp (hb 0)).2

/-- The reference's codes. -/
def refCodes (y : FVec Ideal Cert.RotateReferenceIdeal.S256x12288 .f32) (s : EReal) : FVec Ideal Cert.RotateReferenceIdeal.S256x12288 .fp8e4m3 := fun i =>
  code (y i) (Ideal.div (Ideal.ofBits .f32 0x3F800000#32) s)

/-- Over the extended reals the rotation's codes and its tile of maxima are the reference's. -/
theorem algebraic : Cert.algebraic_RotateIdeal_RotateReferenceIdeal_pre_x_finite_history_f32 := by
  intro m ρ m' ρ' hpre hagree
  refine ⟨_, _, Cert.RotateIdeal.Value.run_blocks (F := Ideal) m ρ, ?_⟩
  refine (θ_run Cert.RotateReferenceIdeal.defs _ _).mono (fun r h c => ?_) (Cert.RotateReferenceIdeal.Value.run (F := Ideal) m' ρ')
  obtain ⟨h0, h1, hk⟩ := h c
  obtain ⟨a0, a1, a2⟩ := hagree c
  obtain ⟨p0, p1⟩ := hpre c
  have hx := fun i => real_of_bound _ (x_bound _ _ _ p0 i)
  have hi := inv_eq _ (history_bound _ _ _ p1)
  refine ⟨h0.trans ?_, h1.trans ?_, hk⟩
  · rw [final_3, rows_eq, a0, a1, a2]
    funext i
    obtain ⟨R, n, rfl⟩ : ∃ R n, i = ix2 R n := ⟨i 0, i 1, eq_ix2 i⟩
    have hn : n.val < 12288 := n.isLt
    have e := rot_eq (m ((c : Thread nD τ).loc main_arg0)) (m ((c : Thread nD τ).loc main_arg2)) Cert.RotateIdeal.Gen.shapeCasts_S2x128x12288_S256x12288 hx R n ⟨n.val / 1024, by omega⟩ (n.val % 1024) (by omega) (by simp only; omega)
    refine Eq.trans (b := code (RotRefAlone.rot (F := Ideal) (m ((c : Thread nD τ).loc main_arg0)) (m ((c : Thread nD τ).loc main_arg2)) (ix2 R n)) (Ideal.div (Ideal.ofBits .f32 0x3F800000#32) (Cert.ProjectReferenceIdeal.Value.rscale (F := Ideal) (Cert.ProjectReferenceIdeal.Value.rbelow (Cert.ProjectReferenceIdeal.Value.rmag (m ((c : Thread nD τ).loc main_arg1)))) ix0))) ?_ ?_
    · rfl
    · rw [hi, e]
      rfl
  · rw [final_4, a0, a2]
    funext i
    obtain ⟨s, l, rfl⟩ : ∃ s l, i = ix2 s l := ⟨i 0, i 1, eq_ix2 i⟩
    refine MaxLaws.eq_of_le fun z => (RotRefAlone.tile_le (RotRefAlone.rot (F := Ideal) (m ((c : Thread nD τ).loc main_arg0)) (m ((c : Thread nD τ).loc main_arg2))) s l z).trans (Iff.trans ?_ (tile_le m c s l z).symm)
    rw [rows_eq]
    have hl := l.isLt
    have e := fun (R : Fin 256) (n : Fin 12288) (a : Fin 12) (q : ℕ) => rot_eq (m ((c : Thread nD τ).loc main_arg0)) (m ((c : Thread nD τ).loc main_arg2)) Cert.RotateIdeal.Gen.shapeCasts_S2x128x12288_S256x12288 hx R n a q
    constructor
    · intro hh g a j
      have ha := a.isLt
      have hj := j.isLt
      have := hh g ⟨8 * a.val + j.val, by omega⟩
      rw [e _ _ a (128 * j.val + l.val) (by omega) (by simp only; omega)] at this
      exact this
    · intro hh g w
      have hw := w.isLt
      have := hh g ⟨w.val / 8, by omega⟩ ⟨w.val % 8, by omega⟩
      rw [e _ _ ⟨w.val / 8, by omega⟩ (128 * (w.val % 8) + l.val) (by omega) (by simp only; omega)]
      exact this

end Cert.RotClaimsAlone

end
-- ==== Proof.ClaimsAlone.lean ====
/- The claims of `project` alone, one theorem each. -/
module

public import proofs.«01_k».proof.Defs
public import proofs.«01_k».proof.Proof.Gen.Project
public import proofs.«01_k».proof.Proof.Gen.Project.Frame
public import proofs.«01_k».proof.Proof.Gen.Pre_history_f32
public import proofs.«01_k».proof.Proof.AlgebraAlone
public import Idealize.ShloMosaic.Adequacy
public import Idealize.ShloMosaic.Init

@[expose] public section

set_option maxRecDepth 16384

noncomputable section

open Idealize.ShloMosaic Idealize.ShloMosaic.TcCoe Idealize.SL.Sem Idealize.ShloMosaic.ValueIdx

namespace Cert.ClaimsAlone

/-- The printed kernel runs, ends with its arguments unchanged and its semaphores at zero. -/
theorem frame_kernel : Cert.quiescent_Project := fun m ρ _ => Cert.Project.Gen.frame m ρ
/-- So does the kernel over the extended reals. -/
theorem frame_ideal : Cert.quiescent_ProjectIdeal := fun m ρ _ => Cert.ProjectIdeal.Gen.frame m ρ
/-- The same, from memories that meet the precondition. -/
theorem frame_ideal_pre : Cert.quiescent_ProjectIdeal_pre_history_f32 := fun m ρ _ => Cert.ProjectIdeal.Gen.frame m ρ
/-- The reference runs, ends with its arguments unchanged and its semaphores at zero. -/
theorem frame_reference : Cert.quiescent_ProjectReferenceIdeal := fun m ρ _ => Cert.ProjectReferenceIdeal.Gen.frame m ρ
/-- The same, from memories that meet the precondition. -/
theorem frame_reference_pre : Cert.quiescent_ProjectReferenceIdeal_pre_history_f32 := fun m ρ _ => Cert.ProjectReferenceIdeal.Gen.frame m ρ

/-- The precondition says of each history entry that its magnitude is at most the greatest float. -/
theorem history_bound (x0 : FVec Ideal Cert.Pre_history_f32.S256x12288 .fp8e4m3) (h : FVec Ideal Cert.Pre_history_f32.S16 .f32) (x2 : FVec Ideal Cert.Pre_history_f32.S8x128 .f32)
    (x3 : FVec Ideal Cert.Pre_history_f32.S12288x2880 .fp8e4m3) (x4 : FVec Ideal Cert.Pre_history_f32.S2880 .f32)
    (e : Cert.Pre_history_f32.fn (F := Ideal) x0 h x2 x3 x4 = fun _ => 1#1) (k : Fin 16) :
    (max (h (ix1 k) : EReal) (-(h (ix1 k) : EReal))) ≤ Ideal.ofBits .f32 0x7F7FFFFF#32 := by
  have e' : Ideal.cmp .ole (max (h (ix1 k) : EReal) (-(h (ix1 k) : EReal))) (Ideal.ofBits .f32 0x7F7FFFFF#32) = 1#1 := congrFun e (ix1 k)
  by_contra hc
  simp [Ideal.cmp, hc] at e'

/-- The idealization rewrites nothing. -/
theorem preserves : Cert.preserves_Project_ProjectIdeal := trivial

/-- Over the extended reals the kernel's three results are the reference's. -/
theorem algebraic : Cert.algebraic_ProjectIdeal_ProjectReferenceIdeal_pre_history_f32 := by
  intro m ρ m' ρ' hpre hagree
  refine ⟨_, _, _, Cert.ProjectIdeal.Value.run (F := Ideal) m ρ, ?_⟩
  refine (θ_run Cert.ProjectReferenceIdeal.defs _ _).mono (fun r h c => ?_) (Cert.ProjectReferenceIdeal.Value.run (F := Ideal) m' ρ')
  obtain ⟨h0, h1, h2, hk⟩ := h c
  obtain ⟨a0, a1, a2, a3, a4⟩ := hagree c
  have hs := AlgebraAlone.ref_scale _ (history_bound _ _ _ _ _ (hpre c))
  refine ⟨h0.trans ?_, h1.trans ?_, h2.trans ?_, hk⟩
  · rw [Cert.ProjectReferenceIdeal.Value.V_v20, Cert.ProjectReferenceIdeal.Value.V_v21, a0, a1, a3, a4]
    refine (AlgebraAlone.out_eq m c _ _ _ ?_).symm
    refine Eq.trans ?_ hs
    exact congrArg (Cert.ProjectReferenceIdeal.Value.rscale (F := Ideal) _) (funext fun a => a.elim0)
  · rw [Cert.ProjectReferenceIdeal.Value.V_v15, a1]
    funext i
    refine Eq.trans ?_ hs
    exact congrArg (Cert.ProjectReferenceIdeal.Value.rscale (F := Ideal) _) (funext fun a => a.elim0)
  · rw [Cert.ProjectReferenceIdeal.Value.V_v19, a1, a2]
    rw [AlgebraAlone.pay3_eq]
    exact (AlgebraAlone.shift_eq _ _).symm

end Cert.ClaimsAlone

end
-- ==== Proof.lean ====
/- Everything the certificate claims, from the theorems of Proof/Claims.lean (the whole kernel),
   Proof/RotClaimsAlone.lean (`rotate` alone) and Proof/ClaimsAlone.lean (`project` alone). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.Gen.Rotate
public import proofs.«01_k».proof.Proof.Gen.Rotate.Skeleton
public import proofs.«01_k».proof.Proof.Gen.Rotate.Launch
public import proofs.«01_k».proof.Proof.Gen.Rotate.Points
public import proofs.«01_k».proof.Proof.Gen.Rotate.Frame
public import proofs.«01_k».proof.Proof.Gen.RotateIdeal
public import proofs.«01_k».proof.Proof.Gen.RotateIdeal.Skeleton
public import proofs.«01_k».proof.Proof.Gen.RotateIdeal.Launch
public import proofs.«01_k».proof.Proof.Gen.RotateIdeal.Points
public import proofs.«01_k».proof.Proof.Gen.RotateIdeal.Frame
public import proofs.«01_k».proof.Proof.Gen.RotateIdeal.Value
public import proofs.«01_k».proof.Proof.Gen.RotateReferenceIdeal
public import proofs.«01_k».proof.Proof.Gen.RotateReferenceIdeal.Run
public import proofs.«01_k».proof.Proof.Gen.Pre_x_finite_history_f32
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.ProjectReferenceIdeal.Skeleton
public import proofs.«01_k».proof.Proof.Gen.ProjectReferenceIdeal.Launch
public import proofs.«01_k».proof.Proof.Gen.ProjectReferenceIdeal.Points
public import proofs.«01_k».proof.Proof.Gen.ProjectReferenceIdeal.Frame
public import proofs.«01_k».proof.Proof.Gen.ProjectIdeal.Value
public import proofs.«01_k».proof.Proof.Gen.ProjectReferenceIdeal.Value
public import proofs.«01_k».proof.Proof.Gen.Pre_history_f32
public import proofs.«01_k».proof.Proof.Claims
public import proofs.«01_k».proof.Proof.RotClaimsAlone
public import proofs.«01_k».proof.Proof.ClaimsAlone
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Rotate.Gen.facts,
  Cert.RotateIdeal.Gen.facts, Cert.RotateReferenceIdeal.Gen.facts, Cert.Project.Gen.facts, Cert.ProjectIdeal.Gen.facts,
  Cert.ProjectReferenceIdeal.Gen.facts, Cert.Pre_finite.Gen.facts, Cert.Pre_x_finite_history_f32.Gen.facts, Cert.Pre_history_f32.Gen.facts,
  Claims.frame_kernel, Claims.frame_ideal, Claims.frame_ideal_pre, Claims.frame_reference, Claims.frame_reference_pre,
  RotClaimsAlone.frame_kernel, RotClaimsAlone.frame_ideal, RotClaimsAlone.frame_ideal_pre, RotClaimsAlone.frame_reference,
  RotClaimsAlone.frame_reference_pre, ClaimsAlone.frame_kernel, ClaimsAlone.frame_ideal, ClaimsAlone.frame_ideal_pre,
  ClaimsAlone.frame_reference, ClaimsAlone.frame_reference_pre, Claims.preserves, Claims.algebraic, RotClaimsAlone.preserves,
  RotClaimsAlone.algebraic, ClaimsAlone.preserves, ClaimsAlone.algebraic⟩

end Cert.Proof

end
